-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_ok [hPre_boxes_ok : Cert.Pre_boxes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_ok [hPre_boxes_ok : Cert.Pre_boxes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_ok [hKernelIdeal : Cert.KernelIdeal.Facts] [hPre_boxes_ok : Cert.Pre_boxes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_ok [hReferenceIdeal : Cert.ReferenceIdeal.Facts] [hPre_boxes_ok : Cert.Pre_boxes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ths" .f32 0x3E9EE584#32 ((7549747 / 24326963 : ℝ) : EReal)

def algebraic_KernelIdeal_ReferenceIdeal_pre_boxes_ok [hKernelIdeal : Cert.KernelIdeal.Facts] [hReferenceIdeal : Cert.ReferenceIdeal.Facts] [hPre_boxes_ok : Cert.Pre_boxes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_ok : Cert.Pre_boxes_ok.Facts),
    quiescent_Kernel (hKernel := hKernel)
    ∧ quiescent_KernelIdeal (hKernelIdeal := hKernelIdeal)
    ∧ quiescent_KernelIdeal_pre_boxes_ok (hKernelIdeal := hKernelIdeal) (hPre_boxes_ok := hPre_boxes_ok)
    ∧ quiescent_ReferenceIdeal (hReferenceIdeal := hReferenceIdeal)
    ∧ quiescent_ReferenceIdeal_pre_boxes_ok (hReferenceIdeal := hReferenceIdeal) (hPre_boxes_ok := hPre_boxes_ok)
    ∧ preserves_Kernel_KernelIdeal
    ∧ algebraic_KernelIdeal_ReferenceIdeal_pre_boxes_ok (hKernelIdeal := hKernelIdeal) (hReferenceIdeal := hReferenceIdeal) (hPre_boxes_ok := hPre_boxes_ok)
-- ==== Pre_boxes_ok.lean ====
abbrev S4x5000x2 : Shape := ⟨3, ![4, 5000, 2]⟩
abbrev S4x5000x11 : Shape := ⟨3, ![4, 5000, 11]⟩
abbrev S5000x2 : Shape := ⟨2, ![5000, 2]⟩
abbrev S5000x1 : Shape := ⟨2, ![5000, 1]⟩
abbrev S5000 : Shape := ⟨1, ![5000]⟩
abbrev S1x5000 : Shape := ⟨2, ![1, 5000]⟩
abbrev S4x5000x1 : Shape := ⟨3, ![4, 5000, 1]⟩
abbrev S4x5000 : Shape := ⟨2, ![4, 5000]⟩
abbrev S_ : Shape := ⟨0, ![]⟩

class Facts : Prop where
  slices_S5000x2_S5000x1_0_0 : S5000x2.Slices ![0, 0] S5000x1
  shapeCasts_S5000x1_S5000 : S5000x1.ShapeCasts S5000
  bcast_S5000_S1x5000_1 : S5000.BroadcastsInDim S1x5000 (![1] : Fin 1 → Fin S1x5000.rank)
  slices_S4x5000x2_S4x5000x1_0_0_0 : S4x5000x2.Slices ![0, 0, 0] S4x5000x1
  shapeCasts_S4x5000x1_S4x5000 : S4x5000x1.ShapeCasts S4x5000
  bcast_S_S4x5000 : S_.BroadcastsInDim S4x5000 (![] : Fin 0 → Fin S4x5000.rank)
  slices_S5000x2_S5000x1_0_1 : S5000x2.Slices ![0, 1] S5000x1
  bcast_S1x5000_S4x5000_0_1 : S1x5000.BroadcastsInDim S4x5000 (![0, 1] : Fin 2 → Fin S4x5000.rank)
  slices_S4x5000x2_S4x5000x1_0_0_1 : S4x5000x2.Slices ![0, 0, 1] S4x5000x1
  reducesTo_S4x5000_S_d0_1 : S4x5000.ReducesTo [0, 1] S_
  h_S_ : 0 < S_.numel

variable [Facts]

def fn_part1 {F : FTy → Type} [FloatOps F] (main_v13 : FVec F S4x5000 .f32) (main_v16 : FVec F S1x5000 .f32) (main_v21 : FVec F S4x5000 .f32) : IVec S_ 1 :=
  let main_v22 : FVec F S4x5000 .f32 := broadcastInDim S4x5000 ![0, 1] bcast_S1x5000_S4x5000_0_1 main_v16
  let main_v23 : FVec F S4x5000 .f32 := mulf main_v22 main_v21
  let main_cst_1 : FVec F S_ .f32 := constant S_ .f32 0x40000000#32
  let main_v24 : FVec F S4x5000 .f32 := broadcastInDim S4x5000 ![] bcast_S_S4x5000 main_cst_1
  let main_v25 : FVec F S4x5000 .f32 := Host.divf main_v23 main_v24
  let main_v26 : FVec F S4x5000 .f32 := subf main_v13 main_v25
  let main_cst_2 : FVec F S_ .f32 := constant S_ .f32 0x40000000#32
  let main_v27 : FVec F S4x5000 .f32 := broadcastInDim S4x5000 ![] bcast_S_S4x5000 main_cst_2
  let main_v28 : FVec F S4x5000 .f32 := Host.divf main_v23 main_v27
  let main_v29 : FVec F S4x5000 .f32 := addf main_v13 main_v28
  let main_v30 : FVec F S4x5000 .f32 := subf main_v29 main_v26
  let main_cst_3 : FVec F S_ .f32 := constant S_ .f32 0x00000000#32
  let main_v31 : FVec F S4x5000 .f32 := broadcastInDim S4x5000 ![] bcast_S_S4x5000 main_cst_3
  let main_v32 : IVec S4x5000 1 := cmpf .ole main_v30 main_v31
  let main_v33 : FVec F S4x5000 .f32 := subf main_v29 main_v26
  let main_cst_4 : FVec F S_ .f32 := constant S_ .f32 0x3089705F#32
  let main_v34 : FVec F S4x5000 .f32 := broadcastInDim S4x5000 ![] bcast_S_S4x5000 main_cst_4
  let main_v35 : IVec S4x5000 1 := cmpf .oge main_v33 main_v34
  let main_v36 : IVec S4x5000 1 := ori main_v32 main_v35
  let main_c : IVec S_ 1 := constantI S_ 1 1#1
  let main_v37 : IVec S_ 1 := (fun x v => Host.reduce IntOp.andi x v reducesTo_S4x5000_S_d0_1 h_S_) main_v36 main_c
  main_v37

def fn {F : FTy → Type} [FloatOps F] (main_arg0 : FVec F S4x5000x2 .f32) (main_arg1 : FVec F S4x5000x11 .f32) (main_arg2 : FVec F S5000x2 .f32) : IVec S_ 1 :=
  let main_v0 : FVec F S5000x1 .f32 := (extractStridedSlice S5000x1 ![0, 0] · slices_S5000x2_S5000x1_0_0) main_arg2
  let main_v1 : FVec F S5000 .f32 := shapeCast S5000 main_v0 shapeCasts_S5000x1_S5000
  let main_v2 : FVec F S1x5000 .f32 := broadcastInDim S1x5000 ![1] bcast_S5000_S1x5000_1 main_v1
  let main_v3 : FVec F S4x5000x1 .f32 := (extractStridedSlice S4x5000x1 ![0, 0, 0] · slices_S4x5000x2_S4x5000x1_0_0_0) main_arg0
  let main_v4 : FVec F S4x5000 .f32 := shapeCast S4x5000 main_v3 shapeCasts_S4x5000x1_S4x5000
  let main_cst : FVec F S_ .f32 := constant S_ .f32 0x3DCCCCCD#32
  let main_v5 : FVec F S4x5000 .f32 := broadcastInDim S4x5000 ![] bcast_S_S4x5000 main_cst
  let main_v6 : FVec F S4x5000 .f32 := mulf main_v4 main_v5
  let main_v7 : FVec F S5000x1 .f32 := (extractStridedSlice S5000x1 ![0, 1] · slices_S5000x2_S5000x1_0_1) main_arg2
  let main_v8 : FVec F S5000 .f32 := shapeCast S5000 main_v7 shapeCasts_S5000x1_S5000
  let main_v9 : FVec F S1x5000 .f32 := broadcastInDim S1x5000 ![1] bcast_S5000_S1x5000_1 main_v8
  let main_v10 : FVec F S4x5000 .f32 := broadcastInDim S4x5000 ![0, 1] bcast_S1x5000_S4x5000_0_1 main_v9
  let main_v11 : FVec F S4x5000 .f32 := mulf main_v6 main_v10
  let main_v12 : FVec F S4x5000 .f32 := broadcastInDim S4x5000 ![0, 1] bcast_S1x5000_S4x5000_0_1 main_v2
  let main_v13 : FVec F S4x5000 .f32 := addf main_v12 main_v11
  let main_v14 : FVec F S5000x1 .f32 := (extractStridedSlice S5000x1 ![0, 1] · slices_S5000x2_S5000x1_0_1) main_arg2
  let main_v15 : FVec F S5000 .f32 := shapeCast S5000 main_v14 shapeCasts_S5000x1_S5000
  let main_v16 : FVec F S1x5000 .f32 := broadcastInDim S1x5000 ![1] bcast_S5000_S1x5000_1 main_v15
  let main_v17 : FVec F S4x5000x1 .f32 := (extractStridedSlice S4x5000x1 ![0, 0, 1] · slices_S4x5000x2_S4x5000x1_0_0_1) main_arg0
  let main_v18 : FVec F S4x5000 .f32 := shapeCast S4x5000 main_v17 shapeCasts_S4x5000x1_S4x5000
  let main_cst_0 : FVec F S_ .f32 := constant S_ .f32 0x3E4CCCCD#32
  let main_v19 : FVec F S4x5000 .f32 := broadcastInDim S4x5000 ![] bcast_S_S4x5000 main_cst_0
  let main_v20 : FVec F S4x5000 .f32 := mulf main_v18 main_v19
  let main_v21 : FVec F S4x5000 .f32 := Host.exp main_v20
  fn_part1 (F := F) main_v13 main_v16 main_v21
-- ==== Kernel.lean ====
abbrev S4x5000x2 : Shape := ⟨3, ![4, 5000, 2]⟩
abbrev S4x5000x11 : Shape := ⟨3, ![4, 5000, 11]⟩
abbrev S5000x2 : Shape := ⟨2, ![5000, 2]⟩
abbrev S5000x1 : Shape := ⟨2, ![5000, 1]⟩
abbrev S5000 : Shape := ⟨1, ![5000]⟩
abbrev S1x5000 : Shape := ⟨2, ![1, 5000]⟩
abbrev S4x5000x1 : Shape := ⟨3, ![4, 5000, 1]⟩
abbrev S4x5000 : Shape := ⟨2, ![4, 5000]⟩
abbrev S_ : Shape := ⟨0, ![]⟩
abbrev S4x5120 : Shape := ⟨2, ![4, 5120]⟩
abbrev S4x5120x1 : Shape := ⟨3, ![4, 5120, 1]⟩
abbrev S4x1x5120 : Shape := ⟨3, ![4, 1, 5120]⟩
abbrev S1x5120x1 : Shape := ⟨3, ![1, 5120, 1]⟩
abbrev S1x1x5120 : Shape := ⟨3, ![1, 1, 5120]⟩
abbrev S5120x1 : Shape := ⟨2, ![5120, 1]⟩
abbrev S1 : Shape := ⟨1, ![1]⟩
abbrev S1x1x1 : Shape := ⟨3, ![1, 1, 1]⟩
abbrev S5120x128 : Shape := ⟨2, ![5120, 128]⟩
abbrev S1x128 : Shape := ⟨2, ![1, 128]⟩
abbrev S5119x128 : Shape := ⟨2, ![5119, 128]⟩
abbrev S2x128 : Shape := ⟨2, ![2, 128]⟩
abbrev S5118x128 : Shape := ⟨2, ![5118, 128]⟩
abbrev S4x128 : Shape := ⟨2, ![4, 128]⟩
abbrev S5116x128 : Shape := ⟨2, ![5116, 128]⟩
abbrev S8x128 : Shape := ⟨2, ![8, 128]⟩
abbrev S5112x128 : Shape := ⟨2, ![5112, 128]⟩
abbrev S16x128 : Shape := ⟨2, ![16, 128]⟩
abbrev S5104x128 : Shape := ⟨2, ![5104, 128]⟩
abbrev S32x128 : Shape := ⟨2, ![32, 128]⟩
abbrev S5088x128 : Shape := ⟨2, ![5088, 128]⟩
abbrev S64x128 : Shape := ⟨2, ![64, 128]⟩
abbrev S5056x128 : Shape := ⟨2, ![5056, 128]⟩
abbrev S128x128 : Shape := ⟨2, ![128, 128]⟩
abbrev S4992x128 : Shape := ⟨2, ![4992, 128]⟩
abbrev S256x128 : Shape := ⟨2, ![256, 128]⟩
abbrev S4864x128 : Shape := ⟨2, ![4864, 128]⟩
abbrev S512x128 : Shape := ⟨2, ![512, 128]⟩
abbrev S4608x128 : Shape := ⟨2, ![4608, 128]⟩
abbrev S1024x128 : Shape := ⟨2, ![1024, 128]⟩
abbrev S4096x128 : Shape := ⟨2, ![4096, 128]⟩
abbrev S2048x128 : Shape := ⟨2, ![2048, 128]⟩
abbrev S3072x128 : Shape := ⟨2, ![3072, 128]⟩
abbrev S1x1 : Shape := ⟨2, ![1, 1]⟩
abbrev S1x127 : Shape := ⟨2, ![1, 127]⟩
abbrev S1x2 : Shape := ⟨2, ![1, 2]⟩
abbrev S1x126 : Shape := ⟨2, ![1, 126]⟩
abbrev S1x4 : Shape := ⟨2, ![1, 4]⟩
abbrev S1x124 : Shape := ⟨2, ![1, 124]⟩
abbrev S1x8 : Shape := ⟨2, ![1, 8]⟩
abbrev S1x120 : Shape := ⟨2, ![1, 120]⟩
abbrev S1x16 : Shape := ⟨2, ![1, 16]⟩
abbrev S1x112 : Shape := ⟨2, ![1, 112]⟩
abbrev S1x32 : Shape := ⟨2, ![1, 32]⟩
abbrev S1x96 : Shape := ⟨2, ![1, 96]⟩
abbrev S1x64 : Shape := ⟨2, ![1, 64]⟩
abbrev S5120 : Shape := ⟨1, ![5120]⟩
abbrev S40x128 : Shape := ⟨2, ![40, 128]⟩
abbrev S1x5120 : Shape := ⟨2, ![1, 5120]⟩
abbrev S4x5120x2 : Shape := ⟨3, ![4, 5120, 2]⟩
abbrev S4x5120x11 : Shape := ⟨3, ![4, 5120, 11]⟩
abbrev S5120x2 : Shape := ⟨2, ![5120, 2]⟩
abbrev S1x5120x2 : Shape := ⟨3, ![1, 5120, 2]⟩
abbrev S4x2x5120 : Shape := ⟨3, ![4, 2, 5120]⟩
abbrev S4x11x5120 : Shape := ⟨3, ![4, 11, 5120]⟩
abbrev S4x16x5120 : Shape := ⟨3, ![4, 16, 5120]⟩
abbrev S1x2x5120 : Shape := ⟨3, ![1, 2, 5120]⟩
abbrev S1x11x5120 : Shape := ⟨3, ![1, 11, 5120]⟩
abbrev S1x16x5120 : Shape := ⟨3, ![1, 16, 5120]⟩
abbrev S2x5120 : Shape := ⟨2, ![2, 5120]⟩
abbrev S11x5120 : Shape := ⟨2, ![11, 5120]⟩
abbrev S10x5120 : Shape := ⟨2, ![10, 5120]⟩
abbrev S6x5120 : Shape := ⟨2, ![6, 5120]⟩
abbrev S16x5120 : Shape := ⟨2, ![16, 5120]⟩
abbrev S4x5120x16 : Shape := ⟨3, ![4, 5120, 16]⟩
abbrev S4x2x40x128 : Shape := ⟨4, ![4, 2, 40, 128]⟩
abbrev S4x40x2x128 : Shape := ⟨4, ![4, 40, 2, 128]⟩
abbrev S4x16x40x128 : Shape := ⟨4, ![4, 16, 40, 128]⟩
abbrev S4x40x16x128 : Shape := ⟨4, ![4, 40, 16, 128]⟩
abbrev S4x40x8x128 : Shape := ⟨4, ![4, 40, 8, 128]⟩
abbrev S1x40x2x128 : Shape := ⟨4, ![1, 40, 2, 128]⟩
abbrev S1x40x16x128 : Shape := ⟨4, ![1, 40, 16, 128]⟩
abbrev S1x1024x2 : Shape := ⟨3, ![1, 1024, 2]⟩
abbrev S1x1024x16 : Shape := ⟨3, ![1, 1024, 16]⟩
abbrev S1x40x8x128 : Shape := ⟨4, ![1, 40, 8, 128]⟩
abbrev S10x1024x128 : Shape := ⟨3, ![10, 1024, 128]⟩
abbrev S40x16x128 : Shape := ⟨3, ![40, 16, 128]⟩
abbrev S96 : Shape := ⟨1, ![96]⟩
abbrev S1x1024x1 : Shape := ⟨3, ![1, 1024, 1]⟩
abbrev S1024x1 : Shape := ⟨2, ![1024, 1]⟩
abbrev S1x1024x128 : Shape := ⟨3, ![1, 1024, 128]⟩
abbrev S128x1 : Shape := ⟨2, ![128, 1]⟩
abbrev S1x128x1 : Shape := ⟨3, ![1, 128, 1]⟩
abbrev S1x1x1x128 : Shape := ⟨4, ![1, 1, 1, 128]⟩
abbrev S1x1x128 : Shape := ⟨3, ![1, 1, 128]⟩
abbrev S1x128x128 : Shape := ⟨3, ![1, 128, 128]⟩
abbrev S16x8x128 : Shape := ⟨3, ![16, 8, 128]⟩
abbrev S128 : Shape := ⟨1, ![128]⟩
abbrev S6x128 : Shape := ⟨2, ![6, 128]⟩
abbrev S1x16x128 : Shape := ⟨3, ![1, 16, 128]⟩
abbrev S1x1x16x128 : Shape := ⟨4, ![1, 1, 16, 128]⟩
abbrev S7x128 : Shape := ⟨2, ![7, 128]⟩
abbrev S1x1x8x128 : Shape := ⟨4, ![1, 1, 8, 128]⟩
abbrev S4x40x1x128 : Shape := ⟨4, ![4, 40, 1, 128]⟩
abbrev S4x40x128 : Shape := ⟨3, ![4, 40, 128]⟩
abbrev S4x5120x3 : Shape := ⟨3, ![4, 5120, 3]⟩
abbrev S4x5000x3 : Shape := ⟨3, ![4, 5000, 3]⟩

abbrev nBuf : Space → Nat
  | .hbm => 160
  | .vmem => 31
  | .smem => 1
  | _ => 0

abbrev hbmTy0_0 (i : Nat) : BufTy := match i % 128 with
  | 0 => ⟨S4x5000x2, .f32⟩
  | 1 => ⟨S4x5000x11, .f32⟩
  | 2 => ⟨S5000x2, .f32⟩
  | 3 => ⟨S5000x1, .f32⟩
  | 4 => ⟨S5000, .f32⟩
  | 5 => ⟨S1x5000, .f32⟩
  | 6 => ⟨S5000x1, .f32⟩
  | 7 => ⟨S5000, .f32⟩
  | 8 => ⟨S1x5000, .f32⟩
  | 9 => ⟨S4x5000x1, .f32⟩
  | 10 => ⟨S4x5000, .f32⟩
  | 11 => ⟨S_, .f32⟩
  | 12 => ⟨S4x5000, .f32⟩
  | 13 => ⟨S4x5000, .f32⟩
  | 14 => ⟨S4x5000, .f32⟩
  | 15 => ⟨S4x5000, .f32⟩
  | 16 => ⟨S4x5000, .f32⟩
  | 17 => ⟨S4x5000, .f32⟩
  | 18 => ⟨S_, .f32⟩
  | 19 => ⟨S1x5000, .f32⟩
  | 20 => ⟨S1x5000, .f32⟩
  | 21 => ⟨S4x5000x1, .f32⟩
  | 22 => ⟨S4x5000, .f32⟩
  | 23 => ⟨S_, .f32⟩
  | 24 => ⟨S4x5000, .f32⟩
  | 25 => ⟨S4x5000, .f32⟩
  | 26 => ⟨S4x5000, .f32⟩
  | 27 => ⟨S4x5000, .f32⟩
  | 28 => ⟨S4x5000, .f32⟩
  | 29 => ⟨S4x5000, .f32⟩
  | 30 => ⟨S_, .i32⟩
  | 31 => ⟨S_, .f32⟩
  | 32 => ⟨S4x5120, .f32⟩
  | 33 => ⟨S4x5120x1, .f32⟩
  | 34 => ⟨S4x5120x1, .i32⟩
  | 35 => ⟨S4x1x5120, .i32⟩
  | 36 => ⟨S4x5120, .i32⟩
  | 37 => ⟨S4x5120, .i32⟩
  | 38 => ⟨S_, .i32⟩
  | 39 => ⟨S_, .f32⟩
  | 40 => ⟨S4x5120x2, .f32⟩
  | 41 => ⟨S_, .i32⟩
  | 42 => ⟨S_, .f32⟩
  | 43 => ⟨S4x5120x11, .f32⟩
  | 44 => ⟨S_, .i32⟩
  | 45 => ⟨S_, .f32⟩
  | 46 => ⟨S5120x2, .f32⟩
  | 47 => ⟨S1x5120x2, .f32⟩
  | 48 => ⟨S4x5120x2, .f32⟩
  | 49 => ⟨S4x5120x1, .i32⟩
  | 50 => ⟨S_, .i32⟩
  | 51 => ⟨S4x5120x1, .i32⟩
  | 52 => ⟨S4x5120x1, .i1⟩
  | 53 => ⟨S_, .i32⟩
  | 54 => ⟨S4x5120x1, .i32⟩
  | 55 => ⟨S4x5120x1, .i32⟩
  | 56 => ⟨S4x5120x1, .i32⟩
  | 57 => ⟨S1, .i32⟩
  | 58 => ⟨S_, .i32⟩
  | 59 => ⟨S4x5120x1, .i32⟩
  | 60 => ⟨S4x5120x1, .i1⟩
  | 61 => ⟨S1x1x1, .i32⟩
  | 62 => ⟨S4x5120x1, .i32⟩
  | 63 => ⟨S4x5120x1, .i1⟩
  | 64 => ⟨S4x5120x1, .i1⟩
  | 65 => ⟨S_, .i1⟩
  | 66 => ⟨S4x5120, .i1⟩
  | 67 => ⟨S4x5120x2, .f32⟩
  | 68 => ⟨S4x5120x2, .i1⟩
  | 69 => ⟨S_, .f32⟩
  | 70 => ⟨S4x5120x2, .f32⟩
  | 71 => ⟨S4x5120x2, .f32⟩
  | 72 => ⟨S4x5120x1, .i32⟩
  | 73 => ⟨S_, .i32⟩
  | 74 => ⟨S4x5120x1, .i32⟩
  | 75 => ⟨S4x5120x1, .i1⟩
  | 76 => ⟨S_, .i32⟩
  | 77 => ⟨S4x5120x1, .i32⟩
  | 78 => ⟨S4x5120x1, .i32⟩
  | 79 => ⟨S4x5120x1, .i32⟩
  | 80 => ⟨S1, .i32⟩
  | 81 => ⟨S_, .i32⟩
  | 82 => ⟨S4x5120x1, .i32⟩
  | 83 => ⟨S4x5120x1, .i1⟩
  | 84 => ⟨S1x1x1, .i32⟩
  | 85 => ⟨S4x5120x1, .i32⟩
  | 86 => ⟨S4x5120x1, .i1⟩
  | 87 => ⟨S4x5120x1, .i1⟩
  | 88 => ⟨S_, .i1⟩
  | 89 => ⟨S4x5120, .i1⟩
  | 90 => ⟨S4x5120x11, .f32⟩
  | 91 => ⟨S4x5120x11, .i1⟩
  | 92 => ⟨S_, .f32⟩
  | 93 => ⟨S4x5120x11, .f32⟩
  | 94 => ⟨S4x5120x11, .f32⟩
  | 95 => ⟨S4x5120x1, .i32⟩
  | 96 => ⟨S_, .i32⟩
  | 97 => ⟨S4x5120x1, .i32⟩
  | 98 => ⟨S4x5120x1, .i1⟩
  | 99 => ⟨S_, .i32⟩
  | 100 => ⟨S4x5120x1, .i32⟩
  | 101 => ⟨S4x5120x1, .i32⟩
  | 102 => ⟨S4x5120x1, .i32⟩
  | 103 => ⟨S1, .i32⟩
  | 104 => ⟨S_, .i32⟩
  | 105 => ⟨S4x5120x1, .i32⟩
  | 106 => ⟨S4x5120x1, .i1⟩
  | 107 => ⟨S1x1x1, .i32⟩
  | 108 => ⟨S4x5120x1, .i32⟩
  | 109 => ⟨S4x5120x1, .i1⟩
  | 110 => ⟨S4x5120x1, .i1⟩
  | 111 => ⟨S_, .i1⟩
  | 112 => ⟨S4x5120, .i1⟩
  | 113 => ⟨S4x5120x2, .f32⟩
  | 114 => ⟨S4x5120x2, .i1⟩
  | 115 => ⟨S_, .f32⟩
  | 116 => ⟨S4x5120x2, .f32⟩
  | 117 => ⟨S4x5120x2, .f32⟩
  | 118 => ⟨S4x2x5120, .f32⟩
  | 119 => ⟨S4x11x5120, .f32⟩
  | 120 => ⟨S4x2x5120, .f32⟩
  | 121 => ⟨S4x2x5120, .f32⟩
  | 122 => ⟨S4x16x5120, .f32⟩
  | 123 => ⟨S4x5120x2, .f32⟩
  | 124 => ⟨S4x5120x16, .f32⟩
  | 125 => ⟨S4x2x40x128, .f32⟩
  | 126 => ⟨S4x40x2x128, .f32⟩
  | 127 => ⟨S4x16x40x128, .f32⟩
  | _ => ⟨S4x5000x2, .f32⟩

abbrev hbmTy0_1 (i : Nat) : BufTy := match i % 128 with
  | 0 => ⟨S4x40x16x128, .f32⟩
  | 1 => ⟨S4x40x8x128, .f32⟩
  | 2 => ⟨S4x5120x2, .f32⟩
  | 3 => ⟨S4x40x1x128, .f32⟩
  | 4 => ⟨S4x40x128, .f32⟩
  | 5 => ⟨S4x5120, .f32⟩
  | 6 => ⟨S4x5120x1, .f32⟩
  | 7 => ⟨S4x5120x3, .f32⟩
  | 8 => ⟨S4x5000, .i32⟩
  | 9 => ⟨S4x5000x1, .i32⟩
  | 10 => ⟨S_, .i32⟩
  | 11 => ⟨S4x5000x1, .i32⟩
  | 12 => ⟨S4x5000x1, .i1⟩
  | 13 => ⟨S_, .i32⟩
  | 14 => ⟨S4x5000x1, .i32⟩
  | 15 => ⟨S4x5000x1, .i32⟩
  | 16 => ⟨S4x5000x1, .i32⟩
  | 17 => ⟨S1, .i32⟩
  | 18 => ⟨S_, .i32⟩
  | 19 => ⟨S4x5000x1, .i32⟩
  | 20 => ⟨S4x5000x1, .i1⟩
  | 21 => ⟨S1x1x1, .i32⟩
  | 22 => ⟨S4x5000x1, .i32⟩
  | 23 => ⟨S4x5000x1, .i1⟩
  | 24 => ⟨S4x5000x1, .i1⟩
  | 25 => ⟨S_, .i1⟩
  | 26 => ⟨S4x5000, .i1⟩
  | 27 => ⟨S4x5000x3, .f32⟩
  | 28 => ⟨S4x5000x3, .i1⟩
  | 29 => ⟨S_, .f32⟩
  | 30 => ⟨S4x5000x3, .f32⟩
  | 31 => ⟨S4x5000x3, .f32⟩
  | _ => ⟨S4x5000x2, .f32⟩

abbrev hbmTy (i : Nat) : BufTy := match i / 128 with
  | 0 => hbmTy0_0 i
  | 1 => hbmTy0_1 i
  | _ => ⟨S4x5000x2, .f32⟩

abbrev bufTy : (tb : Table) → Fin (tcTables nBuf tb) → BufTy
  | .hbm, ⟨i, _⟩ => hbmTy i
  | .local _ .vmem, ⟨0, _⟩ => ⟨S1x5120x1, .f32⟩
  | .local _ .vmem, ⟨1, _⟩ => ⟨S1x5120x1, .f32⟩
  | .local _ .vmem, ⟨2, _⟩ => ⟨S1x5120x1, .i32⟩
  | .local _ .vmem, ⟨3, _⟩ => ⟨S1x5120x1, .i32⟩
  | .local _ .vmem, ⟨4, _⟩ => ⟨S1x1x5120, .i32⟩
  | .local _ .vmem, ⟨5, _⟩ => ⟨S1x1x5120, .i32⟩
  | .local _ .vmem, ⟨6, _⟩ => ⟨S1x2x5120, .f32⟩
  | .local _ .vmem, ⟨7, _⟩ => ⟨S1x2x5120, .f32⟩
  | .local _ .vmem, ⟨8, _⟩ => ⟨S1x11x5120, .f32⟩
  | .local _ .vmem, ⟨9, _⟩ => ⟨S1x11x5120, .f32⟩
  | .local _ .vmem, ⟨10, _⟩ => ⟨S1x2x5120, .f32⟩
  | .local _ .vmem, ⟨11, _⟩ => ⟨S1x2x5120, .f32⟩
  | .local _ .vmem, ⟨12, _⟩ => ⟨S1x2x5120, .f32⟩
  | .local _ .vmem, ⟨13, _⟩ => ⟨S1x2x5120, .f32⟩
  | .local _ .vmem, ⟨14, _⟩ => ⟨S1x16x5120, .f32⟩
  | .local _ .vmem, ⟨15, _⟩ => ⟨S1x16x5120, .f32⟩
  | .local _ .vmem, ⟨16, _⟩ => ⟨S1x40x2x128, .f32⟩
  | .local _ .vmem, ⟨17, _⟩ => ⟨S1x40x2x128, .f32⟩
  | .local _ .vmem, ⟨18, _⟩ => ⟨S1x40x16x128, .f32⟩
  | .local _ .vmem, ⟨19, _⟩ => ⟨S1x40x16x128, .f32⟩
  | .local _ .vmem, ⟨20, _⟩ => ⟨S1x1024x2, .f32⟩
  | .local _ .vmem, ⟨21, _⟩ => ⟨S1x1024x2, .f32⟩
  | .local _ .vmem, ⟨22, _⟩ => ⟨S1x1024x16, .f32⟩
  | .local _ .vmem, ⟨23, _⟩ => ⟨S1x1024x16, .f32⟩
  | .local _ .vmem, ⟨24, _⟩ => ⟨S1x40x8x128, .f32⟩
  | .local _ .vmem, ⟨25, _⟩ => ⟨S1x40x8x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S10x1024x128, .f32⟩
  | .local _ .vmem, ⟨30, _⟩ => ⟨S40x16x128, .f32⟩
  | .local _ .smem, ⟨0, _⟩ => ⟨S96, .f32⟩
  | _, _ => ⟨S4x5000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_call1_v0 : Ref sig .tc := ⟨.hbm, 39, rfl⟩
abbrev main_v29 : Ref sig .tc := ⟨.hbm, 40, rfl⟩
abbrev main_c_3 : Ref sig .tc := ⟨.hbm, 41, rfl⟩
abbrev main_call2_v0 : Ref sig .tc := ⟨.hbm, 42, rfl⟩
abbrev main_v30 : Ref sig .tc := ⟨.hbm, 43, rfl⟩
abbrev main_c_4 : Ref sig .tc := ⟨.hbm, 44, rfl⟩
abbrev main_call3_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call4_c : Ref sig .tc := ⟨.hbm, 50, rfl⟩
abbrev main_call4_v0 : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_c_2 : Ref sig .tc := ⟨.hbm, 58, rfl⟩
abbrev main_call4_v5 : Ref sig .tc := ⟨.hbm, 59, rfl⟩
abbrev main_call4_v6 : Ref sig .tc := ⟨.hbm, 60, rfl⟩
abbrev main_call4_v7 : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_c_3 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_cst : Ref sig .tc := ⟨.hbm, 69, rfl⟩
abbrev main_call4_v14 : Ref sig .tc := ⟨.hbm, 70, rfl⟩
abbrev main_v35 : Ref sig .tc := ⟨.hbm, 71, rfl⟩
abbrev main_v36 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_call5_c_0 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_c_1 : Ref sig .tc := ⟨.hbm, 80, rfl⟩
abbrev main_call5_c_2 : Ref sig .tc := ⟨.hbm, 81, rfl⟩
abbrev main_call5_v5 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_c_3 : Ref sig .tc := ⟨.hbm, 88, rfl⟩
abbrev main_call5_v11 : Ref sig .tc := ⟨.hbm, 89, rfl⟩
abbrev main_call5_v12 : Ref sig .tc := ⟨.hbm, 90, rfl⟩
abbrev main_call5_v13 : Ref sig .tc := ⟨.hbm, 91, rfl⟩
abbrev main_call5_cst : Ref sig .tc := ⟨.hbm, 92, rfl⟩
abbrev main_call5_v14 : Ref sig .tc := ⟨.hbm, 93, rfl⟩
abbrev main_v37 : Ref sig .tc := ⟨.hbm, 94, rfl⟩
abbrev main_v38 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_c_1 : Ref sig .tc := ⟨.hbm, 103, rfl⟩
abbrev main_call6_c_2 : Ref sig .tc := ⟨.hbm, 104, rfl⟩
abbrev main_call6_v5 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_c_3 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_cst : Ref sig .tc := ⟨.hbm, 115, rfl⟩
abbrev main_call6_v14 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43_0 : Ref sig .tc := ⟨.hbm, 121, rfl⟩
abbrev main_v43_1 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_call7_c : Ref sig .tc := ⟨.hbm, 138, rfl⟩
abbrev main_call7_v0 : Ref sig .tc := ⟨.hbm, 139, rfl⟩
abbrev main_call7_v1 : Ref sig .tc := ⟨.hbm, 140, rfl⟩
abbrev main_call7_c_0 : Ref sig .tc := ⟨.hbm, 141, rfl⟩
abbrev main_call7_v2 : Ref sig .tc := ⟨.hbm, 142, rfl⟩
abbrev main_call7_v3 : Ref sig .tc := ⟨.hbm, 143, rfl⟩
abbrev main_call7_v4 : Ref sig .tc := ⟨.hbm, 144, rfl⟩
abbrev main_call7_c_1 : Ref sig .tc := ⟨.hbm, 145, rfl⟩
abbrev main_call7_c_2 : Ref sig .tc := ⟨.hbm, 146, rfl⟩
abbrev main_call7_v5 : Ref sig .tc := ⟨.hbm, 147, rfl⟩
abbrev main_call7_v6 : Ref sig .tc := ⟨.hbm, 148, rfl⟩
abbrev main_call7_v7 : Ref sig .tc := ⟨.hbm, 149, rfl⟩
abbrev main_call7_v8 : Ref sig .tc := ⟨.hbm, 150, rfl⟩
abbrev main_call7_v9 : Ref sig .tc := ⟨.hbm, 151, rfl⟩
abbrev main_call7_v10 : Ref sig .tc := ⟨.hbm, 152, rfl⟩
abbrev main_call7_c_3 : Ref sig .tc := ⟨.hbm, 153, rfl⟩
abbrev main_call7_v11 : Ref sig .tc := ⟨.hbm, 154, rfl⟩
abbrev main_call7_v12 : Ref sig .tc := ⟨.hbm, 155, rfl⟩
abbrev main_call7_v13 : Ref sig .tc := ⟨.hbm, 156, rfl⟩
abbrev main_call7_cst : Ref sig .tc := ⟨.hbm, 157, rfl⟩
abbrev main_call7_v14 : Ref sig .tc := ⟨.hbm, 158, rfl⟩
abbrev main_v59 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc2_scratch1 : Ref sig .tc := ⟨.vmem, 27, rfl⟩
abbrev cc2_scratch2 : Ref sig .tc := ⟨.vmem, 28, rfl⟩
abbrev cc2_scratch3 : Ref sig .tc := ⟨.vmem, 29, rfl⟩
abbrev cc2_scratch4 : Ref sig .tc := ⟨.vmem, 30, rfl⟩
abbrev cc2_scratch5 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5120x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5120x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5120 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x11x5120 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x5120 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x5120 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 5], ![false, false]⟩

@[reducible] def k2_t1_loop : Scf.Loop 32 :=
  let c0_i32_83 : BitVec 32 := 0#32
  let c40_i32 : BitVec 32 := 40#32
  let v203 : BitVec 32 := Scalar.addi c0_i32_83 c40_i32
  let c1_i32 : BitVec 32 := 1#32
  ⟨c0_i32_83, v203, c1_i32⟩
def k2_off1 (k2_t1 : Fin k2_t1_loop.trips) : Fin 1 → Nat :=
  let c2_i32 : BitVec 32 := 2#32
  let c0_i32_83 : BitVec 32 := 0#32
  let c1_i32 : BitVec 32 := 1#32
  let arg13 : BitVec 32 := Scf.iv c0_i32_83 c1_i32 k2_t1
  let v207 : BitVec 32 := Scalar.muli c2_i32 arg13
  let c1_i32_86 : BitVec 32 := 1#32
  let v208 : BitVec 32 := Scalar.addi v207 c1_i32_86
  let v209 : Index := Scalar.indexCast v208
  ![v209.toNat]
def k2_off2 (k2_t1 : Fin k2_t1_loop.trips) : Fin 1 → Nat :=
  let c2_i32_87 : BitVec 32 := 2#32
  let c0_i32_83 : BitVec 32 := 0#32
  let c1_i32 : BitVec 32 := 1#32
  let arg13 : BitVec 32 := Scf.iv c0_i32_83 c1_i32 k2_t1
  let v212 : BitVec 32 := Scalar.muli c2_i32_87 arg13
  let v213 : Index := Scalar.indexCast v212
  ![v213.toNat]
def k2_off3 (k2_t1 : Fin k2_t1_loop.trips) : Fin 4 → Nat :=
  let c0_89 : Index := 0#32
  let c0_i32_83 : BitVec 32 := 0#32
  let c1_i32 : BitVec 32 := 1#32
  let arg13 : BitVec 32 := Scf.iv c0_i32_83 c1_i32 k2_t1
  let v219 : Index := Scalar.indexCast arg13
  let c0_90 : Index := 0#32
  let c0_91 : Index := 0#32
  ![0, v219.toNat, 0, 0]
def k2_off4 (k2_t1 : Fin k2_t1_loop.trips) : Fin 4 → Nat :=
  let c0_92 : Index := 0#32
  let c0_i32_83 : BitVec 32 := 0#32
  let c1_i32 : BitVec 32 := 1#32
  let arg13 : BitVec 32 := Scf.iv c0_i32_83 c1_i32 k2_t1
  let v222 : Index := Scalar.indexCast arg13
  let c1_93 : Index := 1#32
  let c0_94 : Index := 0#32
  ![0, v222.toNat, 1, 0]
def k2_off5 (k2_t1 : Fin k2_t1_loop.trips) : Fin 1 → Nat :=
  let c2_i32_96 : BitVec 32 := 2#32
  let c0_i32_83 : BitVec 32 := 0#32
  let c1_i32 : BitVec 32 := 1#32
  let arg13 : BitVec 32 := Scf.iv c0_i32_83 c1_i32 k2_t1
  let v228 : BitVec 32 := Scalar.muli c2_i32_96 arg13
  let v229 : Index := Scalar.indexCast v228
  ![v229.toNat]
def k2_off6 (k2_t1 : Fin k2_t1_loop.trips) : Fin 1 → Nat :=
  let c2_i32_97 : BitVec 32 := 2#32
  let c0_i32_83 : BitVec 32 := 0#32
  let c1_i32 : BitVec 32 := 1#32
  let arg13 : BitVec 32 := Scf.iv c0_i32_83 c1_i32 k2_t1
  let v231 : BitVec 32 := Scalar.muli c2_i32_97 arg13
  let c1_i32_98 : BitVec 32 := 1#32
  let v232 : BitVec 32 := Scalar.addi v231 c1_i32_98
  let v233 : Index := Scalar.indexCast v232
  ![v233.toNat]
@[reducible] def k2_t2_loop : Scf.Loop 32 :=
  let c0_i32_109 : BitVec 32 := 0#32
  let c8_i32 : BitVec 32 := 8#32
  let v245 : BitVec 32 := Scalar.addi c0_i32_109 c8_i32
  let c1_i32_110 : BitVec 32 := 1#32
  ⟨c0_i32_109, v245, c1_i32_110⟩
def k2_off7 (k2_t2 : Fin k2_t2_loop.trips) : Fin 1 → Nat :=
  let c80_i32 : BitVec 32 := 80#32
  let c2_i32_127 : BitVec 32 := 2#32
  let c0_i32_109 : BitVec 32 := 0#32
  let c1_i32_110 : BitVec 32 := 1#32
  let arg14 : BitVec 32 := Scf.iv c0_i32_109 c1_i32_110 k2_t2
  let v277 : BitVec 32 := Scalar.muli c2_i32_127 arg14
  let v278 : BitVec 32 := Scalar.addi c80_i32 v277
  let v279 : Index := Scalar.indexCast v278
  ![v279.toNat]
def k2_off8 (k2_t2 : Fin k2_t2_loop.trips) : Fin 1 → Nat :=
  let c80_i32_129 : BitVec 32 := 80#32
  let c2_i32_128 : BitVec 32 := 2#32
  let c0_i32_109 : BitVec 32 := 0#32
  let c1_i32_110 : BitVec 32 := 1#32
  let arg14 : BitVec 32 := Scf.iv c0_i32_109 c1_i32_110 k2_t2
  let v282 : BitVec 32 := Scalar.muli c2_i32_128 arg14
  let v283 : BitVec 32 := Scalar.addi c80_i32_129 v282
  let c1_i32_130 : BitVec 32 := 1#32
  let v284 : BitVec 32 := Scalar.addi v283 c1_i32_130
  let v285 : Index := Scalar.indexCast v284
  ![v285.toNat]
def k2_off9 (k2_t2 : Fin k2_t2_loop.trips) : Fin 2 → Nat :=
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v293 : Index := Scalar.indexCast v292
  let c0_132 : Index := 0#32
  ![v293.toNat, 0]
def k2_off10 (k2_t2 : Fin k2_t2_loop.trips) : Fin 3 → Nat :=
  let c0_137 : Index := 0#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v310 : Index := Scalar.indexCast v292
  let c0_138 : Index := 0#32
  ![0, v310.toNat, 0]
def k2_off11 (k2_t2 : Fin k2_t2_loop.trips) : Fin 3 → Nat :=
  let c1_140 : Index := 1#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v317 : Index := Scalar.indexCast v292
  let c0_141 : Index := 0#32
  ![1, v317.toNat, 0]
def k2_off12 (k2_t2 : Fin k2_t2_loop.trips) : Fin 3 → Nat :=
  let c2_143 : Index := 2#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v324 : Index := Scalar.indexCast v292
  let c0_144 : Index := 0#32
  ![2, v324.toNat, 0]
def k2_off13 (k2_t2 : Fin k2_t2_loop.trips) : Fin 3 → Nat :=
  let c3_146 : Index := 3#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v331 : Index := Scalar.indexCast v292
  let c0_147 : Index := 0#32
  ![3, v331.toNat, 0]
def k2_off14 (k2_t2 : Fin k2_t2_loop.trips) : Fin 3 → Nat :=
  let c4_149 : Index := 4#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v338 : Index := Scalar.indexCast v292
  let c0_150 : Index := 0#32
  ![4, v338.toNat, 0]
def k2_off15 (k2_t2 : Fin k2_t2_loop.trips) : Fin 3 → Nat :=
  let c5_152 : Index := 5#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v345 : Index := Scalar.indexCast v292
  let c0_153 : Index := 0#32
  ![5, v345.toNat, 0]
def k2_off16 (k2_t2 : Fin k2_t2_loop.trips) : Fin 3 → Nat :=
  let c6_155 : Index := 6#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v352 : Index := Scalar.indexCast v292
  let c0_156 : Index := 0#32
  ![6, v352.toNat, 0]
def k2_off17 (k2_t2 : Fin k2_t2_loop.trips) : Fin 3 → Nat :=
  let c7_158 : Index := 7#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v359 : Index := Scalar.indexCast v292
  let c0_159 : Index := 0#32
  ![7, v359.toNat, 0]
def k2_off18 (k2_t2 : Fin k2_t2_loop.trips) : Fin 3 → Nat :=
  let c8_161 : Index := 8#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v366 : Index := Scalar.indexCast v292
  let c0_162 : Index := 0#32
  ![8, v366.toNat, 0]
def k2_off19 (k2_t2 : Fin k2_t2_loop.trips) : Fin 3 → Nat :=
  let c9_164 : Index := 9#32
  let c0_i32_109 : BitVec 32 := 0#32
  let c1_i32_110 : BitVec 32 := 1#32
  let arg14 : BitVec 32 := Scf.iv c0_i32_109 c1_i32_110 k2_t2
  let c128_i32 : BitVec 32 := 128#32
  let v292 : BitVec 32 := Scalar.muli arg14 c128_i32
  let v373 : Index := Scalar.indexCast v292
  let c0_165 : Index := 0#32
  ![9, v373.toNat, 0]
def k2_off20 (k2_t1 : Fin k2_t1_loop.trips) : Fin 3 → Nat :=
  let c0_i32_83 : BitVec 32 := 0#32
  let c1_i32 : BitVec 32 := 1#32
  let arg13 : BitVec 32 := Scf.iv c0_i32_83 c1_i32 k2_t1
  let v269 : Index := Scalar.indexCast arg13
  let c0_123 : Index := 0#32
  let c0_124 : Index := 0#32
  ![v269.toNat, 0, 0]
def k2_cond4 (i : grid2.Coords) : BitVec 1 :=
  let arg1 : BitVec 32 := BitVec.ofNat 32 (i 1).val
  let c4_i32 : BitVec 32 := 4#32
  let v204 : BitVec 1 := Scalar.cmpi .eq arg1 c4_i32
  let v205 : BitVec 32 := Scalar.extui v204
  let c0_i32_85 : BitVec 32 := 0#32
  let v206 : BitVec 1 := Scalar.cmpi .ne v205 c0_i32_85
  v206

@[reducible] def k2_t3_loop : Scf.Loop 32 :=
  let c0_i32_86 : BitVec 32 := 0#32
  let c40_i32_87 : BitVec 32 := 40#32
  let v207 : BitVec 32 := Scalar.addi c0_i32_86 c40_i32_87
  let c1_i32_88 : BitVec 32 := 1#32
  ⟨c0_i32_86, v207, c1_i32_88⟩
def k2_off21 (k2_t3 : Fin k2_t3_loop.trips) : Fin 3 → Nat :=
  let c0_i32_86 : BitVec 32 := 0#32
  let c1_i32_88 : BitVec 32 := 1#32
  let arg13 : BitVec 32 := Scf.iv c0_i32_86 c1_i32_88 k2_t3
  let v208 : Index := Scalar.indexCast arg13
  let c0_90 : Index := 0#32
  let c0_91 : Index := 0#32
  ![v208.toNat, 0, 0]
def k2_off22 (k2_t3 : Fin k2_t3_loop.trips) : Fin 4 → Nat :=
  let c0_92 : Index := 0#32
  let c0_i32_86 : BitVec 32 := 0#32
  let c1_i32_88 : BitVec 32 := 1#32
  let arg13 : BitVec 32 := Scf.iv c0_i32_86 c1_i32_88 k2_t3
  let v211 : Index := Scalar.indexCast arg13
  let c0_93 : Index := 0#32
  let c0_94 : Index := 0#32
  ![0, v211.toNat, 0, 0]
def k2_off23 (k2_t3 : Fin k2_t3_loop.trips) : Fin 4 → Nat :=
  let c0_97 : Index := 0#32
  let c0_i32_86 : BitVec 32 := 0#32
  let c1_i32_88 : BitVec 32 := 1#32
  let arg13 : BitVec 32 := Scf.iv c0_i32_86 c1_i32_88 k2_t3
  let v219 : Index := Scalar.indexCast arg13
  let c0_98 : Index := 0#32
  let c0_99 : Index := 0#32
  ![0, v219.toNat, 0, 0]
def k2_off24 (k2_t3 : Fin k2_t3_loop.trips) : Fin 4 → Nat :=
  let c0_100 : Index := 0#32
  let c0_i32_86 : BitVec 32 := 0#32
  let c1_i32_88 : BitVec 32 := 1#32
  let arg13 : BitVec 32 := Scf.iv c0_i32_86 c1_i32_88 k2_t3
  let v222 : Index := Scalar.indexCast arg13
  let c1_101 : Index := 1#32
  let c0_102 : Index := 0#32
  ![0, v222.toNat, 1, 0]
def k2_off25 (k2_t3 : Fin k2_t3_loop.trips) : Fin 4 → Nat :=
  let c0_107 : Index := 0#32
  let c0_i32_86 : BitVec 32 := 0#32
  let c1_i32_88 : BitVec 32 := 1#32
  let arg13 : BitVec 32 := Scf.iv c0_i32_86 c1_i32_88 k2_t3
  let v234 : Index := Scalar.indexCast arg13
  let c0_108 : Index := 0#32
  let c0_109 : Index := 0#32
  ![0, v234.toNat, 0, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x40x2x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x40x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x40x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]
-- ==== KernelIdeal.lean ====
variable {F : FTy → Type} [FloatOps F] [Named F]
def κ : String → Option EReal := fun
  | "ths" => some ((7549747 / 24326963 : ℝ) : EReal)
  | _ => none
-- ==== ReferenceIdeal.lean ====
abbrev S4x5000x2 : Shape := ⟨3, ![4, 5000, 2]⟩
abbrev S4x5000x11 : Shape := ⟨3, ![4, 5000, 11]⟩
abbrev S5000x2 : Shape := ⟨2, ![5000, 2]⟩
abbrev S_ : Shape := ⟨0, ![]⟩
abbrev S4x5000 : Shape := ⟨2, ![4, 5000]⟩
abbrev S4x5000x1 : Shape := ⟨3, ![4, 5000, 1]⟩
abbrev S5000x1 : Shape := ⟨2, ![5000, 1]⟩
abbrev S5000 : Shape := ⟨1, ![5000]⟩
abbrev S1x5000 : Shape := ⟨2, ![1, 5000]⟩
abbrev S4x1x5000 : Shape := ⟨3, ![4, 1, 5000]⟩
abbrev S4x5000x5000 : Shape := ⟨3, ![4, 5000, 5000]⟩
abbrev S4x11x5000 : Shape := ⟨3, ![4, 11, 5000]⟩
abbrev S4x10x5000 : Shape := ⟨3, ![4, 10, 5000]⟩
abbrev S4x10x1x5000 : Shape := ⟨4, ![4, 10, 1, 5000]⟩
abbrev S4x10x5000x1 : Shape := ⟨4, ![4, 10, 5000, 1]⟩
abbrev S4x10x5000x5000 : Shape := ⟨4, ![4, 10, 5000, 5000]⟩
abbrev S4x1x5000x5000 : Shape := ⟨4, ![4, 1, 5000, 5000]⟩
abbrev S4x5000x3 : Shape := ⟨3, ![4, 5000, 3]⟩

abbrev nBuf : Space → Nat
  | .hbm => 119
  | .vmem => 0
  | .smem => 0
  | _ => 0

abbrev bufTy : (tb : Table) → Fin (tcTables nBuf tb) → BufTy
  | .hbm, ⟨0, _⟩ => ⟨S4x5000x2, .f32⟩
  | .hbm, ⟨1, _⟩ => ⟨S4x5000x11, .f32⟩
  | .hbm, ⟨2, _⟩ => ⟨S5000x2, .f32⟩
  | .hbm, ⟨3, _⟩ => ⟨S_, .f32⟩
  | .hbm, ⟨4, _⟩ => ⟨S4x5000, .f32⟩
  | .hbm, ⟨5, _⟩ => ⟨S_, .f32⟩
  | .hbm, ⟨6, _⟩ => ⟨S4x5000, .f32⟩
  | .hbm, ⟨7, _⟩ => ⟨S4x5000, .f32⟩
  | .hbm, ⟨8, _⟩ => ⟨S4x5000x1, .f32⟩
  | .hbm, ⟨9, _⟩ => ⟨S4x5000x11, .f32⟩
  | .hbm, ⟨10, _⟩ => ⟨S4x5000x11, .f32⟩
  | .hbm, ⟨11, _⟩ => ⟨S4x5000x11, .f32⟩
  | .hbm, ⟨12, _⟩ => ⟨S_, .f32⟩
  | .hbm, ⟨13, _⟩ => ⟨S4x5000, .f32⟩
  | .hbm, ⟨14, _⟩ => ⟨S4x5000x1, .f32⟩
  | .hbm, ⟨15, _⟩ => ⟨S4x5000x11, .f32⟩
  | .hbm, ⟨16, _⟩ => ⟨S4x5000x11, .f32⟩
  | .hbm, ⟨17, _⟩ => ⟨S5000x1, .f32⟩
  | .hbm, ⟨18, _⟩ => ⟨S5000, .f32⟩
  | .hbm, ⟨19, _⟩ => ⟨S1x5000, .f32⟩
  | .hbm, ⟨20, _⟩ => ⟨S4x5000x1, .f32⟩
  | .hbm, ⟨21, _⟩ => ⟨S4x5000, .f32⟩
  | .hbm, ⟨22, _⟩ => ⟨S_, .f32⟩
  | .hbm, ⟨23, _⟩ => ⟨S4x5000, .f32⟩
  | .hbm, ⟨24, _⟩ => ⟨S4x5000, .f32⟩
  | .hbm, ⟨25, _⟩ => ⟨S5000x1, .f32⟩
  | .hbm, ⟨26, _⟩ => ⟨S5000, .f32⟩
  | .hbm, ⟨27, _⟩ => ⟨S1x5000, .f32⟩
  | .hbm, ⟨28, _⟩ => ⟨S4x5000, .f32⟩
  | .hbm, ⟨29, _⟩ => ⟨S4x5000, .f32⟩
  | .hbm, ⟨30, _⟩ => ⟨S4x5000, .f32⟩
  | .hbm, ⟨31, _⟩ => ⟨S4x5000, .f32⟩
  | .hbm, ⟨32, _⟩ => ⟨S5000x1, .f32⟩
  | .hbm, ⟨33, _⟩ => ⟨S5000, .f32⟩
  | .hbm, ⟨34, _⟩ => ⟨S1x5000, .f32⟩
  | .hbm, ⟨35, _⟩ => ⟨S4x5000x1, .f32⟩
  | .hbm, ⟨36, _⟩ => ⟨S4x5000, .f32⟩
  | .hbm, ⟨37, _⟩ => ⟨S_, .f32⟩
  | .hbm, ⟨38, _⟩ => ⟨S4x5000, .f32⟩
  | .hbm, ⟨39, _⟩ => ⟨S4x5000, .f32⟩
  | .hbm, ⟨40, _⟩ => ⟨S4x5000, .f32⟩
  | .hbm, ⟨41, _⟩ => ⟨S4x5000, .f32⟩
  | .hbm, ⟨42, _⟩ => ⟨S4x5000, .f32⟩
  | .hbm, ⟨43, _⟩ => ⟨S_, .f32⟩
  | .hbm, ⟨44, _⟩ => ⟨S4x5000, .f32⟩
  | .hbm, ⟨45, _⟩ => ⟨S4x5000, .f32⟩
  | .hbm, ⟨46, _⟩ => ⟨S4x5000, .f32⟩
  | .hbm, ⟨47, _⟩ => ⟨S_, .f32⟩
  | .hbm, ⟨48, _⟩ => ⟨S4x5000, .f32⟩
  | .hbm, ⟨49, _⟩ => ⟨S4x5000, .f32⟩
  | .hbm, ⟨50, _⟩ => ⟨S4x5000, .f32⟩
  | .hbm, ⟨51, _⟩ => ⟨S4x5000x1, .f32⟩
  | .hbm, ⟨52, _⟩ => ⟨S4x1x5000, .f32⟩
  | .hbm, ⟨53, _⟩ => ⟨S4x5000x5000, .f32⟩
  | .hbm, ⟨54, _⟩ => ⟨S4x5000x5000, .f32⟩
  | .hbm, ⟨55, _⟩ => ⟨S4x5000x5000, .f32⟩
  | .hbm, ⟨56, _⟩ => ⟨S4x5000x1, .f32⟩
  | .hbm, ⟨57, _⟩ => ⟨S4x1x5000, .f32⟩
  | .hbm, ⟨58, _⟩ => ⟨S4x5000x5000, .f32⟩
  | .hbm, ⟨59, _⟩ => ⟨S4x5000x5000, .f32⟩
  | .hbm, ⟨60, _⟩ => ⟨S4x5000x5000, .f32⟩
  | .hbm, ⟨61, _⟩ => ⟨S4x5000x5000, .f32⟩
  | .hbm, ⟨62, _⟩ => ⟨S_, .f32⟩
  | .hbm, ⟨63, _⟩ => ⟨S4x5000x5000, .f32⟩
  | .hbm, ⟨64, _⟩ => ⟨S4x5000x5000, .f32⟩
  | .hbm, ⟨65, _⟩ => ⟨S4x5000, .f32⟩
  | .hbm, ⟨66, _⟩ => ⟨S4x5000x1, .f32⟩
  | .hbm, ⟨67, _⟩ => ⟨S4x1x5000, .f32⟩
  | .hbm, ⟨68, _⟩ => ⟨S4x5000x5000, .f32⟩
  | .hbm, ⟨69, _⟩ => ⟨S4x5000x5000, .f32⟩
  | .hbm, ⟨70, _⟩ => ⟨S4x5000x5000, .f32⟩
  | .hbm, ⟨71, _⟩ => ⟨S4x5000x5000, .f32⟩
  | .hbm, ⟨72, _⟩ => ⟨S_, .f32⟩
  | .hbm, ⟨73, _⟩ => ⟨S4x5000x5000, .f32⟩
  | .hbm, ⟨74, _⟩ => ⟨S4x5000x5000, .f32⟩
  | .hbm, ⟨75, _⟩ => ⟨S4x5000x5000, .f32⟩
  | .hbm, ⟨76, _⟩ => ⟨S_, .f32⟩
  | .hbm, ⟨77, _⟩ => ⟨S4x5000, .f32⟩
  | .hbm, ⟨78, _⟩ => ⟨S4x5000, .i1⟩
  | .hbm, ⟨79, _⟩ => ⟨S_, .f32⟩
  | .hbm, ⟨80, _⟩ => ⟨S4x5000, .f32⟩
  | .hbm, ⟨81, _⟩ => ⟨S4x5000, .i1⟩
  | .hbm, ⟨82, _⟩ => ⟨S4x5000, .i1⟩
  | .hbm, ⟨83, _⟩ => ⟨S4x11x5000, .f32⟩
  | .hbm, ⟨84, _⟩ => ⟨S4x10x5000, .f32⟩
  | .hbm, ⟨85, _⟩ => ⟨S_, .f32⟩
  | .hbm, ⟨86, _⟩ => ⟨S4x10x5000, .f32⟩
  | .hbm, ⟨87, _⟩ => ⟨S4x10x5000, .i1⟩
  | .hbm, ⟨88, _⟩ => ⟨S4x10x1x5000, .f32⟩
  | .hbm, ⟨89, _⟩ => ⟨S4x10x5000x1, .f32⟩
  | .hbm, ⟨90, _⟩ => ⟨S4x10x5000x5000, .f32⟩
  | .hbm, ⟨91, _⟩ => ⟨S4x10x5000x5000, .f32⟩
  | .hbm, ⟨92, _⟩ => ⟨S4x10x5000x5000, .i1⟩
  | .hbm, ⟨93, _⟩ => ⟨S4x10x1x5000, .i1⟩
  | .hbm, ⟨94, _⟩ => ⟨S4x10x5000x5000, .i1⟩
  | .hbm, ⟨95, _⟩ => ⟨S4x10x5000x5000, .i1⟩
  | .hbm, ⟨96, _⟩ => ⟨S_, .f32⟩
  | .hbm, ⟨97, _⟩ => ⟨S4x5000x5000, .f32⟩
  | .hbm, ⟨98, _⟩ => ⟨S4x5000x5000, .i1⟩
  | .hbm, ⟨99, _⟩ => ⟨S4x1x5000x5000, .i1⟩
  | .hbm, ⟨100, _⟩ => ⟨S4x10x5000x5000, .i1⟩
  | .hbm, ⟨101, _⟩ => ⟨S4x10x5000x5000, .i1⟩
  | .hbm, ⟨102, _⟩ => ⟨S_, .i1⟩
  | .hbm, ⟨103, _⟩ => ⟨S4x10x5000, .i1⟩
  | .hbm, ⟨104, _⟩ => ⟨S4x10x5000, .i1⟩
  | .hbm, ⟨105, _⟩ => ⟨S4x10x5000, .i1⟩
  | .hbm, ⟨106, _⟩ => ⟨S4x1x5000, .i1⟩
  | .hbm, ⟨107, _⟩ => ⟨S4x10x5000, .i1⟩
  | .hbm, ⟨108, _⟩ => ⟨S4x10x5000, .i1⟩
  | .hbm, ⟨109, _⟩ => ⟨S_, .f32⟩
  | .hbm, ⟨110, _⟩ => ⟨S_, .f32⟩
  | .hbm, ⟨111, _⟩ => ⟨S4x10x5000, .f32⟩
  | .hbm, ⟨112, _⟩ => ⟨S4x10x5000, .f32⟩
  | .hbm, ⟨113, _⟩ => ⟨S_, .f32⟩
  | .hbm, ⟨114, _⟩ => ⟨S4x5000, .f32⟩
  | .hbm, ⟨115, _⟩ => ⟨S4x5000x1, .f32⟩
  | .hbm, ⟨116, _⟩ => ⟨S4x5000x1, .f32⟩
  | .hbm, ⟨117, _⟩ => ⟨S4x5000x1, .f32⟩
  | .hbm, ⟨118, _⟩ => ⟨S4x5000x3, .f32⟩
  | _, _ => ⟨S4x5000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_10 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_11 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_c : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_12 : Ref sig .tc := ⟨.hbm, 109, rfl⟩
abbrev main_call0_v0 : Ref sig .tc := ⟨.hbm, 110, rfl⟩
abbrev main_call0_v1 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Proof.Pos.lean ====
/-
  The first call, one grid point per image: each box is given a place by counting its bucket, and the places are inverted.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.ValueIdx
public import Idealize.ShloMosaic.Lib.Tactic
public import Idealize.ShloMosaic.Lib.Ring
public import Idealize.ShloMosaic.Lib.VecWindow

@[expose] public section

set_option maxRecDepth 16384

noncomputable section

namespace Cert.Proof.KernelIdeal.Pos

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## What a point writes -/

/-- The image's keys as a block. -/
abbrev keys (x1 : Vec F S1x5120x1 .f32) : Vec F S1x5120x1 .f32 := View.ld x1 (Rect.unit (s := S1x5120x1) ![0, 0, 0] S1x5120x1.size inb_S1x5120x1_S1x5120x1_0_0_0)

/-- The one-hot buckets, and their counts up to each row, halfway and in full. -/
abbrev hot (x1 : Vec F S1x5120x1 .f32) : FVec F S5120x128 .f32 := k0_pay2 (keys x1)
abbrev cnt (x1 : Vec F S1x5120x1 .f32) : FVec F S5120x128 .f32 := k0_pay4 (k0_pay3 (keys x1)) (Scalar.ofBits .f32 0x00000000#32)
/-- The buckets' totals. -/
abbrev tot (x1 : Vec F S1x5120x1 .f32) : FVec F S1x128 .f32 := k0_pay5 (k0_pay3 (keys x1)) (Scalar.ofBits .f32 0x00000000#32)

/-- The places. -/
def posBlk (x1 : Vec F S1x5120x1 .f32) : IVec S1x5120x1 32 := k0_pay7 (hot x1) (cnt x1) (tot x1)
/-- The box at each place. -/
def permBlk (x1 : Vec F S1x5120x1 .f32) : IVec S1x1x5120 32 :=
  k0_pay1 (k0_pay6 (hot x1) (cnt x1) (tot x1)) (k0_pay8 (iota .tc S5120x128 32 [1] iota_S5120x128_d1_w32))
    (k0_pay9 (iota .tc S5120x1 32 [0] iota_S5120x1_d0_w32)) (k0_pay10 (hot x1) (cnt x1) (tot x1)) (Scalar.ofBits .f32 0x43000000#32)

theorem body (𝒱 : Variants) (c : Dev nD) (bd : Option 𝒱.V) (E : Set ℕ) (i : grid0.Coords) (arg1 : Memref sig .tc .vmem S1x5120x1 .f32) (harg1 : arg1.IsWhole) (arg2 : Memref sig .tc .vmem S1x5120x1 .i32) (harg2 : arg2.IsWhole) (arg3 : Memref sig .tc .vmem S1x1x5120 .i32) (harg3 : arg3.IsWhole)
    (X1 : BufTy.Contents (Elt F) arg1.view.ty) (X2 : BufTy.Contents (Elt F) arg2.view.ty) (X3 : BufTy.Contents (Elt F) arg3.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)) : sProp 𝕄)
      ⊢ wp frame (wpE (defs₀ (F := F)) 𝒱 (c : Thread nD τ) bd) E (cc0__pos_kernel (F := F) i arg1 harg1 arg2 harg2 arg3 harg3)
          (fun _ => iprop((arg1.view.loc (c : Thread nD τ) ↦[arg1.view.set]{fullShare} X1)
            ∗ (∃ f, (arg2.view.loc (c : Thread nD τ) ↦[arg2.view.set]{fullShare} f) ∗ ⌜arg2.view.read (Elt F) f = posBlk (arg1.view.read (Elt F) X1)⌝)
            ∗ (∃ f, (arg3.view.loc (c : Thread nD τ) ↦[arg3.view.set]{fullShare} f) ∗ ⌜arg3.view.read (Elt F) f = permBlk (arg1.view.read (Elt F) X1)⌝))) := by
  rw [cc0__pos_kernel_eq_skeleton]
  unfold cc0__pos_kernel_skel
  iintro ⟨H1, H2, H3⟩
  sl_exec
  sl_step
  isplitl [H1]; · iexact H1
  isplitl [H2]
  · iexists _; isplitl [H2]; · iexact H2
    ipureintro
    exact View.read_writes_full _ _ _ _ _
  · iexists _; isplitl [H3]; · iexact H3
    ipureintro
    exact View.read_writes_full _ _ _ _ _

/-! ## The call, image by image -/

variable (V : Dev nD → Valuation τ sig (Elt F))

/-- Image `b`'s block of window 0. -/
def blk0 (c : Dev nD) (b : ℕ) : Vec F S1x5120x1 .f32 := fun y =>
  (V c main_v25 : Vec F S4x5120x1 .f32) (ix3 ⟨b % 4, Nat.mod_lt _ (by decide)⟩ (y 1) (y 2))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt4 (t : Fin cfg0.N) : t.val < 4 := N_0 ▸ t.isLt
theorem idx_0 : ∀ t : Fin cfg0.N, win0_0.index t = ![t.val, 0, 0] := by decide +kernel
theorem idx_1 : ∀ t : Fin cfg0.N, win0_1.index t = ![t.val, 0, 0] := by decide +kernel
theorem idx_2 : ∀ t : Fin cfg0.N, win0_2.index t = ![t.val, 0, 0] := by decide +kernel

theorem iblk_0 (c : Dev nD) (t : Fin cfg0.N) : (iblk V c 0 t : Vec F S1x5120x1 .f32) = blk0 V c t.val := by
  have := lt4 t
  funext y
  have h0 : (y 0).val < 1 := (y 0).isLt
  unfold iblk blk0
  rw [View.read_apply]
  refine congrArg (V c main_v25 : Vec F S4x5120x1 .f32) (funext fun a => Fin.ext ?_)
  show win0_0.index t a * S1x5120x1.size a + 1 * (y a).val = _
  rw [idx_0]
  match a with
  | ⟨0, _⟩ => show t.val * 1 + 1 * (y 0).val = t.val % 4; omega
  | ⟨1, _⟩ => show 0 * 5120 + 1 * (y 1).val = (y 1).val; omega
  | ⟨2, _⟩ => show 0 * 1 + 1 * (y 2).val = (y 2).val; omega

/-- What window 1 is left at for image `b`. -/
def out1 (c : Dev nD) (b : ℕ) : Vec F S1x5120x1 .i32 := posBlk (blk0 V c b)

/-- What window 2 is left at for image `b`. -/
def out2 (c : Dev nD) (b : ℕ) : Vec F S1x1x5120 .i32 := permBlk (blk0 V c b)

/-- The proof data of the call's pipeline. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out1 V c t.val
    | ⟨2, _⟩ => out2 V c t.val
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = out1 V c t.val := by dsimp only [dat]
theorem after_2 (c : Dev nD) (t : Fin cfg0.N) : (dat V c).after 2 t = out2 V c t.val := by dsimp only [dat]
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem sound (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t))) := by
  unfold bodyAt0
  simp only [before_0]
  rw [show (dat V c).owesAt () t.succ = (dat V c).owesAt () t.castSucc from rfl, show (dat V c).Φ t.succ = (dat V c).Φ t.castSucc from rfl,
    after_0, after_1, after_2]
  unfold owns
  iintro ⟨Hr, Ho, ⟨%d0, %f1, %e1, H1⟩, ⟨%d1, %f2, %e2, H2⟩, ⟨%d2, %f3, %e3, H3⟩⟩
  iapply (wp_wand_r Idealize.ShloMosaic.frame (wpE (defs₀ (F := F)) Variants.none (c : Thread nD τ) none) Set.univ)
  isplitl [H1 H2 H3]
  · iapply (body (F := F) Variants.none c none Set.univ (grid0.coords t) _ _ _ _ _ _ f1 f2 f3)
    sl_close
  · iintro %r ⟨H1, ⟨%g2, H2, %q2⟩, ⟨%g3, H3, %q3⟩⟩
    rw [e1, iblk_0] at q2
    rw [e1, iblk_0] at q3
    isplitl [Hr]; · iexact Hr
    isplitl [Ho]; · iexact Ho
    isplitl [H1]; · iexists f1; isplitr; · ipureintro; exact e1
                    iexact H1
    isplitl [H2]; · iexists g2; isplitr; · ipureintro; exact q2
                    iexact H2
    iexists g3; isplitr; · ipureintro; exact q3
    iexact H3

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat V c) (defs₀ (F := F)) Variants.none () Set.univ := fun t => by
  rw [bigSep_W0, bigSep_W0, defs₀_row]
  exact triple_restated (sound V c t) rfl .rfl fun _ => .rfl

/-! ## The array of window 1 -/

/-- The array, image by image. -/
def res1 (c : Dev nD) : Vec F S4x5120x1 .i32 := fun y => out1 V c (y 0).val (ix3 ⟨0, by decide⟩ (y 1) (y 2))

theorem flushed_1 (c : Dev nD) (t : Fin cfg0.N) : (dat V c).flushed 1 t = ((cfg0.win 1).blk t).view.read (Elt F) (res1 V c) := by
  have ht := lt4 t
  show (win0_1.cut (grid0.coords t) ((dat V c).after 1 t)) = _
  rw [after_1]
  funext y
  rw [View.read_apply]
  have h0 : (y 0).val < 1 := (y 0).isLt
  have e : ∀ a, (((cfg0.win 1).blk t).view.emb y a).val = win0_1.index t a * S1x5120x1.size a + 1 * (y a).val := fun a => rfl
  have e0 : (((cfg0.win 1).blk t).view.emb y 0).val = t.val := by
    rw [e, idx_1]; show t.val * 1 + 1 * (y 0).val = t.val; omega
  show out1 V c t.val y = res1 V c _
  unfold res1
  rw [e0]
  refine congrArg _ (funext fun a => Fin.ext ?_)
  match a with
  | ⟨0, _⟩ => show (y 0).val = 0; omega
  | ⟨1, _⟩ => show (y 1).val = (((cfg0.win 1).blk t).view.emb y 1).val; rw [e, idx_1]; show (y 1).val = 0 * 5120 + 1 * (y 1).val; omega
  | ⟨2, _⟩ => show (y 2).val = (((cfg0.win 1).blk t).view.emb y 2).val; rw [e, idx_1]; show (y 2).val = 0 * 1 + 1 * (y 2).val; omega

theorem cover_1 (i : S4x5120x1.Idx) : ∃ t : Fin cfg0.N, (cfg0.win 1).flush t = true ∧ i ∈ ((cfg0.win 1).blk t).view.set := by
  have h0 : (i 0).val < 4 := (i 0).isLt
  have h1 : (i 1).val < 5120 := (i 1).isLt
  have h2 : (i 2).val < 1 := (i 2).isLt
  have hN : cfg0.N = 4 := N_0
  obtain ⟨t, ht⟩ : ∃ t : Fin cfg0.N, t.val = (i 0).val := ⟨⟨(i 0).val, by omega⟩, rfl⟩
  refine ⟨t, flush0_1 t, ?_⟩
  show i ∈ ((View.whole main_v26_0).slice (win0_1.rect t)).set
  rw [View.set_slice_whole, Rect.mem_set_unit]
  intro a
  show win0_1.index _ a * S1x5120x1.size a ≤ (i a).val ∧ (i a).val < win0_1.index _ a * S1x5120x1.size a + S1x5120x1.size a
  rw [idx_1]
  match a with
  | ⟨0, _⟩ => show t.val * 1 ≤ (i 0).val ∧ (i 0).val < t.val * 1 + 1; omega
  | ⟨1, _⟩ => show 0 * 5120 ≤ (i 1).val ∧ (i 1).val < 0 * 5120 + 5120; omega
  | ⟨2, _⟩ => show 0 * 1 ≤ (i 2).val ∧ (i 2).val < 0 * 1 + 1; omega

theorem final_1 (c : Dev nD) : (dat V c).arrAt 1 cfg0.N = res1 V c :=
  (dat V c).arrAt_eq_of_cover 1 (res1 V c) (fun t _ => flushed_1 V c t) cover_1

/-! ## The array of window 2 -/

/-- The array, image by image. -/
def res2 (c : Dev nD) : Vec F S4x1x5120 .i32 := fun y => out2 V c (y 0).val (ix3 ⟨0, by decide⟩ (y 1) (y 2))

theorem flushed_2 (c : Dev nD) (t : Fin cfg0.N) : (dat V c).flushed 2 t = ((cfg0.win 2).blk t).view.read (Elt F) (res2 V c) := by
  have ht := lt4 t
  show (win0_2.cut (grid0.coords t) ((dat V c).after 2 t)) = _
  rw [after_2]
  funext y
  rw [View.read_apply]
  have h0 : (y 0).val < 1 := (y 0).isLt
  have e : ∀ a, (((cfg0.win 2).blk t).view.emb y a).val = win0_2.index t a * S1x1x5120.size a + 1 * (y a).val := fun a => rfl
  have e0 : (((cfg0.win 2).blk t).view.emb y 0).val = t.val := by
    rw [e, idx_2]; show t.val * 1 + 1 * (y 0).val = t.val; omega
  show out2 V c t.val y = res2 V c _
  unfold res2
  rw [e0]
  refine congrArg _ (funext fun a => Fin.ext ?_)
  match a with
  | ⟨0, _⟩ => show (y 0).val = 0; omega
  | ⟨1, _⟩ => show (y 1).val = (((cfg0.win 2).blk t).view.emb y 1).val; rw [e, idx_2]; show (y 1).val = 0 * 1 + 1 * (y 1).val; omega
  | ⟨2, _⟩ => show (y 2).val = (((cfg0.win 2).blk t).view.emb y 2).val; rw [e, idx_2]; show (y 2).val = 0 * 5120 + 1 * (y 2).val; omega

theorem cover_2 (i : S4x1x5120.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 5120 := (i 2).isLt
  have hN : cfg0.N = 4 := N_0
  obtain ⟨t, ht⟩ : ∃ t : Fin cfg0.N, t.val = (i 0).val := ⟨⟨(i 0).val, by omega⟩, rfl⟩
  refine ⟨t, flush0_2 t, ?_⟩
  show i ∈ ((View.whole main_v26_1).slice (win0_2.rect t)).set
  rw [View.set_slice_whole, Rect.mem_set_unit]
  intro a
  show win0_2.index _ a * S1x1x5120.size a ≤ (i a).val ∧ (i a).val < win0_2.index _ a * S1x1x5120.size a + S1x1x5120.size a
  rw [idx_2]
  match a with
  | ⟨0, _⟩ => show t.val * 1 ≤ (i 0).val ∧ (i 0).val < t.val * 1 + 1; omega
  | ⟨1, _⟩ => show 0 * 1 ≤ (i 1).val ∧ (i 1).val < 0 * 1 + 1; omega
  | ⟨2, _⟩ => show 0 * 5120 ≤ (i 2).val ∧ (i 2).val < 0 * 5120 + 5120; omega

theorem final_2 (c : Dev nD) : (dat V c).arrAt 2 cfg0.N = res2 V c :=
  (dat V c).arrAt_eq_of_cover 2 (res2 V c) (fun t _ => flushed_2 V c t) cover_2

end Cert.Proof.KernelIdeal.Pos
-- ==== Proof.Prep.lean ====
/-
  The second call, one grid point per image: the boxes decoded from the sorted offsets, and the scores, with the padding set far.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.ValueIdx
public import Idealize.ShloMosaic.Lib.Tactic
public import Idealize.ShloMosaic.Lib.Ring
public import Idealize.ShloMosaic.Lib.VecWindow

@[expose] public section

set_option maxRecDepth 16384

noncomputable section

namespace Cert.Proof.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## What a point writes -/

/-- The two rows of a block. -/
abbrev row0 (x : Vec F S1x2x5120 .f32) : Vec F S1x1x5120 .f32 := View.ld x (Rect.unit (s := S1x2x5120) ![0, 0, 0] S1x1x5120.size inb_S1x2x5120_S1x1x5120_0_0_0)
abbrev row1 (x : Vec F S1x2x5120 .f32) : Vec F S1x1x5120 .f32 := View.ld x (Rect.unit (s := S1x2x5120) ![0, 1, 0] S1x1x5120.size inb_S1x2x5120_S1x1x5120_0_1_0)

/-- The image's boxes, from its offsets `x1` and its default boxes `x3`. -/
def boxBlk (x1 x3 : Vec F S1x2x5120 .f32) : Vec F S1x2x5120 .f32 := k1_pay2 (row0 x3) (row1 x3) (row0 x1) (row1 x1)
/-- The image's scores. -/
def mscBlk (x2 : Vec F S1x11x5120 .f32) : Vec F S1x16x5120 .f32 :=
  k1_pay1 (k1_pay3 (View.ld x2 (Rect.unit (s := S1x11x5120) ![0, 0, 0] S1x11x5120.size inb_S1x11x5120_S1x11x5120_0_0_0)))

theorem body (𝒱 : Variants) (c : Dev nD) (bd : Option 𝒱.V) (E : Set ℕ) (i : grid1.Coords) (arg1 : Memref sig .tc .vmem S1x2x5120 .f32) (harg1 : arg1.IsWhole) (arg2 : Memref sig .tc .vmem S1x11x5120 .f32) (harg2 : arg2.IsWhole) (arg3 : Memref sig .tc .vmem S1x2x5120 .f32) (harg3 : arg3.IsWhole) (arg4 : Memref sig .tc .vmem S1x2x5120 .f32) (harg4 : arg4.IsWhole) (arg5 : Memref sig .tc .vmem S1x16x5120 .f32) (harg5 : arg5.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)) : sProp 𝕄)
      ⊢ wp frame (wpE (defs₀ (F := F)) 𝒱 (c : Thread nD τ) bd) E (cc1__prep_kernel (F := F) i arg1 harg1 arg2 harg2 arg3 harg3 arg4 harg4 arg5 harg5)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
            ∗ (∃ f, (arg4.view.loc (c : Thread nD τ) ↦[arg4.view.set]{fullShare} f) ∗ ⌜arg4.view.read (Elt F) f = boxBlk (arg1.view.read (Elt F) X1) (arg3.view.read (Elt F) X3)⌝)
            ∗ (∃ f, (arg5.view.loc (c : Thread nD τ) ↦[arg5.view.set]{fullShare} f) ∗ ⌜arg5.view.read (Elt F) f = mscBlk (arg2.view.read (Elt F) X2)⌝))) := by
  rw [cc1__prep_kernel_eq_skeleton]
  unfold cc1__prep_kernel_skel
  iintro ⟨H1, H2, H3, H4, H5⟩
  sl_exec
  sl_step
  isplitl [H1]; · iexact H1
  isplitl [H2]; · iexact H2
  isplitl [H3]; · iexact H3
  isplitl [H4]
  · iexists _; isplitl [H4]; · iexact H4
    ipureintro
    exact View.read_writes_full _ _ _ _ _
  · iexists _; isplitl [H5]; · iexact H5
    ipureintro
    exact View.read_writes_full _ _ _ _ _

/-! ## The call, image by image -/

variable (V : Dev nD → Valuation τ sig (Elt F))

/-- Image `b`'s block of window 0. -/
def blk0 (c : Dev nD) (b : ℕ) : Vec F S1x2x5120 .f32 := fun y =>
  (V c main_v40 : Vec F S4x2x5120 .f32) (ix3 ⟨b % 4, Nat.mod_lt _ (by decide)⟩ (y 1) (y 2))

/-- Image `b`'s block of window 1. -/
def blk1 (c : Dev nD) (b : ℕ) : Vec F S1x11x5120 .f32 := fun y =>
  (V c main_v41 : Vec F S4x11x5120 .f32) (ix3 ⟨b % 4, Nat.mod_lt _ (by decide)⟩ (y 1) (y 2))

/-- Image `b`'s block of window 2. -/
def blk2 (c : Dev nD) (b : ℕ) : Vec F S1x2x5120 .f32 := fun y =>
  (V c main_v42 : Vec F S4x2x5120 .f32) (ix3 ⟨b % 4, Nat.mod_lt _ (by decide)⟩ (y 1) (y 2))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem lt4 (t : Fin cfg1.N) : t.val < 4 := N_1 ▸ t.isLt
theorem idx_0 : ∀ t : Fin cfg1.N, win1_0.index t = ![t.val, 0, 0] := by decide +kernel
theorem idx_1 : ∀ t : Fin cfg1.N, win1_1.index t = ![t.val, 0, 0] := by decide +kernel
theorem idx_2 : ∀ t : Fin cfg1.N, win1_2.index t = ![t.val, 0, 0] := by decide +kernel
theorem idx_3 : ∀ t : Fin cfg1.N, win1_3.index t = ![t.val, 0, 0] := by decide +kernel
theorem idx_4 : ∀ t : Fin cfg1.N, win1_4.index t = ![t.val, 0, 0] := by decide +kernel

theorem iblk_0 (c : Dev nD) (t : Fin cfg1.N) : (iblk V c 0 t : Vec F S1x2x5120 .f32) = blk0 V c t.val := by
  have := lt4 t
  funext y
  have h0 : (y 0).val < 1 := (y 0).isLt
  unfold iblk blk0
  rw [View.read_apply]
  refine congrArg (V c main_v40 : Vec F S4x2x5120 .f32) (funext fun a => Fin.ext ?_)
  show win1_0.index t a * S1x2x5120.size a + 1 * (y a).val = _
  rw [idx_0]
  match a with
  | ⟨0, _⟩ => show t.val * 1 + 1 * (y 0).val = t.val % 4; omega
  | ⟨1, _⟩ => show 0 * 2 + 1 * (y 1).val = (y 1).val; omega
  | ⟨2, _⟩ => show 0 * 5120 + 1 * (y 2).val = (y 2).val; omega

theorem iblk_1 (c : Dev nD) (t : Fin cfg1.N) : (iblk V c 1 t : Vec F S1x11x5120 .f32) = blk1 V c t.val := by
  have := lt4 t
  funext y
  have h0 : (y 0).val < 1 := (y 0).isLt
  unfold iblk blk1
  rw [View.read_apply]
  refine congrArg (V c main_v41 : Vec F S4x11x5120 .f32) (funext fun a => Fin.ext ?_)
  show win1_1.index t a * S1x11x5120.size a + 1 * (y a).val = _
  rw [idx_1]
  match a with
  | ⟨0, _⟩ => show t.val * 1 + 1 * (y 0).val = t.val % 4; omega
  | ⟨1, _⟩ => show 0 * 11 + 1 * (y 1).val = (y 1).val; omega
  | ⟨2, _⟩ => show 0 * 5120 + 1 * (y 2).val = (y 2).val; omega

theorem iblk_2 (c : Dev nD) (t : Fin cfg1.N) : (iblk V c 2 t : Vec F S1x2x5120 .f32) = blk2 V c t.val := by
  have := lt4 t
  funext y
  have h0 : (y 0).val < 1 := (y 0).isLt
  unfold iblk blk2
  rw [View.read_apply]
  refine congrArg (V c main_v42 : Vec F S4x2x5120 .f32) (funext fun a => Fin.ext ?_)
  show win1_2.index t a * S1x2x5120.size a + 1 * (y a).val = _
  rw [idx_2]
  match a with
  | ⟨0, _⟩ => show t.val * 1 + 1 * (y 0).val = t.val % 4; omega
  | ⟨1, _⟩ => show 0 * 2 + 1 * (y 1).val = (y 1).val; omega
  | ⟨2, _⟩ => show 0 * 5120 + 1 * (y 2).val = (y 2).val; omega

/-- What window 3 is left at for image `b`. -/
def out3 (c : Dev nD) (b : ℕ) : Vec F S1x2x5120 .f32 := boxBlk (blk0 V c b) (blk2 V c b)

/-- What window 4 is left at for image `b`. -/
def out4 (c : Dev nD) (b : ℕ) : Vec F S1x16x5120 .f32 := mscBlk (blk1 V c b)

/-- The proof data of the call's pipeline. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out3 V c t.val
    | ⟨4, _⟩ => out4 V c t.val
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out3 V c t.val := by dsimp only [dat]
theorem after_4 (c : Dev nD) (t : Fin cfg1.N) : (dat V c).after 4 t = out4 V c t.val := by dsimp only [dat]
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem sound (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t)
        ∗ owns (c : Thread nD τ) (st1_4 t) fullShare ((dat V c).after 4 t))) := by
  unfold bodyAt1
  simp only [before_0, before_1, before_2]
  rw [show (dat V c).owesAt () t.succ = (dat V c).owesAt () t.castSucc from rfl, show (dat V c).Φ t.succ = (dat V c).Φ t.castSucc from rfl,
    after_0, after_1, after_2, after_3, after_4]
  unfold owns
  iintro ⟨Hr, Ho, ⟨%d0, %f1, %e1, H1⟩, ⟨%d1, %f2, %e2, H2⟩, ⟨%d2, %f3, %e3, H3⟩, ⟨%d3, %f4, %e4, H4⟩, ⟨%d4, %f5, %e5, H5⟩⟩
  iapply (wp_wand_r Idealize.ShloMosaic.frame (wpE (defs₀ (F := F)) Variants.none (c : Thread nD τ) none) Set.univ)
  isplitl [H1 H2 H3 H4 H5]
  · iapply (body (F := F) Variants.none c none Set.univ (grid1.coords t) _ _ _ _ _ _ _ _ _ _ f1 f2 f3 f4 f5)
    sl_close
  · iintro %r ⟨H1, H2, H3, ⟨%g4, H4, %q4⟩, ⟨%g5, H5, %q5⟩⟩
    rw [e1, e3, iblk_0, iblk_2] at q4
    rw [e2, iblk_1] at q5
    isplitl [Hr]; · iexact Hr
    isplitl [Ho]; · iexact Ho
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists g4; isplitr; · ipureintro; exact q4
                    iexact H4
    iexists g5; isplitr; · ipureintro; exact q5
    iexact H5

theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat V c) (defs₀ (F := F)) Variants.none () Set.univ := fun t => by
  rw [bigSep_W1, bigSep_W1, defs₀_row]
  exact triple_restated (sound V c t) rfl .rfl fun _ => .rfl

/-! ## The array of window 3 -/

/-- The array, image by image. -/
def res3 (c : Dev nD) : Vec F S4x2x5120 .f32 := fun y => out3 V c (y 0).val (ix3 ⟨0, by decide⟩ (y 1) (y 2))

theorem flushed_3 (c : Dev nD) (t : Fin cfg1.N) : (dat V c).flushed 3 t = ((cfg1.win 3).blk t).view.read (Elt F) (res3 V c) := by
  have ht := lt4 t
  show (win1_3.cut (grid1.coords t) ((dat V c).after 3 t)) = _
  rw [after_3]
  funext y
  rw [View.read_apply]
  have h0 : (y 0).val < 1 := (y 0).isLt
  have e : ∀ a, (((cfg1.win 3).blk t).view.emb y a).val = win1_3.index t a * S1x2x5120.size a + 1 * (y a).val := fun a => rfl
  have e0 : (((cfg1.win 3).blk t).view.emb y 0).val = t.val := by
    rw [e, idx_3]; show t.val * 1 + 1 * (y 0).val = t.val; omega
  show out3 V c t.val y = res3 V c _
  unfold res3
  rw [e0]
  refine congrArg _ (funext fun a => Fin.ext ?_)
  match a with
  | ⟨0, _⟩ => show (y 0).val = 0; omega
  | ⟨1, _⟩ => show (y 1).val = (((cfg1.win 3).blk t).view.emb y 1).val; rw [e, idx_3]; show (y 1).val = 0 * 2 + 1 * (y 1).val; omega
  | ⟨2, _⟩ => show (y 2).val = (((cfg1.win 3).blk t).view.emb y 2).val; rw [e, idx_3]; show (y 2).val = 0 * 5120 + 1 * (y 2).val; omega

theorem cover_3 (i : S4x2x5120.Idx) : ∃ t : Fin cfg1.N, (cfg1.win 3).flush t = true ∧ i ∈ ((cfg1.win 3).blk t).view.set := by
  have h0 : (i 0).val < 4 := (i 0).isLt
  have h1 : (i 1).val < 2 := (i 1).isLt
  have h2 : (i 2).val < 5120 := (i 2).isLt
  have hN : cfg1.N = 4 := N_1
  obtain ⟨t, ht⟩ : ∃ t : Fin cfg1.N, t.val = (i 0).val := ⟨⟨(i 0).val, by omega⟩, rfl⟩
  refine ⟨t, flush1_3 t, ?_⟩
  show i ∈ ((View.whole main_v43_0).slice (win1_3.rect t)).set
  rw [View.set_slice_whole, Rect.mem_set_unit]
  intro a
  show win1_3.index _ a * S1x2x5120.size a ≤ (i a).val ∧ (i a).val < win1_3.index _ a * S1x2x5120.size a + S1x2x5120.size a
  rw [idx_3]
  match a with
  | ⟨0, _⟩ => show t.val * 1 ≤ (i 0).val ∧ (i 0).val < t.val * 1 + 1; omega
  | ⟨1, _⟩ => show 0 * 2 ≤ (i 1).val ∧ (i 1).val < 0 * 2 + 2; omega
  | ⟨2, _⟩ => show 0 * 5120 ≤ (i 2).val ∧ (i 2).val < 0 * 5120 + 5120; omega

theorem final_3 (c : Dev nD) : (dat V c).arrAt 3 cfg1.N = res3 V c :=
  (dat V c).arrAt_eq_of_cover 3 (res3 V c) (fun t _ => flushed_3 V c t) cover_3

/-! ## The array of window 4 -/

/-- The array, image by image. -/
def res4 (c : Dev nD) : Vec F S4x16x5120 .f32 := fun y => out4 V c (y 0).val (ix3 ⟨0, by decide⟩ (y 1) (y 2))

theorem flushed_4 (c : Dev nD) (t : Fin cfg1.N) : (dat V c).flushed 4 t = ((cfg1.win 4).blk t).view.read (Elt F) (res4 V c) := by
  have ht := lt4 t
  show (win1_4.cut (grid1.coords t) ((dat V c).after 4 t)) = _
  rw [after_4]
  funext y
  rw [View.read_apply]
  have h0 : (y 0).val < 1 := (y 0).isLt
  have e : ∀ a, (((cfg1.win 4).blk t).view.emb y a).val = win1_4.index t a * S1x16x5120.size a + 1 * (y a).val := fun a => rfl
  have e0 : (((cfg1.win 4).blk t).view.emb y 0).val = t.val := by
    rw [e, idx_4]; show t.val * 1 + 1 * (y 0).val = t.val; omega
  show out4 V c t.val y = res4 V c _
  unfold res4
  rw [e0]
  refine congrArg _ (funext fun a => Fin.ext ?_)
  match a with
  | ⟨0, _⟩ => show (y 0).val = 0; omega
  | ⟨1, _⟩ => show (y 1).val = (((cfg1.win 4).blk t).view.emb y 1).val; rw [e, idx_4]; show (y 1).val = 0 * 16 + 1 * (y 1).val; omega
  | ⟨2, _⟩ => show (y 2).val = (((cfg1.win 4).blk t).view.emb y 2).val; rw [e, idx_4]; show (y 2).val = 0 * 5120 + 1 * (y 2).val; omega

theorem cover_4 (i : S4x16x5120.Idx) : ∃ t : Fin cfg1.N, (cfg1.win 4).flush t = true ∧ i ∈ ((cfg1.win 4).blk t).view.set := by
  have h0 : (i 0).val < 4 := (i 0).isLt
  have h1 : (i 1).val < 16 := (i 1).isLt
  have h2 : (i 2).val < 5120 := (i 2).isLt
  have hN : cfg1.N = 4 := N_1
  obtain ⟨t, ht⟩ : ∃ t : Fin cfg1.N, t.val = (i 0).val := ⟨⟨(i 0).val, by omega⟩, rfl⟩
  refine ⟨t, flush1_4 t, ?_⟩
  show i ∈ ((View.whole main_v43_1).slice (win1_4.rect t)).set
  rw [View.set_slice_whole, Rect.mem_set_unit]
  intro a
  show win1_4.index _ a * S1x16x5120.size a ≤ (i a).val ∧ (i a).val < win1_4.index _ a * S1x16x5120.size a + S1x16x5120.size a
  rw [idx_4]
  match a with
  | ⟨0, _⟩ => show t.val * 1 ≤ (i 0).val ∧ (i 0).val < t.val * 1 + 1; omega
  | ⟨1, _⟩ => show 0 * 16 ≤ (i 1).val ∧ (i 1).val < 0 * 16 + 16; omega
  | ⟨2, _⟩ => show 0 * 5120 ≤ (i 2).val ∧ (i 2).val < 0 * 5120 + 5120; omega

theorem final_4 (c : Dev nD) : (dat V c).arrAt 4 cfg1.N = res4 V c :=
  (dat V c).arrAt_eq_of_cover 4 (res4 V c) (fun t _ => flushed_4 V c t) cover_4

end Cert.Proof.KernelIdeal.Prep
-- ==== Proof.T2.lean ====
/-
  The kernel's two inner loops as functions of what the buffers hold.

  A grid point folds one block of 1024 boxes (the suppressing side, along `j`) into the running maxima of all 40 tiles of 128 boxes
  (the suppressed side, along `i`). The loop over the tiles is `k2_t1`, and inside it the loop over the block's eight chunks of 128
  boxes is `k2_t2`, whose trip is a conditional: a chunk that cannot overlap the tile leaves the ten accumulators as they are.

  Every buffer is spoken of by what its view reads: `x2` the tiles' boxes, `x7 x8 x9` the block's starts, ends and scaled lengths
  along the 128 lanes, `x10` the block's ten score rows likewise, `x11` the running maxima, `x12` the 96 bounds.
-/
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## One trip of the chunk loop -/

/-- The ten accumulators, as the loop carries them. -/
abbrev Acc (F : FTy → Type) : Type := FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32

/-- Ten accumulators given by their class. -/
abbrev tup (f : Fin 10 → FVec F S8x128 .f32) : Acc F := (f 0, f 1, f 2, f 3, f 4, f 5, f 6, f 7, f 8, f 9)

/-- The one index of a one-element box. -/
abbrev at1 : S1.Idx := Shape.Idx.first (numel1_S1.symm ▸ Nat.one_pos)

/-- Where class `cl`'s scores of chunk `k` lie. -/
def offC (cl : Fin 10) (k : Fin k2_t2_loop.trips) : Fin 3 → Nat :=
  ![cl.val, (Scalar.indexCast (Scalar.muli (Scf.iv 0#32 1#32 k) 128#32)).toNat, 0]

theorem offC_eq (cl : Fin 10) (k : Fin k2_t2_loop.trips) : offC cl k = ![cl.val, 128 * k.val, 0] := by
  have h := congrFun (k2_off10_eq k) 1
  funext a
  fin_cases a
  · rfl
  · exact h
  · rfl

theorem offC_inb (cl : Fin 10) (k : Fin k2_t2_loop.trips) : ∀ a, offC cl k a + S1x128x128.size a ≤ S10x1024x128.size a := by
  have hk : k.val < 8 := Nat.lt_of_lt_of_le k.isLt k2_t2_abs.2.1
  have hc := cl.isLt
  rw [offC_eq]
  intro a
  fin_cases a <;> simp <;> omega

section Chunk

variable (x7 x8 x9 : Vec F S1024x128 .f32) (x10 : Vec F S10x1024x128 .f32) (x12 : Vec F S96 .f32)
variable (v220 v223 : Vec F S1x1x1x128 .f32) (v230 v234 : Elt F .f32)

/-- The question whether chunk `k` may overlap the tile: its least start is at most the tile's greatest end, and its greatest end is
    at least the tile's least start. -/
abbrev live2 (k : Fin k2_t2_loop.trips) : BitVec 1 :=
  Scalar.cmpi .ne (Scalar.extui
    (Scalar.andi
      (Scalar.cmpf .ole (x12 ((Rect.unit (s := S96) (k2_off7 k) S1.size (k2_off7_inb k)).idx at1)) v234)
      (Scalar.cmpf .oge (x12 ((Rect.unit (s := S96) (k2_off8 k) S1.size (k2_off8_inb k)).idx at1)) v230))) 0#32

/-- The overlap indicator of chunk `k` against the tile. -/
abbrev afk (k : Fin k2_t2_loop.trips) : FVec F S128x128 .f32 :=
  k2_pay139 (k2_pay151 v220) (k2_pay152 v223) (k2_pay153 v220 v223)
    (View.ld x8 (Rect.unit (s := S1024x128) (k2_off9 k) S128x128.size (k2_off9_inb k)))
    (View.ld x7 (Rect.unit (s := S1024x128) (k2_off9 k) S128x128.size (k2_off9_inb k)))
    (View.ld x9 (Rect.unit (s := S1024x128) (k2_off9 k) S128x128.size (k2_off9_inb k)))

/-- The accumulators after chunk `k`. -/
def step2 (k : Fin k2_t2_loop.trips) (f : Fin 10 → FVec F S8x128 .f32) : Fin 10 → FVec F S8x128 .f32 :=
  if live2 x12 v230 v234 k = 1#1 then
    fun cl => k2_pay145 (f cl) (afk x7 x8 x9 v220 v223 k)
      (View.ld x10 (Rect.unit (s := S10x1024x128) (offC cl k) S1x128x128.size (offC_inb cl k)))
  else f

/-- The accumulators after the first `n` chunks. -/
def st2 : ℕ → Fin 10 → FVec F S8x128 .f32
  | 0 => fun _ => k2_pay154 (F := F)
  | n + 1 => if h : n < k2_t2_loop.trips then step2 x7 x8 x9 x10 x12 v220 v223 v230 v234 ⟨n, h⟩ (st2 n) else st2 n

theorem st2_succ (k : Fin k2_t2_loop.trips) :
    st2 x7 x8 x9 x10 x12 v220 v223 v230 v234 (k.val + 1)
      = step2 x7 x8 x9 x10 x12 v220 v223 v230 v234 k (st2 x7 x8 x9 x10 x12 v220 v223 v230 v234 k.val) := by
  rw [st2]; exact dif_pos k.isLt

end Chunk

/-- What a trip of the chunk loop touches: the buffers it reads. -/
abbrev Trip2 (c : Dev nD) (arg7 : Memref sig .tc .vmem S1024x128 .f32) (arg8 : Memref sig .tc .vmem S1024x128 .f32) (arg9 : Memref sig .tc .vmem S1024x128 .f32) (arg10 : Memref sig .tc .vmem S10x1024x128 .f32) (arg12 : Memref sig .tc .smem S96 .f32) (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) : sProp 𝕄 :=
  iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg12.view.loc (c : Thread nD τ) ↦[arg12.view.set]{fullShare} X12))

theorem trip2 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (k2_t1 : Fin k2_t1_loop.trips) (arg13 : BitVec 32) (v220 : Vec F S1x1x1x128 .f32) (v223 : Vec F S1x1x1x128 .f32) (v230 : Elt F .f32) (v234 : Elt F .f32)
    (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) (k : Fin k2_t2_loop.trips) (f : Fin 10 → FVec F S8x128 .f32) :
    Trip2 (F := F) c arg7 arg8 arg9 arg10 arg12 X7 X8 X9 X10 X12
      ⊢ wp frame (wpE (defs₀ (F := F)) 𝒱 (c : Thread nD τ) bd) E (k2_t2_body (F := F) i arg2 harg2 arg3 harg3 arg4 harg4 arg5 harg5 arg6 harg6 arg7 harg7 arg8 harg8 arg9 harg9 arg10 harg10 arg11 harg11 arg12 harg12 k2_t1 arg13 v220 v223 v230 v234 k (tup f))
          (fun r => iprop(Trip2 (F := F) c arg7 arg8 arg9 arg10 arg12 X7 X8 X9 X10 X12
            ∗ ⌜r = tup (step2 (arg7.view.read (Elt F) X7) (arg8.view.read (Elt F) X8) (arg9.view.read (Elt F) X9) (arg10.view.read (Elt F) X10) (arg12.view.read (Elt F) X12) v220 v223 v230 v234 k f)⌝)) := by
  have hk : k.val < 8 := Nat.lt_of_lt_of_le k.isLt k2_t2_abs.2.1
  by_cases hc : live2 (arg12.view.read (Elt F) X12) v230 v234 k = 1#1
  · rw [step2, if_pos hc]
    unfold tup k2_t2_body
    iintro ⟨H7, H8, H9, H10, H12⟩
    sl_exec (disch := sl_exact hc)
    sl_step
    isplitl [H7 H8 H9 H10 H12]
    · sl_close
    · ipureintro; rfl
  · rw [step2, if_neg hc]
    unfold tup k2_t2_body
    iintro ⟨H7, H8, H9, H10, H12⟩
    sl_exec (disch := sl_exact hc)
    sl_step
    isplitl [H7 H8 H9 H10 H12]
    · sl_close
    · ipureintro; rfl

set_option warn.classDefReducibility false in
/-- The chunk loop by its invariant: the buffers as they were, the accumulators those of the chunks gone through. -/
@[sl_loop] def loopInv_k2_t2 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (k2_t1 : Fin k2_t1_loop.trips) (arg13 : BitVec 32) (v220 : Vec F S1x1x1x128 .f32) (v223 : Vec F S1x1x1x128 .f32) (v230 : Elt F .f32) (v234 : Elt F .f32)
    (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) :
    Gen.LoopInvTy_k2_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k2_t1 arg13 v220 v223 v230 v234
      (k2_pay154 (F := F), k2_pay155 (F := F), k2_pay156 (F := F), k2_pay157 (F := F), k2_pay158 (F := F), k2_pay159 (F := F), k2_pay160 (F := F), k2_pay161 (F := F), k2_pay162 (F := F), k2_pay163 (F := F)) where
  inv := fun k acc => iprop(Trip2 (F := F) c arg7 arg8 arg9 arg10 arg12 X7 X8 X9 X10 X12
    ∗ ⌜acc = tup (st2 (arg7.view.read (Elt F) X7) (arg8.view.read (Elt F) X8) (arg9.view.read (Elt F) X9) (arg10.view.read (Elt F) X10) (arg12.view.read (Elt F) X12) v220 v223 v230 v234 k)⌝)
  step k acc := by
    iintro ⟨H, %h⟩
    subst h
    iapply (wp_wand_r Idealize.ShloMosaic.frame (wpE (defs₀ (F := F)) 𝒱 (c : Thread nD τ) bd) E)
    isplitl [H]
    · iapply (trip2 (F := F) 𝒱 c bd E i arg2 harg2 arg3 harg3 arg4 harg4 arg5 harg5 arg6 harg6 arg7 harg7 arg8 harg8 arg9 harg9 arg10 harg10 arg11 harg11 arg12 harg12 k2_t1 arg13 v220 v223 v230 v234 X7 X8 X9 X10 X12 k _)
      iexact H
    · iintro %r ⟨H, %hr⟩
      isplitl [H]; · iexact H
      ipureintro
      rw [hr, st2_succ]

/-! ## One trip of the tile loop -/

section Tile

variable (x2 : Vec F S1x40x2x128 .f32) (x7 x8 x9 : Vec F S1024x128 .f32) (x10 : Vec F S10x1024x128 .f32) (x12 : Vec F S96 .f32)
variable (v99 v103 : F .f32)

/-- The question whether the block may overlap tile `k`. -/
abbrev live1 (k : Fin k2_t1_loop.trips) : BitVec 1 :=
  Scalar.cmpi .ne (Scalar.extui
    (Scalar.andi
      (Scalar.cmpf .ole v99 (x12 ((Rect.unit (s := S96) (k2_off1 k) S1.size (k2_off1_inb k)).idx at1)))
      (Scalar.cmpf .oge v103 (x12 ((Rect.unit (s := S96) (k2_off2 k) S1.size (k2_off2_inb k)).idx at1))))) 0#32

/-- The tile's starts, and its ends. -/
abbrev tileS (k : Fin k2_t1_loop.trips) : Vec F S1x1x1x128 .f32 :=
  View.ld x2 (Rect.unit (s := S1x40x2x128) (k2_off3 k) S1x1x1x128.size (k2_off3_inb k))
abbrev tileE (k : Fin k2_t1_loop.trips) : Vec F S1x1x1x128 .f32 :=
  View.ld x2 (Rect.unit (s := S1x40x2x128) (k2_off4 k) S1x1x1x128.size (k2_off4_inb k))

/-- The accumulators of tile `k` after all eight chunks. -/
abbrev accs (k : Fin k2_t1_loop.trips) : Fin 10 → FVec F S8x128 .f32 :=
  st2 x7 x8 x9 x10 x12 (tileS x2 k) (tileE x2 k)
    (x12 ((Rect.unit (s := S96) (k2_off5 k) S1.size (k2_off5_inb k)).idx at1))
    (x12 ((Rect.unit (s := S96) (k2_off6 k) S1.size (k2_off6_inb k)).idx at1)) k2_t2_loop.trips

/-- A tile's running maxima `w` with the accumulators `f` folded in. -/
abbrev fold1 (f : Fin 10 → FVec F S8x128 .f32) (w : Vec F S1x16x128 .f32) : FVec F S1x16x128 .f32 :=
  k2_pay206 (f 3) (f 4) (f 5) (f 6) (f 7) (f 8) (f 9) (k2_pay165 (f 0)) (k2_pay166 (f 1)) (k2_pay167 (f 2)) w

/-- The running maxima after tile `k`. -/
def step1 (k : Fin k2_t1_loop.trips) (x11 : Vec F S40x16x128 .f32) : Vec F S40x16x128 .f32 :=
  if live1 x12 v99 v103 k = 1#1 then
    VecWindow.put x11 (k2_off20 k) S1x16x128.size
      (fold1 (accs x2 x7 x8 x9 x10 x12 k) (View.ld x11 (Rect.unit (s := S40x16x128) (k2_off20 k) S1x16x128.size (k2_off20_inb k))))
  else x11

/-- The running maxima after the first `n` tiles, from those at loop entry. -/
def st1 (x11 : Vec F S40x16x128 .f32) : ℕ → Vec F S40x16x128 .f32
  | 0 => x11
  | n + 1 => if h : n < k2_t1_loop.trips then step1 x2 x7 x8 x9 x10 x12 v99 v103 ⟨n, h⟩ (st1 x11 n) else st1 x11 n

theorem st1_succ (x11 : Vec F S40x16x128 .f32) (k : Fin k2_t1_loop.trips) :
    st1 x2 x7 x8 x9 x10 x12 v99 v103 x11 (k.val + 1)
      = step1 x2 x7 x8 x9 x10 x12 v99 v103 k (st1 x2 x7 x8 x9 x10 x12 v99 v103 x11 k.val) := by
  rw [st1]; exact dif_pos k.isLt

end Tile

/-- What a trip of the tile loop only reads. -/
abbrev Trip1 (c : Dev nD) (arg2 : Memref sig .tc .vmem S1x40x2x128 .f32) (arg7 : Memref sig .tc .vmem S1024x128 .f32) (arg8 : Memref sig .tc .vmem S1024x128 .f32) (arg9 : Memref sig .tc .vmem S1024x128 .f32) (arg10 : Memref sig .tc .vmem S10x1024x128 .f32) (arg12 : Memref sig .tc .smem S96 .f32) (X2 : BufTy.Contents (Elt F) arg2.view.ty) (X7 : BufTy.Contents (Elt F) arg7.view.ty) (X8 : BufTy.Contents (Elt F) arg8.view.ty) (X9 : BufTy.Contents (Elt F) arg9.view.ty) (X10 : BufTy.Contents (Elt F) arg10.view.ty) (X12 : BufTy.Contents (Elt F) arg12.view.ty) : sProp 𝕄 :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg12.view.loc (c : Thread nD τ) ↦[arg12.view.set]{fullShare} X12))

theorem trip1 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (v99 v103 : F .f32)
    (X2 : BufTy.Contents (Elt F) arg2.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (k : Fin k2_t1_loop.trips) :
    iprop(Trip1 (F := F) c arg2 arg7 arg8 arg9 arg10 arg12 X2 X7 X8 X9 X10 X12 ∗ (arg11.view.loc (c : Thread nD τ) ↦[arg11.view.set]{fullShare} X11))
      ⊢ wp frame (wpE (defs₀ (F := F)) 𝒱 (c : Thread nD τ) bd) E (k2_t1_body (F := F) i arg2 harg2 arg3 harg3 arg4 harg4 arg5 harg5 arg6 harg6 arg7 harg7 arg8 harg8 arg9 harg9 arg10 harg10 arg11 harg11 arg12 harg12 v99 v103 k ())
          (fun _ => iprop(Trip1 (F := F) c arg2 arg7 arg8 arg9 arg10 arg12 X2 X7 X8 X9 X10 X12
            ∗ ∃ f, (arg11.view.loc (c : Thread nD τ) ↦[arg11.view.set]{fullShare} f) ∗ ⌜arg11.view.read (Elt F) f = step1 (arg2.view.read (Elt F) X2) (arg7.view.read (Elt F) X7) (arg8.view.read (Elt F) X8) (arg9.view.read (Elt F) X9) (arg10.view.read (Elt F) X10) (arg12.view.read (Elt F) X12) v99 v103 k (arg11.view.read (Elt F) X11)⌝)) := by
  have hk : k.val < 40 := Nat.lt_of_lt_of_le k.isLt k2_t1_abs.2.1
  by_cases hc : live1 (arg12.view.read (Elt F) X12) v99 v103 k = 1#1
  · rw [step1, if_pos hc]
    unfold k2_t1_body
    iintro ⟨⟨H2, H7, H8, H9, H10, H12⟩, H11⟩
    sl_exec (disch := sl_exact hc)
    sl_step
    isplitl [H2 H7 H8 H9 H10 H12]
    · sl_close
    · iexists _; isplitl [H11]; · iexact H11
      ipureintro
      rw [View.read_writes_cons_put _ _ _ _ _ rfl, View.writes_nil]
      rfl
  · rw [step1, if_neg hc]
    unfold k2_t1_body
    iintro ⟨⟨H2, H7, H8, H9, H10, H12⟩, H11⟩
    sl_exec (disch := sl_exact hc)
    sl_step
    isplitl [H2 H7 H8 H9 H10 H12]
    · sl_close
    · iexists _; isplitl [H11]; · iexact H11
      ipureintro; rfl

set_option warn.classDefReducibility false in
/-- The tile loop by its invariant: the running maxima those after the tiles gone through. -/
@[sl_loop] def loopInv_k2_t1 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (v99 v103 : F .f32)
    (X2 : BufTy.Contents (Elt F) arg2.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    Gen.LoopInvTy_k2_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v99 v103 where
  inv := fun k _ => iprop(Trip1 (F := F) c arg2 arg7 arg8 arg9 arg10 arg12 X2 X7 X8 X9 X10 X12
    ∗ ∃ f, (arg11.view.loc (c : Thread nD τ) ↦[arg11.view.set]{fullShare} f) ∗ ⌜arg11.view.read (Elt F) f = st1 (arg2.view.read (Elt F) X2) (arg7.view.read (Elt F) X7) (arg8.view.read (Elt F) X8) (arg9.view.read (Elt F) X9) (arg10.view.read (Elt F) X10) (arg12.view.read (Elt F) X12) v99 v103 (arg11.view.read (Elt F) X11) k⌝)
  step k acc := by
    iintro ⟨H, ⟨%f, H11, %hf⟩⟩
    iapply (wp_wand_r Idealize.ShloMosaic.frame (wpE (defs₀ (F := F)) 𝒱 (c : Thread nD τ) bd) E)
    isplitl [H H11]
    · iapply (trip1 (F := F) 𝒱 c bd E i arg2 harg2 arg3 harg3 arg4 harg4 arg5 harg5 arg6 harg6 arg7 harg7 arg8 harg8 arg9 harg9 arg10 harg10 arg11 harg11 arg12 harg12 v99 v103 X2 X7 X8 X9 X10 f X12 k)
      isplitl [H]; · iexact H
      iexact H11
    · iintro %r ⟨H, ⟨%f', H11, %hf'⟩⟩
      isplitl [H]; · iexact H
      iexists f'
      isplitl [H11]; · iexact H11
      ipureintro
      rw [hf', st1_succ, hf]

/-! ## The last loop: the output block, tile by tile -/

/-- A grid point of the last block, where the output is written. -/
abbrev lastPt : grid2.Coords := fun | 0 => ⟨0, by decide⟩ | 1 => ⟨4, by decide⟩

theorem lastPt_cond : k2_cond4 lastPt = 1#1 := by decide

section Out

variable (x2 : Vec F S1x40x2x128 .f32) (x3 : Vec F S1x40x16x128 .f32) (x11 : Vec F S40x16x128 .f32)

/-- Tile `k`'s rows of the output. -/
abbrev row3 (k : Fin k2_t3_loop.trips) : FVec F S1x1x8x128 .f32 :=
  k2_pay1 (View.ld x11 (Rect.unit (s := S40x16x128) (k2_off21 k) S1x16x128.size (k2_off21_inb lastPt k lastPt_cond)))
    (View.ld x3 (Rect.unit (s := S1x40x16x128) (k2_off22 k) S1x1x16x128.size (k2_off22_inb lastPt k lastPt_cond)))
    (View.ld x2 (Rect.unit (s := S1x40x2x128) (k2_off23 k) S1x1x1x128.size (k2_off23_inb lastPt k lastPt_cond)))
    (View.ld x2 (Rect.unit (s := S1x40x2x128) (k2_off24 k) S1x1x1x128.size (k2_off24_inb lastPt k lastPt_cond)))

/-- The output block after the first `n` tiles, from what the buffer held. -/
def st3 (x6 : Vec F S1x40x8x128 .f32) : ℕ → Vec F S1x40x8x128 .f32
  | 0 => x6
  | n + 1 => if h : n < k2_t3_loop.trips then VecWindow.put (st3 x6 n) (k2_off25 ⟨n, h⟩) S1x1x8x128.size (row3 x2 x3 x11 ⟨n, h⟩) else st3 x6 n

theorem st3_succ (x6 : Vec F S1x40x8x128 .f32) (k : Fin k2_t3_loop.trips) :
    st3 x2 x3 x11 x6 (k.val + 1) = VecWindow.put (st3 x2 x3 x11 x6 k.val) (k2_off25 k) S1x1x8x128.size (row3 x2 x3 x11 k) := by
  rw [st3]; exact dif_pos k.isLt

end Out

/-- What a trip of the last loop only reads. -/
abbrev Trip3 (c : Dev nD) (arg2 : Memref sig .tc .vmem S1x40x2x128 .f32) (arg3 : Memref sig .tc .vmem S1x40x16x128 .f32) (arg11 : Memref sig .tc .vmem S40x16x128 .f32) (X2 : BufTy.Contents (Elt F) arg2.view.ty) (X3 : BufTy.Contents (Elt F) arg3.view.ty) (X11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3) ∗ (arg11.view.loc (c : Thread nD τ) ↦[arg11.view.set]{fullShare} X11))

theorem trip3 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (k2_h4 : k2_cond4 i = 1#1)
    (X2 : BufTy.Contents (Elt F) arg2.view.ty) (X3 : BufTy.Contents (Elt F) arg3.view.ty) (X6 : BufTy.Contents (Elt F) arg6.view.ty) (X11 : BufTy.Contents (Elt F) arg11.view.ty) (k : Fin k2_t3_loop.trips) :
    iprop(Trip3 (F := F) c arg2 arg3 arg11 X2 X3 X11 ∗ (arg6.view.loc (c : Thread nD τ) ↦[arg6.view.set]{fullShare} X6))
      ⊢ wp frame (wpE (defs₀ (F := F)) 𝒱 (c : Thread nD τ) bd) E (k2_t3_body (F := F) i arg2 harg2 arg3 harg3 arg4 harg4 arg5 harg5 arg6 harg6 arg7 harg7 arg8 harg8 arg9 harg9 arg10 harg10 arg11 harg11 arg12 harg12 k2_h4 k ())
          (fun _ => iprop(Trip3 (F := F) c arg2 arg3 arg11 X2 X3 X11
            ∗ ∃ f, (arg6.view.loc (c : Thread nD τ) ↦[arg6.view.set]{fullShare} f) ∗ ⌜arg6.view.read (Elt F) f = VecWindow.put (arg6.view.read (Elt F) X6) (k2_off25 k) S1x1x8x128.size (row3 (arg2.view.read (Elt F) X2) (arg3.view.read (Elt F) X3) (arg11.view.read (Elt F) X11) k)⌝)) := by
  have hk : k.val < 40 := Nat.lt_of_lt_of_le k.isLt k2_t3_abs.2.1
  unfold k2_t3_body
  iintro ⟨⟨H2, H3, H11⟩, H6⟩
  sl_exec
  sl_step
  isplitl [H2 H3 H11]
  · sl_close
  · iexists _; isplitl [H6]; · iexact H6
    ipureintro
    rw [View.read_writes_cons_put _ _ _ _ _ rfl, View.writes_nil]
    rfl

set_option warn.classDefReducibility false in
/-- The last loop by its invariant: the output block after the tiles gone through. -/
@[sl_loop] def loopInv_k2_t3 (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole) (k2_h4 : k2_cond4 i = 1#1)
    (X2 : BufTy.Contents (Elt F) arg2.view.ty) (X3 : BufTy.Contents (Elt F) arg3.view.ty) (X6 : BufTy.Contents (Elt F) arg6.view.ty) (X11 : BufTy.Contents (Elt F) arg11.view.ty) :
    Gen.LoopInvTy_k2_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 k2_h4 where
  inv := fun k _ => iprop(Trip3 (F := F) c arg2 arg3 arg11 X2 X3 X11
    ∗ ∃ f, (arg6.view.loc (c : Thread nD τ) ↦[arg6.view.set]{fullShare} f) ∗ ⌜arg6.view.read (Elt F) f = st3 (arg2.view.read (Elt F) X2) (arg3.view.read (Elt F) X3) (arg11.view.read (Elt F) X11) (arg6.view.read (Elt F) X6) k⌝)
  step k acc := by
    iintro ⟨H, ⟨%f, H6, %hf⟩⟩
    iapply (wp_wand_r Idealize.ShloMosaic.frame (wpE (defs₀ (F := F)) 𝒱 (c : Thread nD τ) bd) E)
    isplitl [H H6]
    · iapply (trip3 (F := F) 𝒱 c bd E i arg2 harg2 arg3 harg3 arg4 harg4 arg5 harg5 arg6 harg6 arg7 harg7 arg8 harg8 arg9 harg9 arg10 harg10 arg11 harg11 arg12 harg12 k2_h4 X2 X3 f X11 k)
      isplitl [H]; · iexact H
      iexact H6
    · iintro %r ⟨H, ⟨%f', H6, %hf'⟩⟩
      isplitl [H]; · iexact H
      iexists f'
      isplitl [H6]; · iexact H6
      ipureintro
      rw [hf', st3_succ, hf]

end Cert.Proof.KernelIdeal

end
-- ==== Proof.Body.lean ====
/-
  One grid point of the kernel, as a function of what its buffers hold.

  The block's columns are spread along the lanes; the bounds of its eight chunks are written behind the bounds of the forty tiles,
  which the first block of an image writes; the tile loop runs; and the last block of an image writes the output.
-/
module

public import proofs.«01_k».proof.Proof.T2
public import Idealize.ShloMosaic.Lib.CellWrites

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body writes -/

section Words

variable (x2 : Vec F S1x40x2x128 .f32) (x4 : Vec F S1x1024x2 .f32) (x5 : Vec F S1x1024x16 .f32)

/-- The block's starts, and its ends. -/
abbrev blkS : Vec F S1x1024x1 .f32 := View.ld x4 (Rect.unit (s := S1x1024x2) ![0, 0, 0] S1x1024x1.size inb_S1x1024x2_S1x1024x1_0_0_0)
abbrev blkE : Vec F S1x1024x1 .f32 := View.ld x4 (Rect.unit (s := S1x1024x2) ![0, 0, 1] S1x1024x1.size inb_S1x1024x2_S1x1024x1_0_0_1)

theorem col_inb (cl : Fin 10) : ∀ a, (![0, 0, cl.val] : Fin 3 → ℕ) a + S1x1024x1.size a ≤ S1x1024x16.size a := by
  have := cl.isLt
  intro a
  fin_cases a <;> simp <;> omega

/-- Class `cl`'s column of the block's scores, along the lanes. -/
abbrev blkC (cl : Fin 10) : FVec F S1x1024x128 .f32 :=
  k2_pay173 (View.ld x5 (Rect.unit (s := S1x1024x16) ![0, 0, cl.val] S1x1024x1.size (col_inb cl)))

/-- The ten score rows of the block. -/
def blkSc : Vec F S10x1024x128 .f32 := fun y => blkC x5 (y 0) (fun | 0 => ⟨0, by decide⟩ | 1 => y 1 | 2 => y 2)

theorem tileRow_inb (r : Fin 2) (t : Fin 40) : ∀ a, (![0, t.val, r.val, 0] : Fin 4 → ℕ) a + S1x1x1x128.size a ≤ S1x40x2x128.size a := by
  have := t.isLt
  have := r.isLt
  intro a
  fin_cases a <;> simp <;> omega

/-- Tile `t`'s starts (`r = 0`) or ends (`r = 1`). -/
abbrev tileRow (r : Fin 2) (t : Fin 40) : Vec F S1x1x1x128 .f32 :=
  View.ld x2 (Rect.unit (s := S1x40x2x128) ![0, t.val, r.val, 0] S1x1x1x128.size (tileRow_inb r t))

/-- The bounds of tile `t`: its least start, its greatest end among the boxes with a start below the far constant. -/
abbrev tileLo (t : Fin 40) : F .f32 := k2_pay3 (tileRow x2 0 t)
abbrev tileHi (t : Fin 40) : F .f32 := k2_pay4 (tileRow x2 0 t) (tileRow x2 1 t)

/-- The block's starts as a column, and its ends, the far boxes' replaced. -/
abbrev colS : FVec F S1024x1 .f32 := k2_pay168 (blkS x4)
abbrev colE : FVec F S1024x1 .f32 := k2_pay185 (k2_pay168 (blkS x4)) (k2_pay169 (blkE x4))

theorem chunk_slices (k : Fin 8) : S1024x1.Slices ![128 * k.val, 0] S128x1 := by
  revert k; decide

/-- The bounds of chunk `k` of the block. -/
def chunkLo (k : Fin 8) : F .f32 :=
  extractAt ![0, 0, 0] (shapeCast S1x1x1 (multiReduction .minimumf [1, 2] S1
    (shapeCast S1x128x1 (extractStridedSlice S128x1 ![128 * k.val, 0] (colS x4) (chunk_slices k)) shapeCasts_S128x1_S1x128x1)
    0x7F800000#32 reduces_S1x128x1_S1 (.inl rfl) rfl) shapeCasts_S1_S1x1x1) inpos_S1x1x1_p0_0_0
def chunkHi (k : Fin 8) : F .f32 :=
  extractAt ![0, 0, 0] (shapeCast S1x1x1 (multiReduction .maximumf [1, 2] S1
    (shapeCast S1x128x1 (extractStridedSlice S128x1 ![128 * k.val, 0] (colE x4) (chunk_slices k)) shapeCasts_S128x1_S1x128x1)
    0xFF800000#32 reduces_S1x128x1_S1 (.inl rfl) rfl) shapeCasts_S1_S1x1x1) inpos_S1x1x1_p0_0_0

/-- Word `n` of the tiles' bounds, and word `80 + n` of the chunks'. -/
def tileW (n : ℕ) (h : n < 80) : F .f32 := if n % 2 = 0 then tileLo x2 ⟨n / 2, by omega⟩ else tileHi x2 ⟨n / 2, by omega⟩
def chunkW (n : ℕ) (h : n < 16) : F .f32 := if n % 2 = 0 then chunkLo x4 ⟨n / 2, by omega⟩ else chunkHi x4 ⟨n / 2, by omega⟩

/-- The 96 bounds. -/
def bnds : Vec F S96 .f32 := fun y =>
  if h : (y 0).val < 80 then tileW x2 (y 0).val h
  else chunkW x4 ((y 0).val - 80) (by have : (y 0).val < 96 := (y 0).isLt; omega)

/-- The running maxima after this grid point. -/
def blkM (x11 : Vec F S40x16x128 .f32) : Vec F S40x16x128 .f32 :=
  st1 x2 (k2_pay170 (blkS x4)) (k2_pay171 (blkE x4)) (k2_pay172 (blkS x4) (blkE x4)) (blkSc x5) (bnds x2 x4)
    (k2_pay186 (k2_pay168 (blkS x4))) (k2_pay187 (k2_pay168 (blkS x4)) (k2_pay169 (blkE x4))) x11 k2_t1_loop.trips

end Words

/-! ## Reading back what the body stored -/

section Back

variable {sp : Space}

/-- A word stored at `n` extends the words known to be `b`'s from the first `n` to the first `n + 1`. -/
theorem word_up {v : View sig .tc sp S96 .f32} {f : v.ty.Contents (Elt F)} {b : Vec F S96 .f32} {n k : ℕ} {inb} {p : F .f32}
    {L : List (View.Piece (Elt F) S96 .f32)} (hn : n < 96) (hk : k = n + 1) (hp : p = b (fun | 0 => ⟨n, hn⟩))
    (hL : ∀ y : S96.Idx, (y 0).val < n → v.read (Elt F) (v.writes (Elt F) f L) y = b y) :
    ∀ y : S96.Idx, (y 0).val < k → v.read (Elt F) (v.writes (Elt F) f (⟨Rect.unit (s := S96) ![n] S1.size inb, fun _ => p⟩ :: L)) y = b y := by
  intro y hy
  refine (View.read_writes_cons_cell (d := S96.size) v f inb p L y).trans ?_
  split
  · next h =>
    rw [hp]
    refine congrArg b (funext fun a => ?_)
    fin_cases a
    exact Fin.ext h.symm
  · next h =>
    have h' : (y 0).val ≠ n := h
    exact hL y (by omega)

/-- The same where the words are known from the eightieth on and then round to the first. -/
theorem word_rot {v : View sig .tc sp S96 .f32} {f : v.ty.Contents (Elt F)} {b : Vec F S96 .f32} {n k : ℕ} {inb} {p : F .f32}
    {L : List (View.Piece (Elt F) S96 .f32)} (hn : n < 96) (hk : k = (n + 16) % 96 + 1) (hp : p = b (fun | 0 => ⟨n, hn⟩))
    (hL : ∀ y : S96.Idx, ((y 0).val + 16) % 96 < (n + 16) % 96 → v.read (Elt F) (v.writes (Elt F) f L) y = b y) :
    ∀ y : S96.Idx, ((y 0).val + 16) % 96 < k → v.read (Elt F) (v.writes (Elt F) f (⟨Rect.unit (s := S96) ![n] S1.size inb, fun _ => p⟩ :: L)) y = b y := by
  intro y hy
  refine (View.read_writes_cons_cell (d := S96.size) v f inb p L y).trans ?_
  split
  · next h =>
    rw [hp]
    refine congrArg b (funext fun a => ?_)
    fin_cases a
    exact Fin.ext h.symm
  · next h =>
    have h' : (y 0).val ≠ n := h
    have hy' : (y 0).val < 96 := (y 0).isLt
    exact hL y (by omega)

/-- Before any store of this point the first eighty words are the tiles' bounds. -/
theorem words_base {v : View sig .tc sp S96 .f32} {f : v.ty.Contents (Elt F)} {x2 : Vec F S1x40x2x128 .f32} {x4 : Vec F S1x1024x2 .f32}
    (hw : ∀ (y : S96.Idx) (h : (y 0).val < 80), v.read (Elt F) f y = tileW x2 (y 0).val h) :
    ∀ y : S96.Idx, (y 0).val < 80 → v.read (Elt F) (v.writes (Elt F) f []) y = bnds x2 x4 y := by
  intro y hy
  rw [View.writes_nil, hw y hy]
  exact (dif_pos hy).symm

/-- The words once all are stored. -/
theorem words_all {v : View sig .tc sp S96 .f32} {f : v.ty.Contents (Elt F)} {b : Vec F S96 .f32}
    (h : ∀ y : S96.Idx, ((y 0).val + 16) % 96 < 96 → v.read (Elt F) f y = b y) : ∀ y : S96.Idx, (y 0).val < 96 → v.read (Elt F) f y = b y :=
  fun y _ => h y (Nat.mod_lt _ (by decide))

/-- A score row stored at class `cl` extends the rows known to be the block's. -/
theorem row_up {v : View sig .tc sp S10x1024x128 .f32} {f : v.ty.Contents (Elt F)} {x5 : Vec F S1x1024x16 .f32} {cl : Fin 10} {k : ℕ} {inb}
    {p : FVec F S1x1024x128 .f32} {L : List (View.Piece (Elt F) S10x1024x128 .f32)} (hk : k = cl.val + 1) (hp : p = blkC x5 cl)
    (hL : ∀ y : S10x1024x128.Idx, (y 0).val < cl.val → v.read (Elt F) (v.writes (Elt F) f L) y = blkSc x5 y) :
    ∀ y : S10x1024x128.Idx, (y 0).val < k →
      v.read (Elt F) (v.writes (Elt F) f (⟨Rect.unit (s := S10x1024x128) ![cl.val, 0, 0] S1x1024x128.size inb, p⟩ :: L)) y = blkSc x5 y := by
  intro y hy
  have e := congrFun (View.read_writes_cons_put v f inb p L rfl) y
  refine e.trans ?_
  unfold VecWindow.put
  split
  · next h =>
    rw [hp]
    have h0 := h 0
    have h0' : cl.val ≤ (y 0).val ∧ (y 0).val < cl.val + 1 := h0
    have hc : y 0 = cl := Fin.ext (by omega)
    show blkC x5 cl _ = blkC x5 (y 0) _
    rw [hc]
    refine congrArg (blkC x5 cl) (funext fun a => ?_)
    fin_cases a
    · exact Fin.ext (show (y 0).val - cl.val = 0 by omega)
    · exact Fin.ext (show (y 1).val - 0 = (y 1).val by omega)
    · exact Fin.ext (show (y 2).val - 0 = (y 2).val by omega)
  · next h =>
    refine hL y ?_
    by_contra hlt
    refine h fun a => ?_
    fin_cases a
    · exact ⟨show cl.val ≤ (y 0).val by omega, show (y 0).val < cl.val + 1 by omega⟩
    · exact ⟨Nat.zero_le _, (show (y 1).val < 0 + 1024 by have : (y 1).val < 1024 := (y 1).isLt; omega)⟩
    · exact ⟨Nat.zero_le _, (show (y 2).val < 0 + 128 by have : (y 2).val < 128 := (y 2).isLt; omega)⟩

end Back

/-- The tile loop's result is `blkM` where the buffers hold what the body put there. -/
theorem blkM_of {x2 : Vec F S1x40x2x128 .f32} {x4 : Vec F S1x1024x2 .f32} {x5 : Vec F S1x1024x16 .f32} {a7 a8 a9 : Vec F S1024x128 .f32}
    {a10 : Vec F S10x1024x128 .f32} {a12 : Vec F S96 .f32} {v99 v103 : F .f32} {x11 a11 : Vec F S40x16x128 .f32}
    (h7 : a7 = k2_pay170 (blkS x4)) (h8 : a8 = k2_pay171 (blkE x4)) (h9 : a9 = k2_pay172 (blkS x4) (blkE x4))
    (h10 : ∀ y : S10x1024x128.Idx, (y 0).val < 10 → a10 y = blkSc x5 y) (h12 : ∀ y : S96.Idx, (y 0).val < 96 → a12 y = bnds x2 x4 y)
    (h99 : v99 = k2_pay186 (k2_pay168 (blkS x4))) (h103 : v103 = k2_pay187 (k2_pay168 (blkS x4)) (k2_pay169 (blkE x4))) (h11 : a11 = x11) :
    st1 x2 a7 a8 a9 a10 a12 v99 v103 a11 k2_t1_loop.trips = blkM x2 x4 x5 x11 := by
  have e10 : a10 = blkSc x5 := funext fun y => h10 y (y 0).isLt
  have e12 : a12 = bnds x2 x4 := funext fun y => h12 y (y 0).isLt
  subst h7 h8 h9 e10 e12 h99 h103 h11
  rfl

/-! ## The three kinds of grid point -/

/-- A point of an image's first block: the tiles' bounds are written and the running maxima start at zero. -/
theorem body_first (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole)
    (h1 : Scalar.cmpi .ne (Scalar.extui (Scalar.cmpi .eq (BitVec.ofNat 32 (i 1).val) 0#32) : BitVec 32) 0#32 = 1#1) (h4 : ¬ k2_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) : sProp 𝕄)
      ⊢ wp frame (wpE (defs₀ (F := F)) 𝒱 (c : Thread nD τ) bd) E (cc2__nms_kernel (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
            ∗ (∃ f, (arg11.view.loc (c : Thread nD τ) ↦[arg11.view.set]{fullShare} f) ∗ ⌜arg11.view.read (Elt F) f = blkM (arg2.view.read (Elt F) X2) (arg4.view.read (Elt F) X4) (arg5.view.read (Elt F) X5) (k2_pay205 (F := F))⌝)
            ∗ (∃ f, (arg12.view.loc (c : Thread nD τ) ↦[arg12.view.set]{fullShare} f) ∗ ⌜arg12.view.read (Elt F) f = bnds (arg2.view.read (Elt F) X2) (arg4.view.read (Elt F) X4)⌝))) := by
  rw [cc2__nms_kernel_eq_skeleton]
  unfold cc2__nms_kernel_skel
  iintro ⟨H2, H3, H4, H5, H6, H7, H8, H9, H10, H11, H12⟩
  sl_exec (disch := first | sl_exact h1 | sl_exact h4)
  sl_step
  have hm := hL7.trans (blkM_of (x11 := (k2_pay205 (F := F))) (x5 := (arg5.view.read (Elt F) X5)) (x4 := (arg4.view.read (Elt F) X4)) (View.read_writes_full _ _ _ _ _) (View.read_writes_full _ _ _ _ _) (View.read_writes_full _ _ _ _ _)
    (by
      refine row_up (cl := 9) rfl rfl ?_
      refine row_up (cl := 8) rfl rfl ?_
      refine row_up (cl := 7) rfl rfl ?_
      refine row_up (cl := 6) rfl rfl ?_
      refine row_up (cl := 5) rfl rfl ?_
      refine row_up (cl := 4) rfl rfl ?_
      refine row_up (cl := 3) rfl rfl ?_
      refine row_up (cl := 2) rfl rfl ?_
      refine row_up (cl := 1) rfl rfl ?_
      refine row_up (cl := 0) rfl rfl ?_
      exact fun y h => absurd h (Nat.not_lt_zero _))
    (by
      refine words_all ?_
      repeat (refine word_rot (by decide) rfl ?_ ?_; · rfl)
      exact fun y h => absurd h (Nat.not_lt_zero _)) rfl rfl (View.read_writes_full _ _ _ _ _))
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]
  · iexists _; isplitl [H11]; · iexact H11
    ipureintro
    exact hm
  · iexists _; isplitl [H12]; · iexact H12
    ipureintro
    refine funext fun y => (?_ : ∀ y : S96.Idx, (y 0).val < 96 → _ = _) y (y 0).isLt
    refine words_all ?_
    repeat (refine word_rot (by decide) rfl ?_ ?_; · rfl)
    exact fun y h => absurd h (Nat.not_lt_zero _)

/-- A point of a middle block. -/
theorem body_mid (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole)
    (h1 : ¬ Scalar.cmpi .ne (Scalar.extui (Scalar.cmpi .eq (BitVec.ofNat 32 (i 1).val) 0#32) : BitVec 32) 0#32 = 1#1) (h4 : ¬ k2_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (hw : ∀ (y : S96.Idx) (h : (y 0).val < 80), arg12.view.read (Elt F) X12 y = tileW (arg2.view.read (Elt F) X2) (y 0).val h) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) : sProp 𝕄)
      ⊢ wp frame (wpE (defs₀ (F := F)) 𝒱 (c : Thread nD τ) bd) E (cc2__nms_kernel (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
            ∗ (∃ f, (arg11.view.loc (c : Thread nD τ) ↦[arg11.view.set]{fullShare} f) ∗ ⌜arg11.view.read (Elt F) f = blkM (arg2.view.read (Elt F) X2) (arg4.view.read (Elt F) X4) (arg5.view.read (Elt F) X5) (arg11.view.read (Elt F) X11)⌝)
            ∗ (∃ f, (arg12.view.loc (c : Thread nD τ) ↦[arg12.view.set]{fullShare} f) ∗ ⌜arg12.view.read (Elt F) f = bnds (arg2.view.read (Elt F) X2) (arg4.view.read (Elt F) X4)⌝))) := by
  rw [cc2__nms_kernel_eq_skeleton]
  unfold cc2__nms_kernel_skel
  iintro ⟨H2, H3, H4, H5, H6, H7, H8, H9, H10, H11, H12⟩
  sl_exec (disch := first | sl_exact h1 | sl_exact h4)
  sl_step
  have hm := hL7.trans (blkM_of (x11 := (arg11.view.read (Elt F) X11)) (x5 := (arg5.view.read (Elt F) X5)) (x4 := (arg4.view.read (Elt F) X4)) (View.read_writes_full _ _ _ _ _) (View.read_writes_full _ _ _ _ _) (View.read_writes_full _ _ _ _ _)
    (by
      refine row_up (cl := 9) rfl rfl ?_
      refine row_up (cl := 8) rfl rfl ?_
      refine row_up (cl := 7) rfl rfl ?_
      refine row_up (cl := 6) rfl rfl ?_
      refine row_up (cl := 5) rfl rfl ?_
      refine row_up (cl := 4) rfl rfl ?_
      refine row_up (cl := 3) rfl rfl ?_
      refine row_up (cl := 2) rfl rfl ?_
      refine row_up (cl := 1) rfl rfl ?_
      refine row_up (cl := 0) rfl rfl ?_
      exact fun y h => absurd h (Nat.not_lt_zero _))
    (by
      repeat (refine word_up (by decide) rfl ?_ ?_; · rfl)
      exact words_base hw) rfl rfl rfl)
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]
  · iexists _; isplitl [H11]; · iexact H11
    ipureintro
    exact hm
  · iexists _; isplitl [H12]; · iexact H12
    ipureintro
    refine funext fun y => (?_ : ∀ y : S96.Idx, (y 0).val < 96 → _ = _) y (y 0).isLt
    repeat (refine word_up (by decide) rfl ?_ ?_; · rfl)
    exact words_base hw

/-- A point of an image's last block: the output block is written. -/
theorem body_last (𝒱 : Variants) (c : Dev nD) (bd : Option 𝒱.V) (E : Set ℕ) (i : grid2.Coords) (arg2 : Memref sig .tc .vmem S1x40x2x128 .f32) (harg2 : arg2.IsWhole) (arg3 : Memref sig .tc .vmem S1x40x16x128 .f32) (harg3 : arg3.IsWhole) (arg4 : Memref sig .tc .vmem S1x1024x2 .f32) (harg4 : arg4.IsWhole) (arg5 : Memref sig .tc .vmem S1x1024x16 .f32) (harg5 : arg5.IsWhole) (arg6 : Memref sig .tc .vmem S1x40x8x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S10x1024x128 .f32) (harg10 : arg10.IsWhole) (arg11 : Memref sig .tc .vmem S40x16x128 .f32) (harg11 : arg11.IsWhole) (arg12 : Memref sig .tc .smem S96 .f32) (harg12 : arg12.IsWhole)
    (h1 : ¬ Scalar.cmpi .ne (Scalar.extui (Scalar.cmpi .eq (BitVec.ofNat 32 (i 1).val) 0#32) : BitVec 32) 0#32 = 1#1) (h4 : k2_cond4 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (hw : ∀ (y : S96.Idx) (h : (y 0).val < 80), arg12.view.read (Elt F) X12 y = tileW (arg2.view.read (Elt F) X2) (y 0).val h) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) : sProp 𝕄)
      ⊢ wp frame (wpE (defs₀ (F := F)) 𝒱 (c : Thread nD τ) bd) E (cc2__nms_kernel (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜arg6.view.read (Elt F) f = st3 (arg2.view.read (Elt F) X2) (arg3.view.read (Elt F) X3) (blkM (arg2.view.read (Elt F) X2) (arg4.view.read (Elt F) X4) (arg5.view.read (Elt F) X5) (arg11.view.read (Elt F) X11)) (arg6.view.read (Elt F) X6) k2_t3_loop.trips⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))
            ∗ (∃ f, (arg11.view.loc (c : Thread nD τ) ↦[arg11.view.set]{fullShare} f) ∗ ⌜arg11.view.read (Elt F) f = blkM (arg2.view.read (Elt F) X2) (arg4.view.read (Elt F) X4) (arg5.view.read (Elt F) X5) (arg11.view.read (Elt F) X11)⌝)
            ∗ (∃ f, (arg12.view.loc (c : Thread nD τ) ↦[arg12.view.set]{fullShare} f) ∗ ⌜arg12.view.read (Elt F) f = bnds (arg2.view.read (Elt F) X2) (arg4.view.read (Elt F) X4)⌝))) := by
  rw [cc2__nms_kernel_eq_skeleton]
  unfold cc2__nms_kernel_skel
  iintro ⟨H2, H3, H4, H5, H6, H7, H8, H9, H10, H11, H12⟩
  sl_exec (disch := first | sl_exact h1 | sl_exact h4)
  sl_step
  have hm := hL7.trans (blkM_of (x11 := (arg11.view.read (Elt F) X11)) (x5 := (arg5.view.read (Elt F) X5)) (x4 := (arg4.view.read (Elt F) X4)) (View.read_writes_full _ _ _ _ _) (View.read_writes_full _ _ _ _ _) (View.read_writes_full _ _ _ _ _)
    (by
      refine row_up (cl := 9) rfl rfl ?_
      refine row_up (cl := 8) rfl rfl ?_
      refine row_up (cl := 7) rfl rfl ?_
      refine row_up (cl := 6) rfl rfl ?_
      refine row_up (cl := 5) rfl rfl ?_
      refine row_up (cl := 4) rfl rfl ?_
      refine row_up (cl := 3) rfl rfl ?_
      refine row_up (cl := 2) rfl rfl ?_
      refine row_up (cl := 1) rfl rfl ?_
      refine row_up (cl := 0) rfl rfl ?_
      exact fun y h => absurd h (Nat.not_lt_zero _))
    (by
      repeat (refine word_up (by decide) rfl ?_ ?_; · rfl)
      exact words_base hw) rfl rfl rfl)
  isplitl [H2]; · iexact H2
  isplitl [H3]; · iexact H3
  isplitl [H4]; · iexact H4
  isplitl [H5]; · iexact H5
  isplitl [H6]
  · iexists _; isplitl [H6]; · iexact H6
    ipureintro
    rw [← hm]
    exact hL12
  isplitl [H7]; · iexists _; iexact H7
  isplitl [H8]; · iexists _; iexact H8
  isplitl [H9]; · iexists _; iexact H9
  isplitl [H10]; · iexists _; iexact H10
  isplitl [H11]
  · iexists _; isplitl [H11]; · iexact H11
    ipureintro
    exact hm
  · iexists _; isplitl [H12]; · iexact H12
    ipureintro
    refine funext fun y => (?_ : ∀ y : S96.Idx, (y 0).val < 96 → _ = _) y (y 0).isLt
    repeat (refine word_up (by decide) rfl ?_ ?_; · rfl)
    exact words_base hw

end Cert.Proof.KernelIdeal

end
-- ==== Proof.Region.lean ====
/-
The call, run on its grid: 4 images × 5 blocks of 1024 candidates. What one core carries from a grid point to the next (the running
maxima of the image and the bounds of its tiles), the body at each point, the launch, and the array the call returns.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.ValueIdx
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds Idealize.ShloMosaic.ValueIdx
open Idealize.ShloMosaic.Pipeline (Dat Cfg Window BodyObligation cellOf)

local notation "𝕄" => MT nD τ sig Unit (Elt F) ℕ (UR sig nD τ) ℕ

/-! ## The block the last point of an image writes -/

theorem trips3 : k2_t3_loop.trips = 40 := by decide

/-- The block written for an image: each tile's row, from the image's tiles, its scores and the running maxima. -/
def outBlk (x2 : Vec F S1x40x2x128 .f32) (x3 : Vec F S1x40x16x128 .f32) (x11 : Vec F S40x16x128 .f32) : Vec F S1x40x8x128 .f32 := fun y =>
  row3 x2 x3 x11 ⟨(y 1).val, trips3 ▸ (y 1).isLt⟩ (ix4 ⟨0, by decide⟩ ⟨0, by decide⟩ (y 2) (y 3))

/-- After `n` tiles the buffer holds those tiles' rows. -/
theorem st3_below (x2 : Vec F S1x40x2x128 .f32) (x3 : Vec F S1x40x16x128 .f32) (x11 : Vec F S40x16x128 .f32) (x6 : Vec F S1x40x8x128 .f32) :
    ∀ n ≤ 40, ∀ y : S1x40x8x128.Idx, (y 1).val < n → st3 x2 x3 x11 x6 n y = outBlk x2 x3 x11 y := by
  intro n
  induction n with
  | zero => intro _ y h; exact absurd h (Nat.not_lt_zero _)
  | succ n ih =>
    intro hn y hy
    have hk : n < k2_t3_loop.trips := by rw [trips3]; omega
    have h0 : (y 0).val < 1 := (y 0).isLt
    have h2 : (y 2).val < 8 := (y 2).isLt
    have h3 : (y 3).val < 128 := (y 3).isLt
    rw [show n + 1 = (⟨n, hk⟩ : Fin k2_t3_loop.trips).val + 1 from rfl, st3_succ]
    unfold VecWindow.put
    by_cases e : (y 1).val = n
    · have hin : ∀ a, k2_off25 ⟨n, hk⟩ a ≤ (y a).val ∧ (y a).val < k2_off25 ⟨n, hk⟩ a + S1x1x8x128.size a := by
        intro a; rw [k2_off25_eq]
        match a with
        | ⟨0, _⟩ => exact ⟨Nat.zero_le _, show (y 0).val < 0 + 1 by omega⟩
        | ⟨1, _⟩ => exact ⟨show n ≤ (y 1).val by omega, show (y 1).val < n + 1 by omega⟩
        | ⟨2, _⟩ => exact ⟨Nat.zero_le _, show (y 2).val < 0 + 8 by omega⟩
        | ⟨3, _⟩ => exact ⟨Nat.zero_le _, show (y 3).val < 0 + 128 by omega⟩
      rw [dif_pos hin]
      unfold outBlk
      have hkk : (⟨(y 1).val, trips3 ▸ (y 1).isLt⟩ : Fin k2_t3_loop.trips) = ⟨n, hk⟩ := Fin.ext e
      rw [hkk]
      refine congrArg _ (funext fun a => Fin.ext ?_)
      show (y a).val - k2_off25 ⟨n, hk⟩ a = _
      rw [k2_off25_eq]
      match a with
      | ⟨0, _⟩ => show (y 0).val - 0 = 0; omega
      | ⟨1, _⟩ => show (y 1).val - n = 0; omega
      | ⟨2, _⟩ => show (y 2).val - 0 = (y 2).val; omega
      | ⟨3, _⟩ => show (y 3).val - 0 = (y 3).val; omega
    · rw [dif_neg]
      · exact ih (by omega) y (by omega)
      · intro hin
        have := (hin 1).1
        rw [k2_off25_eq] at this
        have : n ≤ (y 1).val := this
        omega

/-- All forty tiles: the block, whatever the buffer held. -/
theorem st3_all (x2 : Vec F S1x40x2x128 .f32) (x3 : Vec F S1x40x16x128 .f32) (x11 : Vec F S40x16x128 .f32) (x6 : Vec F S1x40x8x128 .f32) :
    st3 x2 x3 x11 x6 k2_t3_loop.trips = outBlk x2 x3 x11 := by
  funext y; rw [trips3]; exact st3_below x2 x3 x11 x6 40 le_rfl y (y 1).isLt

/-! ## The blocks of the call's operands -/

variable (V : Dev nD → Valuation τ sig (Elt F))

/-- Image `b`'s boxes by tile: 40 tiles of 128, starts and ends. -/
def tb (c : Dev nD) (b : ℕ) : Vec F S1x40x2x128 .f32 := fun y =>
  (V c main_v47 : Vec F S4x40x2x128 .f32) (ix4 ⟨b % 4, Nat.mod_lt _ (by decide)⟩ (y 1) (y 2) (y 3))
/-- Image `b`'s scores by tile. -/
def gb (c : Dev nD) (b : ℕ) : Vec F S1x40x16x128 .f32 := fun y =>
  (V c main_v49 : Vec F S4x40x16x128 .f32) (ix4 ⟨b % 4, Nat.mod_lt _ (by decide)⟩ (y 1) (y 2) (y 3))
/-- Image `b`'s boxes of block `j`: 1024 candidates, start and end side by side. -/
def cb (c : Dev nD) (b j : ℕ) : Vec F S1x1024x2 .f32 := fun y =>
  (V c main_v44 : Vec F S4x5120x2 .f32) (ix3 ⟨b % 4, Nat.mod_lt _ (by decide)⟩ ⟨(j * 1024 + (y 1).val) % 5120, Nat.mod_lt _ (by decide)⟩ (y 2))
/-- Image `b`'s scores of block `j`. -/
def sb (c : Dev nD) (b j : ℕ) : Vec F S1x1024x16 .f32 := fun y =>
  (V c main_v45 : Vec F S4x5120x16 .f32) (ix3 ⟨b % 4, Nat.mod_lt _ (by decide)⟩ ⟨(j * 1024 + (y 1).val) % 5120, Nat.mod_lt _ (by decide)⟩ (y 2))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem idx_0 : ∀ t : Fin cfg2.N, win2_0.index t = ![t.val / 5, 0, 0, 0] := by decide +kernel
theorem idx_1 : ∀ t : Fin cfg2.N, win2_1.index t = ![t.val / 5, 0, 0, 0] := by decide +kernel
theorem idx_2 : ∀ t : Fin cfg2.N, win2_2.index t = ![t.val / 5, t.val % 5, 0] := by decide +kernel
theorem idx_3 : ∀ t : Fin cfg2.N, win2_3.index t = ![t.val / 5, t.val % 5, 0] := by decide +kernel
theorem idx_4 : ∀ t : Fin cfg2.N, win2_4.index t = ![t.val / 5, 0, 0, 0] := by decide +kernel

theorem lt20 (t : Fin cfg2.N) : t.val < 20 := N_2 ▸ t.isLt

theorem iblk_0 (c : Dev nD) (t : Fin cfg2.N) : (iblk V c 0 t : Vec F S1x40x2x128 .f32) = tb V c (t.val / 5) := by
  have := lt20 t
  funext y
  have h0 : (y 0).val < 1 := (y 0).isLt
  unfold iblk tb
  rw [View.read_apply]
  refine congrArg (V c main_v47 : Vec F S4x40x2x128 .f32) (funext fun a => Fin.ext ?_)
  show win2_0.index t a * S1x40x2x128.size a + 1 * (y a).val = _
  rw [idx_0]
  match a with
  | ⟨0, _⟩ => show t.val / 5 * 1 + 1 * (y 0).val = t.val / 5 % 4; omega
  | ⟨1, _⟩ => show 0 * 40 + 1 * (y 1).val = (y 1).val; omega
  | ⟨2, _⟩ => show 0 * 2 + 1 * (y 2).val = (y 2).val; omega
  | ⟨3, _⟩ => show 0 * 128 + 1 * (y 3).val = (y 3).val; omega

theorem iblk_1 (c : Dev nD) (t : Fin cfg2.N) : (iblk V c 1 t : Vec F S1x40x16x128 .f32) = gb V c (t.val / 5) := by
  have := lt20 t
  funext y
  have h0 : (y 0).val < 1 := (y 0).isLt
  unfold iblk gb
  rw [View.read_apply]
  refine congrArg (V c main_v49 : Vec F S4x40x16x128 .f32) (funext fun a => Fin.ext ?_)
  show win2_1.index t a * S1x40x16x128.size a + 1 * (y a).val = _
  rw [idx_1]
  match a with
  | ⟨0, _⟩ => show t.val / 5 * 1 + 1 * (y 0).val = t.val / 5 % 4; omega
  | ⟨1, _⟩ => show 0 * 40 + 1 * (y 1).val = (y 1).val; omega
  | ⟨2, _⟩ => show 0 * 16 + 1 * (y 2).val = (y 2).val; omega
  | ⟨3, _⟩ => show 0 * 128 + 1 * (y 3).val = (y 3).val; omega

theorem iblk_2 (c : Dev nD) (t : Fin cfg2.N) : (iblk V c 2 t : Vec F S1x1024x2 .f32) = cb V c (t.val / 5) (t.val % 5) := by
  have := lt20 t
  funext y
  have h0 : (y 0).val < 1 := (y 0).isLt
  have h1 : (y 1).val < 1024 := (y 1).isLt
  unfold iblk cb
  rw [View.read_apply]
  refine congrArg (V c main_v44 : Vec F S4x5120x2 .f32) (funext fun a => Fin.ext ?_)
  show win2_2.index t a * S1x1024x2.size a + 1 * (y a).val = _
  rw [idx_2]
  match a with
  | ⟨0, _⟩ => show t.val / 5 * 1 + 1 * (y 0).val = t.val / 5 % 4; omega
  | ⟨1, _⟩ => show t.val % 5 * 1024 + 1 * (y 1).val = (t.val % 5 * 1024 + (y 1).val) % 5120; omega
  | ⟨2, _⟩ => show 0 * 2 + 1 * (y 2).val = (y 2).val; omega

theorem iblk_3 (c : Dev nD) (t : Fin cfg2.N) : (iblk V c 3 t : Vec F S1x1024x16 .f32) = sb V c (t.val / 5) (t.val % 5) := by
  have := lt20 t
  funext y
  have h0 : (y 0).val < 1 := (y 0).isLt
  have h1 : (y 1).val < 1024 := (y 1).isLt
  unfold iblk sb
  rw [View.read_apply]
  refine congrArg (V c main_v45 : Vec F S4x5120x16 .f32) (funext fun a => Fin.ext ?_)
  show win2_3.index t a * S1x1024x16.size a + 1 * (y a).val = _
  rw [idx_3]
  match a with
  | ⟨0, _⟩ => show t.val / 5 * 1 + 1 * (y 0).val = t.val / 5 % 4; omega
  | ⟨1, _⟩ => show t.val % 5 * 1024 + 1 * (y 1).val = (t.val % 5 * 1024 + (y 1).val) % 5120; omega
  | ⟨2, _⟩ => show 0 * 16 + 1 * (y 2).val = (y 2).val; omega

/-! ## What is carried from point to point -/

/-- The running maxima of image `b` after its first `j` blocks of candidates. -/
def runM (c : Dev nD) (b : ℕ) : ℕ → Vec F S40x16x128 .f32
  | 0 => k2_pay205
  | j + 1 => blkM (tb V c b) (cb V c b j) (sb V c b j) (runM c b j)

/-- The maxima's buffer before point `n`: inside an image it holds those of the blocks gone through. -/
def maxOK (c : Dev nD) (n : ℕ) (X : Vec F S40x16x128 .f32) : Prop := n % 5 ≠ 0 → X = runM V c (n / 5) (n % 5)
/-- The bounds' buffer before point `n`: inside an image it holds the bounds of the image's tiles. -/
def bndOK (c : Dev nD) (n : ℕ) (X : Vec F S96 .f32) : Prop :=
  n % 5 ≠ 0 → ∀ (y : S96.Idx) (h : (y 0).val < 80), X y = tileW (tb V c (n / 5)) (y 0).val h

theorem maxOK_succ (c : Dev nD) (n : ℕ) (X : Vec F S40x16x128 .f32) (h : X = runM V c (n / 5) (n % 5 + 1)) : maxOK V c (n + 1) X := by
  intro h5
  have e1 : (n + 1) / 5 = n / 5 := by omega
  have e2 : (n + 1) % 5 = n % 5 + 1 := by omega
  rw [e1, e2]; exact h

theorem bndOK_succ (c : Dev nD) (n : ℕ) (X : Vec F S96 .f32) (x4 : Vec F S1x1024x2 .f32) (h : X = bnds (tb V c (n / 5)) x4) : bndOK V c (n + 1) X := by
  intro h5 y hy
  have e1 : (n + 1) / 5 = n / 5 := by omega
  rw [e1, h]; unfold bnds; rw [dif_pos hy]

/-- The staging buffers of the two earlier calls: theirs, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The scratch buffers before point `n`, beside what the call does not touch. -/
def Carry (c : Dev nD) (n : ℕ) : sProp 𝕄 :=
  iprop((∃ X, owns (c : Thread nD τ) (Memref.whole cc2_scratch0) fullShare X) ∗ (∃ X, owns (c : Thread nD τ) (Memref.whole cc2_scratch1) fullShare X)
    ∗ (∃ X, owns (c : Thread nD τ) (Memref.whole cc2_scratch2) fullShare X) ∗ (∃ X, owns (c : Thread nD τ) (Memref.whole cc2_scratch3) fullShare X)
    ∗ (∃ X, ⌜maxOK V c n X⌝ ∗ owns (c : Thread nD τ) (Memref.whole cc2_scratch4) fullShare X)
    ∗ (∃ X, ⌜bndOK V c n X⌝ ∗ owns (c : Thread nD τ) (Memref.whole cc2_scratch5) fullShare X)
    ∗ others c ∗ ∃ r, prngReg c r)

/-- The block window 4 is left at. -/
def outAt (c : Dev nD) (n : ℕ) : Vec F S1x40x8x128 .f32 :=
  outBlk (tb V c (n / 5)) (gb V c (n / 5)) (runM V c (n / 5) (n % 5 + 1))

/-- The proof data of the call's pipeline. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val
  Φ t := Carry V c t.val
  q _ := fullShare
  owed _ := 0

theorem A_eq (c : Dev nD) (w : Fin cfg2.W) : (dat V c).A w = V c (Pipeline.arrRef spec2 w) := by
  dsimp only [dat]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = outAt V c t.val := by dsimp only [dat]

theorem before2_0 (c : Dev nD) (t : Fin cfg2.N) (d) : (dat V c).before 0 t d = iblk V c 0 t :=
  ((dat V c).before_in_eq_fetched 0 rfl (fun _ => rfl) (fun _ _ _ => rfl)
    (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (dat V c).before 1 t d = iblk V c 1 t :=
  ((dat V c).before_in_eq_fetched 1 rfl (fun _ => rfl) (fun _ _ _ => rfl)
    (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (dat V c).before 2 t d = iblk V c 2 t :=
  ((dat V c).before_in_eq_fetched 2 rfl (fun _ => rfl) (fun _ _ _ => rfl)
    (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (dat V c).before 3 t d = iblk V c 3 t :=
  ((dat V c).before_in_eq_fetched 3 rfl (fun _ => rfl) (fun _ _ _ => rfl)
    (fun t => by rw [after2_3]; unfold Dat.blockOf iblk; rw [A_eq]; try rfl) t d).trans
    (by unfold Dat.fetched Dat.blockOf iblk; rw [A_eq]; try rfl)

theorem Phi_cast (c : Dev nD) (t : Fin cfg2.N) : (dat V c).Φ t.castSucc = Carry V c t.val := by dsimp only [dat, Fin.val_castSucc]
theorem Phi_succ (c : Dev nD) (t : Fin cfg2.N) : (dat V c).Φ t.succ = Carry V c (t.val + 1) := by dsimp only [dat, Fin.val_succ]

/-! ## The body at a point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns; `W4` is the output window's part. -/
def bodyPost (c : Dev nD) (t : Fin cfg2.N) (W4 : sProp 𝕄) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ W4)

/-- The output window's part where the point does not write it: handed back as found. -/
def keep4 (c : Dev nD) (t : Fin cfg2.N) : sProp 𝕄 := iprop(∃ d, owns (c : Thread nD τ) (st2_4 t) fullShare ((dat V c).before 4 t d))

theorem cond1_iff : ∀ t : Fin cfg2.N,
    Scalar.cmpi .ne (Scalar.extui (Scalar.cmpi .eq (BitVec.ofNat 32 ((grid2.coords t) 1).val) 0#32) : BitVec 32) 0#32 = 1#1 ↔ t.val % 5 = 0 := by
  decide +kernel
theorem cond4_iff : ∀ t : Fin cfg2.N, k2_cond4 (grid2.coords t) = 1#1 ↔ t.val % 5 = 4 := by decide +kernel
theorem idle4 : ∀ t : Fin cfg2.N, cfg2.idle 4 (grid2.coords t) = !decide (t.val % 5 = 4) := by decide +kernel

theorem runM_succ (c : Dev nD) (b j : ℕ) : blkM (tb V c b) (cb V c b j) (sb V c b j) (runM V c b j) = runM V c b (j + 1) := rfl

theorem sound_first (c : Dev nD) (t : Fin cfg2.N) (h : t.val % 5 = 0) :
    bodyPre V c t ⊢ wp frame (wpE (defs₀ (F := F)) Variants.none c none) Set.univ (bodyAt2 t) (fun _ => bodyPost V c t (keep4 V c t)) := by
  unfold bodyPre bodyPost keep4 bodyAt2
  simp only [before2_0, before2_1, before2_2, before2_3]
  rw [show (dat V c).owesAt () t.succ = (dat V c).owesAt () t.castSucc from rfl,
    after2_0, after2_1, after2_2, after2_3, Phi_cast, Phi_succ]
  unfold Carry owns
  iintro ⟨⟨⟨%z7, %f7, -, H7⟩, ⟨%z8, %f8, -, H8⟩, ⟨%z9, %f9, -, H9⟩, ⟨%z10, %f10, -, H10⟩, ⟨%X11, %hX11, %f11, %e11, H11⟩, ⟨%X12, %hX12, %f12, %e12, H12⟩, Hr⟩, Ho,
    ⟨%d0, %f2, %e2, H2⟩, ⟨%d1, %f3, %e3, H3⟩, ⟨%d2, %f4, %e4, H4⟩, ⟨%d3, %f5, %e5, H5⟩, ⟨%d4, %f6, %e6, H6⟩⟩
  iapply (wp_wand_r Idealize.ShloMosaic.frame (wpE (defs₀ (F := F)) Variants.none (c : Thread nD τ) none) Set.univ)
  isplitl [H2 H3 H4 H5 H6 H7 H8 H9 H10 H11 H12]
  · iapply (body_first (F := F) Variants.none c none Set.univ (grid2.coords t) _ _ _ _ _ _ _ _ _ _ _ _ _ _ _ _ _ _ _ _ _ _
      ((cond1_iff t).2 h) (fun h4 => absurd ((cond4_iff t).1 h4) (by omega)) f2 f3 f4 f5 f6 f7 f8 f9 f10 f11 f12)
    sl_close
  · iintro %r ⟨H2, H3, H4, H5, H6, ⟨%g7, H7⟩, ⟨%g8, H8⟩, ⟨%g9, H9⟩, ⟨%g10, H10⟩, ⟨%g11, H11, %q11⟩, ⟨%g12, H12, %q12⟩⟩
    rw [e2, e4, e5, iblk_0, iblk_2, iblk_3] at q11
    rw [e2, e4, iblk_0, iblk_2] at q12
    isplitl [H7 H8 H9 H10 H11 H12 Hr]
    · isplitl [H7]; · iexists _, g7; isplitr; · ipureintro; rfl
                      iexact H7
      isplitl [H8]; · iexists _, g8; isplitr; · ipureintro; rfl
                      iexact H8
      isplitl [H9]; · iexists _, g9; isplitr; · ipureintro; rfl
                      iexact H9
      isplitl [H10]; · iexists _, g10; isplitr; · ipureintro; rfl
                       iexact H10
      isplitl [H11]
      · iexists _; isplitr; swap
        · iexists g11; isplitr; · ipureintro; rfl
          iexact H11
        · ipureintro
          refine maxOK_succ V c t.val _ (q11.trans ?_)
          rw [h]; rfl
      isplitl [H12]
      · iexists _; isplitr; swap
        · iexists g12; isplitr; · ipureintro; rfl
          iexact H12
        · ipureintro
          exact bndOK_succ V c t.val _ _ q12
      iexact Hr
    isplitl [Ho]; · iexact Ho
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists d4, f6; isplitr; · ipureintro; exact e6
    iexact H6

theorem sound_mid (c : Dev nD) (t : Fin cfg2.N) (h : t.val % 5 ≠ 0) (h' : t.val % 5 ≠ 4) :
    bodyPre V c t ⊢ wp frame (wpE (defs₀ (F := F)) Variants.none c none) Set.univ (bodyAt2 t) (fun _ => bodyPost V c t (keep4 V c t)) := by
  unfold bodyPre bodyPost keep4 bodyAt2
  simp only [before2_0, before2_1, before2_2, before2_3]
  rw [show (dat V c).owesAt () t.succ = (dat V c).owesAt () t.castSucc from rfl,
    after2_0, after2_1, after2_2, after2_3, Phi_cast, Phi_succ]
  unfold Carry owns
  iintro ⟨⟨⟨%z7, %f7, -, H7⟩, ⟨%z8, %f8, -, H8⟩, ⟨%z9, %f9, -, H9⟩, ⟨%z10, %f10, -, H10⟩, ⟨%X11, %hX11, %f11, %e11, H11⟩, ⟨%X12, %hX12, %f12, %e12, H12⟩, Hr⟩, Ho,
    ⟨%d0, %f2, %e2, H2⟩, ⟨%d1, %f3, %e3, H3⟩, ⟨%d2, %f4, %e4, H4⟩, ⟨%d3, %f5, %e5, H5⟩, ⟨%d4, %f6, %e6, H6⟩⟩
  iapply (wp_wand_r Idealize.ShloMosaic.frame (wpE (defs₀ (F := F)) Variants.none (c : Thread nD τ) none) Set.univ)
  isplitl [H2 H3 H4 H5 H6 H7 H8 H9 H10 H11 H12]
  · iapply (body_mid (F := F) Variants.none c none Set.univ (grid2.coords t) _ _ _ _ _ _ _ _ _ _ _ _ _ _ _ _ _ _ _ _ _ _
      (fun h1 => h ((cond1_iff t).1 h1)) (fun h4 => h' ((cond4_iff t).1 h4)) f2 f3 f4 f5 f6 f7 f8 f9 f10 f11 f12
      (fun y hy => by rw [e2, e12, iblk_0]; exact hX12 h y hy))
    sl_close
  · iintro %r ⟨H2, H3, H4, H5, H6, ⟨%g7, H7⟩, ⟨%g8, H8⟩, ⟨%g9, H9⟩, ⟨%g10, H10⟩, ⟨%g11, H11, %q11⟩, ⟨%g12, H12, %q12⟩⟩
    rw [e2, e4, e5, iblk_0, iblk_2, iblk_3] at q11
    rw [e2, e4, iblk_0, iblk_2] at q12
    isplitl [H7 H8 H9 H10 H11 H12 Hr]
    · isplitl [H7]; · iexists _, g7; isplitr; · ipureintro; rfl
                      iexact H7
      isplitl [H8]; · iexists _, g8; isplitr; · ipureintro; rfl
                      iexact H8
      isplitl [H9]; · iexists _, g9; isplitr; · ipureintro; rfl
                      iexact H9
      isplitl [H10]; · iexists _, g10; isplitr; · ipureintro; rfl
                       iexact H10
      isplitl [H11]
      · iexists _; isplitr; swap
        · iexists g11; isplitr; · ipureintro; rfl
          iexact H11
        · ipureintro
          refine maxOK_succ V c t.val _ (q11.trans ?_)
          rw [e11, hX11 h]; rfl
      isplitl [H12]
      · iexists _; isplitr; swap
        · iexists g12; isplitr; · ipureintro; rfl
          iexact H12
        · ipureintro
          exact bndOK_succ V c t.val _ _ q12
      iexact Hr
    isplitl [Ho]; · iexact Ho
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists d4, f6; isplitr; · ipureintro; exact e6
    iexact H6

set_option maxHeartbeats 1000000 in
theorem sound_last (c : Dev nD) (t : Fin cfg2.N) (h' : t.val % 5 = 4) :
    bodyPre V c t ⊢ wp frame (wpE (defs₀ (F := F)) Variants.none c none) Set.univ (bodyAt2 t) (fun _ => bodyPost V c t (owns (c : Thread nD τ) (st2_4 t) fullShare ((dat V c).after 4 t))) := by
  have h : t.val % 5 ≠ 0 := by omega
  unfold bodyPre bodyPost bodyAt2
  simp only [before2_0, before2_1, before2_2, before2_3]
  rw [show (dat V c).owesAt () t.succ = (dat V c).owesAt () t.castSucc from rfl,
    after2_0, after2_1, after2_2, after2_3, after2_4, Phi_cast, Phi_succ]
  unfold Carry owns
  iintro ⟨⟨⟨%z7, %f7, -, H7⟩, ⟨%z8, %f8, -, H8⟩, ⟨%z9, %f9, -, H9⟩, ⟨%z10, %f10, -, H10⟩, ⟨%X11, %hX11, %f11, %e11, H11⟩, ⟨%X12, %hX12, %f12, %e12, H12⟩, Hr⟩, Ho,
    ⟨%d0, %f2, %e2, H2⟩, ⟨%d1, %f3, %e3, H3⟩, ⟨%d2, %f4, %e4, H4⟩, ⟨%d3, %f5, %e5, H5⟩, ⟨%d4, %f6, %e6, H6⟩⟩
  iapply (wp_wand_r Idealize.ShloMosaic.frame (wpE (defs₀ (F := F)) Variants.none (c : Thread nD τ) none) Set.univ)
  isplitl [H2 H3 H4 H5 H6 H7 H8 H9 H10 H11 H12]
  · iapply (body_last (F := F) Variants.none c none Set.univ (grid2.coords t) _ _ _ _ _ _ _ _ _ _ _ _ _ _ _ _ _ _ _ _ _ _
      (fun h1 => h ((cond1_iff t).1 h1)) ((cond4_iff t).2 h') f2 f3 f4 f5 f6 f7 f8 f9 f10 f11 f12
      (fun y hy => by rw [e2, e12, iblk_0]; exact hX12 h y hy))
    sl_close
  · iintro %r ⟨H2, H3, H4, H5, ⟨%g6, H6, %q6⟩, ⟨%g7, H7⟩, ⟨%g8, H8⟩, ⟨%g9, H9⟩, ⟨%g10, H10⟩, ⟨%g11, H11, %q11⟩, ⟨%g12, H12, %q12⟩⟩
    rw [st3_all, e2, e3, e4, e5, e11, hX11 h, iblk_0, iblk_1, iblk_2, iblk_3, runM_succ] at q6
    rw [e2, e4, e5, iblk_0, iblk_2, iblk_3] at q11
    rw [e2, e4, iblk_0, iblk_2] at q12
    isplitl [H7 H8 H9 H10 H11 H12 Hr]
    · isplitl [H7]; · iexists _, g7; isplitr; · ipureintro; rfl
                      iexact H7
      isplitl [H8]; · iexists _, g8; isplitr; · ipureintro; rfl
                      iexact H8
      isplitl [H9]; · iexists _, g9; isplitr; · ipureintro; rfl
                      iexact H9
      isplitl [H10]; · iexists _, g10; isplitr; · ipureintro; rfl
                       iexact H10
      isplitl [H11]
      · iexists _; isplitr; swap
        · iexists g11; isplitr; · ipureintro; rfl
          iexact H11
        · ipureintro
          refine maxOK_succ V c t.val _ (q11.trans ?_)
          rw [e11, hX11 h]; rfl
      isplitl [H12]
      · iexists _; isplitr; swap
        · iexists g12; isplitr; · ipureintro; rfl
          iexact H12
        · ipureintro
          exact bndOK_succ V c t.val _ _ q12
      iexact Hr
    isplitl [Ho]; · iexact Ho
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists g6; isplitr; · ipureintro; exact q6
    iexact H6

/-! ## The launch -/

theorem defs₀_row (t : Fin cfg2.N) :
    defs₀ (F := F) .tc cfg2.body (cfg2.bodyArgs t (cfg2.slots t)) = bodyAt2 t := by
  unfold defs₀; rw [Defs.onTc_tc]

theorem flush4_false (t : Fin cfg2.N) (h : t.val % 5 ≠ 4) : (cfg2.win 4).flush t = false := by
  cases e : (cfg2.win 4).flush t
  · rfl
  · exact absurd ((flush2_4 t).1 e) h

/-- The body obligation at every point: the first block of an image, a middle one, or the last. -/
theorem body_obligation (c : Dev nD) : BodyObligation (dat V c) (defs₀ (F := F)) Variants.none () Set.univ := fun t => by
  rw [bigSep_W2, bigSep_W2, defs₀_row]
  by_cases h' : t.val % 5 = 4
  · have hi : cfg2.idle 4 (cfg2.grid.coords t) = false := (idle4 t).trans (by simp [h'])
    rw [hi]
    exact triple_restated (sound_last V c t h') rfl .rfl fun _ => .rfl
  · have hi : cfg2.idle 4 (cfg2.grid.coords t) = true := (idle4 t).trans (by simp [h'])
    rw [hi, flush4_false t h']
    by_cases h : t.val % 5 = 0
    · exact triple_restated (sound_first V c t h) rfl .rfl fun _ => .rfl
    · exact triple_restated (sound_mid V c t h h') rfl .rfl fun _ => .rfl

theorem carry_in (c : Dev nD) : Pipeline.ΦA spec2 c ⊢ (dat V c).Φ 0 := by
  rw [show (dat V c).Φ 0 = Carry V c 0 from by dsimp only [dat, Fin.val_zero]]
  unfold Pipeline.ΦA Carry others
  rw [scopedRest2_eq]
  simp only [owns_whole]
  iintro ⟨⟨G0, G1, G2, G3, G4, G5, G6, G7, G8, G9, G10, G11, G12, G13, G14, G15, ⟨%f0, H0⟩, ⟨%f1, H1⟩, ⟨%f2, H2⟩, ⟨%f3, H3⟩, ⟨%f4, H4⟩, ⟨%f5, H5⟩⟩, Hr⟩
  isplitl [H0]; · iexists f0; iexact H0
  isplitl [H1]; · iexists f1; iexact H1
  isplitl [H2]; · iexists f2; iexact H2
  isplitl [H3]; · iexists f3; iexact H3
  isplitl [H4]; · iexists f4; isplitr; · ipureintro; intro h; exact absurd rfl h
                  iexact H4
  isplitl [H5]; · iexists f5; isplitr; · ipureintro; intro h; exact absurd rfl h
                  iexact H5
  isplitl [G0 G1 G2 G3 G4 G5 G6 G7 G8 G9 G10 G11 G12 G13 G14 G15]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15
  iexact Hr

theorem carry_out (c : Dev nD) : (dat V c).Φ (Fin.last cfg2.N) ⊢ Pipeline.ΦA spec2 c := by
  rw [show (dat V c).Φ (Fin.last cfg2.N) = Carry V c cfg2.N from by dsimp only [dat, Fin.val_last]]
  unfold Pipeline.ΦA Carry others
  rw [scopedRest2_eq]
  simp only [owns_whole]
  iintro ⟨⟨%f0, H0⟩, ⟨%f1, H1⟩, ⟨%f2, H2⟩, ⟨%f3, H3⟩, ⟨%f4, -, H4⟩, ⟨%f5, -, H5⟩, ⟨G0, G1, G2, G3, G4, G5, G6, G7, G8, G9, G10, G11, G12, G13, G14, G15⟩, Hr⟩
  isplitr [Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  · iexact Hr

/-! ## The array the call returns -/

/-- The returned array: image by image, the rows written from the image's maxima over all five blocks. -/
def result (c : Dev nD) : Vec F S4x40x8x128 .f32 := fun y =>
  outBlk (tb V c (y 0).val) (gb V c (y 0).val) (runM V c (y 0).val 5) (ix4 ⟨0, by decide⟩ (y 1) (y 2) (y 3))

theorem flushed_eq (c : Dev nD) (t : Fin cfg2.N) (hf : (cfg2.win 4).flush t = true) :
    (dat V c).flushed 4 t = ((cfg2.win 4).blk t).view.read (Elt F) (result V c) := by
  have h4 := (flush2_4 t).1 hf
  have ht := lt20 t
  show (win2_4.cut (grid2.coords t) ((dat V c).after 4 t)) = _
  rw [after2_4]
  funext y
  rw [View.read_apply]
  have h0 : (y 0).val < 1 := (y 0).isLt
  have e : ∀ a, (((cfg2.win 4).blk t).view.emb y a).val = win2_4.index t a * S1x40x8x128.size a + 1 * (y a).val := fun a => rfl
  have e0 : (((cfg2.win 4).blk t).view.emb y 0).val = t.val / 5 := by
    rw [e, idx_4]; show t.val / 5 * 1 + 1 * (y 0).val = t.val / 5; omega
  show outAt V c t.val y = result V c _
  unfold result outAt
  rw [e0, h4]
  refine congrArg _ (funext fun a => Fin.ext ?_)
  match a with
  | ⟨0, _⟩ => show (y 0).val = 0; omega
  | ⟨1, _⟩ => show (y 1).val = (((cfg2.win 4).blk t).view.emb y 1).val; rw [e, idx_4]; show (y 1).val = 0 * 40 + 1 * (y 1).val; omega
  | ⟨2, _⟩ => show (y 2).val = (((cfg2.win 4).blk t).view.emb y 2).val; rw [e, idx_4]; show (y 2).val = 0 * 8 + 1 * (y 2).val; omega
  | ⟨3, _⟩ => show (y 3).val = (((cfg2.win 4).blk t).view.emb y 3).val; rw [e, idx_4]; show (y 3).val = 0 * 128 + 1 * (y 3).val; omega

theorem mem_blk (t : Fin cfg2.N) (i : S4x40x8x128.Idx) (h : t.val / 5 = (i 0).val) : i ∈ ((cfg2.win 4).blk t).view.set := by
  have h1 : (i 1).val < 40 := (i 1).isLt
  have h2 : (i 2).val < 8 := (i 2).isLt
  have h3 : (i 3).val < 128 := (i 3).isLt
  show i ∈ ((View.whole main_v50).slice (win2_4.rect t)).set
  rw [View.set_slice_whole, Rect.mem_set_unit]
  intro a
  show win2_4.index t a * S1x40x8x128.size a ≤ (i a).val ∧ (i a).val < win2_4.index t a * S1x40x8x128.size a + S1x40x8x128.size a
  rw [idx_4]
  match a with
  | ⟨0, _⟩ => show t.val / 5 * 1 ≤ (i 0).val ∧ (i 0).val < t.val / 5 * 1 + 1; omega
  | ⟨1, _⟩ => show 0 * 40 ≤ (i 1).val ∧ (i 1).val < 0 * 40 + 40; omega
  | ⟨2, _⟩ => show 0 * 8 ≤ (i 2).val ∧ (i 2).val < 0 * 8 + 8; omega
  | ⟨3, _⟩ => show 0 * 128 ≤ (i 3).val ∧ (i 3).val < 0 * 128 + 128; omega

theorem cover (i : S4x40x8x128.Idx) : ∃ t : Fin cfg2.N, (cfg2.win 4).flush t = true ∧ i ∈ ((cfg2.win 4).blk t).view.set := by
  have h0 : (i 0).val < 4 := (i 0).isLt
  have hN : cfg2.N = 20 := N_2
  refine ⟨⟨5 * (i 0).val + 4, by omega⟩, (flush2_4 _).2 (show (5 * (i 0).val + 4) % 5 = 4 by omega), mem_blk _ i ?_⟩
  show (5 * (i 0).val + 4) / 5 = (i 0).val
  omega

theorem final (c : Dev nD) : (dat V c).arrAt 4 cfg2.N = result V c :=
  (dat V c).arrAt_eq_of_cover 4 (result V c) (fun t hf => flushed_eq V c t hf) cover

end Cert.Proof.KernelIdeal
-- ==== Proof.Run.lean ====
/-
  The three calls joined with the host operations between them: what the program's buffers hold at the end.
-/
module

public import proofs.«01_k».proof.Proof.Gen.KernelIdeal.Regions
public import proofs.«01_k».proof.Proof.Pos
public import proofs.«01_k».proof.Proof.Prep
public import proofs.«01_k».proof.Proof.Region
public import Idealize.ShloMosaic.Lib.Pipeline.RegionArraysS

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RegionSeg Seg afterRegion arrRef LevelCut)

variable {F : FTy → Type} [FloatOps F] [Named F]

local notation "𝕄" => MT nD τ sig Unit (Elt F) ℕ (UR sig nD τ) ℕ

variable (m : (ℓ : Loc nD τ sig) → Buf (Elt F) ℓ)

/-! ## What each call leaves -/

/-- What the first call leaves. -/
def outs0 : Outs (F := F) := fun _ r c => afterRegion (Pos.dat (V3 m) c) (V3 m c) (Proc.devRef .tc r)
/-- What the first two calls leave. -/
def outs1 : Outs (F := F) := fun J r c =>
  if J = 4 then outs0 m J r c else afterRegion (Prep.dat (V17 m (outs0 m)) c) (V17 m (outs0 m) c) (Proc.devRef .tc r)
/-- What the three calls leave. -/
def outs2 : Outs (F := F) := fun J r c =>
  if J = 20 then afterRegion (dat (V19 m (outs1 m)) c) (V19 m (outs1 m) c) (Proc.devRef .tc r) else outs1 m J r c

theorem V4_eq : V4 m (outs2 m) = V4 m (outs0 m) := by
  funext c
  show Function.update (Function.update (V3 m c) main_v26_0 (outs2 m 4 main_v26_0 c)) main_v26_1 (outs2 m 4 main_v26_1 c) =
    Function.update (Function.update (V3 m c) main_v26_0 (outs0 m 4 main_v26_0 c)) main_v26_1 (outs0 m 4 main_v26_1 c)
  rw [show outs2 m 4 main_v26_0 c = outs0 m 4 main_v26_0 c from by unfold outs2 outs1; rw [if_neg (by decide), if_pos rfl],
    show outs2 m 4 main_v26_1 c = outs0 m 4 main_v26_1 c from by unfold outs2 outs1; rw [if_neg (by decide), if_pos rfl]]

theorem V4_eq' : V4 m (outs1 m) = V4 m (outs0 m) := by
  funext c
  show Function.update (Function.update (V3 m c) main_v26_0 (outs1 m 4 main_v26_0 c)) main_v26_1 (outs1 m 4 main_v26_1 c) =
    Function.update (Function.update (V3 m c) main_v26_0 (outs0 m 4 main_v26_0 c)) main_v26_1 (outs0 m 4 main_v26_1 c)
  rw [show outs1 m 4 main_v26_0 c = outs0 m 4 main_v26_0 c from by unfold outs1; rw [if_pos rfl],
    show outs1 m 4 main_v26_1 c = outs0 m 4 main_v26_1 c from by unfold outs1; rw [if_pos rfl]]

theorem V17_congr (o o' : Outs (F := F)) (h : V4 m o = V4 m o') : V17 m o = V17 m o' := by
  funext c
  have h1 : V5 m o c = V5 m o' c := congrArg (StableHlo.after hostOps1) (congrFun h c)
  have h2 : V6 m o c = V6 m o' c := congrArg (StableHlo.after hostOps1_1) h1
  have h3 : V7 m o c = V7 m o' c := congrArg (StableHlo.after hostOps1_2) h2
  have h4 : V8 m o c = V8 m o' c := congrArg (StableHlo.after hostOps1_3) h3
  have h5 : V9 m o c = V9 m o' c := congrArg (StableHlo.after hostOps1_4) h4
  have h6 : V10 m o c = V10 m o' c := congrArg (StableHlo.after hostOps1_5) h5
  have h7 : V11 m o c = V11 m o' c := congrArg (StableHlo.after hostOps1_6) h6
  have h8 : V12 m o c = V12 m o' c := congrArg (StableHlo.after hostOps1_7) h7
  have h9 : V13 m o c = V13 m o' c := congrArg (StableHlo.after hostOps1_8) h8
  have h10 : V14 m o c = V14 m o' c := congrArg (StableHlo.after hostOps1_9) h9
  have h11 : V15 m o c = V15 m o' c := congrArg (StableHlo.after hostOps1_10) h10
  have h12 : V16 m o c = V16 m o' c := congrArg (StableHlo.after hostOps1_11) h11
  exact congrArg (StableHlo.after hostOps1_12) h12

theorem V17_eq : V17 m (outs2 m) = V17 m (outs0 m) := V17_congr m _ _ (V4_eq m)

theorem V18_eq : V18 m (outs2 m) = V18 m (outs1 m) := by
  funext c
  show Function.update (Function.update (V17 m (outs2 m) c) main_v43_0 (outs2 m 18 main_v43_0 c)) main_v43_1 (outs2 m 18 main_v43_1 c) =
    Function.update (Function.update (V17 m (outs1 m) c) main_v43_0 (outs1 m 18 main_v43_0 c)) main_v43_1 (outs1 m 18 main_v43_1 c)
  rw [show outs2 m 18 main_v43_0 c = outs1 m 18 main_v43_0 c from by unfold outs2; rw [if_neg (by decide)],
    show outs2 m 18 main_v43_1 c = outs1 m 18 main_v43_1 c from by unfold outs2; rw [if_neg (by decide)],
    V17_eq, V17_congr m _ _ (V4_eq' m)]

theorem V19_eq : V19 m (outs2 m) = V19 m (outs1 m) :=
  funext fun c => congrArg (StableHlo.after hostOps2) (congrFun (V18_eq m) c)

/-! ## The three calls as segments -/

/-- The contents each call runs at. -/
def pdats : (p : Fin 3) → (c : Dev nD) → Dat τ (Elt F) Unit ℕ (UR sig nD τ) ℕ (cfgs p) c
  | ⟨0, _⟩ => fun c => Pos.dat (V3 m) c
  | ⟨1, _⟩ => fun c => Prep.dat (V17 m (outs2 m)) c
  | ⟨2, _⟩ => fun c => dat (V19 m (outs2 m)) c

/-- Every cell of a core has the one level. -/
def Lv : GSem nD τ sig → Finset Unit := fun g => if g.1.2 = .tc then {()} else ∅

theorem cut (p : Fin 3) : LevelCut (Ix := Unit) (Lvl := ℕ) (pcfgs (F := F)) adm () Lv (fun _ _ => 0) p (fun _ => 0) (fun _ => 0) where
  hι c w s := by unfold Lv; rw [if_pos rfl]; exact Finset.mem_singleton_self _
  hιb c w s := le_rfl
  hD c g i h := absurd h (lt_irrefl _)

/-- What a core has beside its buffers between two segments. -/
def rest (c : Dev nD) : sProp 𝕄 := iprop((∃ Wd, owes (c : Thread nD τ) 0 Wd) ∗ (∃ r, prngReg c r) ∗ BI.emp)

theorem sub0 : Pipeline.arrRefs (τ := τ) ((pcfgs (F := F)) 0).spec ⊆ Pipeline.ucRefs τ sig :=
  Pipeline.arrRefs_sub_ucRefs _ (fun w => (show ∀ w : Fin cfg0.W, (arrRef spec0 w).isScoped = false from by decide) w)
theorem sub1 : Pipeline.arrRefs (τ := τ) ((pcfgs (F := F)) 1).spec ⊆ Pipeline.ucRefs τ sig :=
  Pipeline.arrRefs_sub_ucRefs _ (fun w => (show ∀ w : Fin cfg1.W, (arrRef spec1 w).isScoped = false from by decide) w)
theorem sub2 : Pipeline.arrRefs (τ := τ) ((pcfgs (F := F)) 2).spec ⊆ Pipeline.ucRefs τ sig :=
  Pipeline.arrRefs_sub_ucRefs _ (fun w => (show ∀ w : Fin cfg2.W, (arrRef spec2 w).isScoped = false from by decide) w)

set_option backward.isDefEq.respectTransparency.types false in
/-- The first call. -/
def seg0' : RegionSeg (pcfgs (F := F)) adm (pdats m) () defs₀ Variants.none Lv (fun _ _ => 0) 0 :=
  RegionSeg.ofHeldIn (pcfgs (F := F)) adm (pdats m) () defs₀ Variants.none Lv (fun _ _ => 0) 0 (fun _ => 0)
    (Pipeline.ucRefs τ sig) (fun c => iprop(∃ r, prngReg c r)) (fun c => iprop(∃ r, prngReg c r))
    launch0.toP rfl (fun c => (Pos.body_obligation (V3 m) c).loose) (fun _ _ => rfl) (fun _ => rfl)
    (fun c w => (Pos.dat (V3 m) c).share_full (fun _ => rfl) w) (fun c => .rfl) (fun c => .rfl)
    (fun _ => 0) (cut 0) (fun _ => BI.emp) (V3 m) (fun c w => Pos.A_eq (V3 m) c w)

set_option backward.isDefEq.respectTransparency.types false in
/-- The second call. -/
def seg1' : RegionSeg (pcfgs (F := F)) adm (pdats m) () defs₀ Variants.none Lv (fun _ _ => 0) 1 :=
  RegionSeg.ofHeldIn (pcfgs (F := F)) adm (pdats m) () defs₀ Variants.none Lv (fun _ _ => 0) 1 (fun _ => 0)
    (Pipeline.ucRefs τ sig) (fun c => iprop(∃ r, prngReg c r)) (fun c => iprop(∃ r, prngReg c r))
    launch1.toP rfl (fun c => (Prep.body_obligation (V17 m (outs2 m)) c).loose) (fun _ _ => rfl) (fun _ => rfl)
    (fun c w => (Prep.dat (V17 m (outs2 m)) c).share_full (fun _ => rfl) w) (fun c => .rfl) (fun c => .rfl)
    (fun _ => 0) (cut 1) (fun _ => BI.emp) (V17 m (outs2 m)) (fun c w => Prep.A_eq (V17 m (outs2 m)) c w)

set_option backward.isDefEq.respectTransparency.types false in
/-- The third call. -/
def seg2' : RegionSeg (pcfgs (F := F)) adm (pdats m) () defs₀ Variants.none Lv (fun _ _ => 0) 2 :=
  RegionSeg.ofHeldIn (pcfgs (F := F)) adm (pdats m) () defs₀ Variants.none Lv (fun _ _ => 0) 2 (fun _ => 0)
    (Pipeline.ucRefs τ sig) (fun c => iprop(∃ r, prngReg c r)) (fun c => iprop(∃ r, prngReg c r))
    launch2.toP rfl (fun c => (body_obligation (V19 m (outs2 m)) c).loose) (fun _ _ => rfl) (fun _ => rfl)
    (fun c w => (dat (V19 m (outs2 m)) c).share_full (fun _ => rfl) w) (fun c => carry_in _ c) (fun c => carry_out _ c)
    (fun _ => 0) (cut 2) (fun _ => BI.emp) (V19 m (outs2 m)) (fun c w => A_eq (V19 m (outs2 m)) c w)

theorem uc_ref {b : DevRef τ sig} (hb : b ∈ Pipeline.ucRefs τ sig) : ∃ r : Ref sig .tc, b = Proc.devRef .tc r := by
  obtain ⟨r, -, e⟩ := Finset.mem_map.mp (Finset.mem_filter.mp hb).1
  exact ⟨r, e.symm⟩

set_option backward.isDefEq.respectTransparency.types false in
theorem after0 (c : Dev nD) : ∀ b ∈ Pipeline.ucRefs τ sig, afterRegion (Pos.dat (V3 m) c) (V3 m c) b = V4 m (outs2 m) c b := by
  intro b hb
  obtain ⟨r, rfl⟩ := uc_ref hb
  rw [V4_eq]
  by_cases h1 : r = main_v26_1
  · subst h1
    show _ = Function.update (Function.update (V3 m c) (Proc.devRef .tc main_v26_0) (outs0 m 4 main_v26_0 c)) (Proc.devRef .tc main_v26_1) (outs0 m 4 main_v26_1 c) (Proc.devRef .tc main_v26_1)
    rw [Function.update_self]; rfl
  by_cases h0 : r = main_v26_0
  · subst h0
    show _ = Function.update (Function.update (V3 m c) (Proc.devRef .tc main_v26_0) (outs0 m 4 main_v26_0 c)) (Proc.devRef .tc main_v26_1) (outs0 m 4 main_v26_1 c) (Proc.devRef .tc main_v26_0)
    rw [Function.update_of_ne (show (Proc.devRef .tc main_v26_0 : DevRef τ sig) ≠ Proc.devRef .tc main_v26_1 from by decide), Function.update_self]; rfl
  refine Eq.trans ?_ (V4_of m (outs0 m) c r (by simp [h0, h1])).symm
  refine Pipeline.afterRegion_keeps (Pos.dat (V3 m) c) (V3 m c) launch0.win.arr_inj (fun w => Pos.A_eq (V3 m) c w) r fun w e => ?_
  fin_cases w
  · rfl
  · exact absurd e.symm h0
  · exact absurd e.symm h1

set_option backward.isDefEq.respectTransparency.types false in
theorem after1 (c : Dev nD) : ∀ b ∈ Pipeline.ucRefs τ sig,
    afterRegion (Prep.dat (V17 m (outs2 m)) c) (V17 m (outs2 m) c) b = V18 m (outs2 m) c b := by
  intro b hb
  obtain ⟨r, rfl⟩ := uc_ref hb
  rw [V18_eq, V17_eq]
  by_cases h1 : r = main_v43_1
  · subst h1
    show _ = Function.update (Function.update (V17 m (outs1 m) c) (Proc.devRef .tc main_v43_0) (outs1 m 18 main_v43_0 c)) (Proc.devRef .tc main_v43_1) (outs1 m 18 main_v43_1 c) (Proc.devRef .tc main_v43_1)
    rw [Function.update_self]; rfl
  by_cases h0 : r = main_v43_0
  · subst h0
    show _ = Function.update (Function.update (V17 m (outs1 m) c) (Proc.devRef .tc main_v43_0) (outs1 m 18 main_v43_0 c)) (Proc.devRef .tc main_v43_1) (outs1 m 18 main_v43_1 c) (Proc.devRef .tc main_v43_0)
    rw [Function.update_of_ne (show (Proc.devRef .tc main_v43_0 : DevRef τ sig) ≠ Proc.devRef .tc main_v43_1 from by decide), Function.update_self]; rfl
  refine Eq.trans ?_ (V18_of m (outs1 m) c r (by simp [h0, h1])).symm
  rw [V17_congr m _ _ (V4_eq' m)]
  refine Pipeline.afterRegion_keeps (Prep.dat (V17 m (outs0 m)) c) (V17 m (outs0 m) c) launch1.win.arr_inj (fun w => Prep.A_eq (V17 m (outs0 m)) c w) r fun w e => ?_
  fin_cases w
  · rfl
  · rfl
  · rfl
  · exact absurd e.symm h0
  · exact absurd e.symm h1

set_option backward.isDefEq.respectTransparency.types false in
theorem after2 (c : Dev nD) : ∀ b ∈ Pipeline.ucRefs τ sig,
    afterRegion (dat (V19 m (outs2 m)) c) (V19 m (outs2 m) c) b = V20 m (outs2 m) c b := by
  intro b hb
  obtain ⟨r, rfl⟩ := uc_ref hb
  by_cases h0 : r = main_v50
  · subst h0
    show _ = Function.update (V19 m (outs2 m) c) (Proc.devRef .tc main_v50) (outs2 m 20 main_v50 c) (Proc.devRef .tc main_v50)
    rw [Function.update_self, V19_eq]; rfl
  refine Eq.trans ?_ (V20_of m (outs2 m) c r (by simp [h0])).symm
  refine Pipeline.afterRegion_keeps (dat (V19 m (outs2 m)) c) (V19 m (outs2 m) c) launch2.win.arr_inj (fun w => A_eq (V19 m (outs2 m)) c w) r fun w e => ?_
  fin_cases w
  · rfl
  · rfl
  · rfl
  · rfl
  · exact absurd e.symm h0

/-! ## The run -/

theorem pre0 (c : Dev nD) : iprop(StableHlo.held (c : Thread nD τ) (Pipeline.ucRefs τ sig) (V3 m c) ∗ rest c) ⊢ (seg0' m).pre c := by
  unfold seg0' rest
  refine BIBase.Entails.trans ?_ (RegionSeg.ofHeldIn_pre sub0 c)
  exact .rfl
theorem pre1 (c : Dev nD) : iprop(StableHlo.held (c : Thread nD τ) (Pipeline.ucRefs τ sig) (V17 m (outs2 m) c) ∗ rest c) ⊢ (seg1' m).pre c := by
  unfold seg1' rest
  refine BIBase.Entails.trans ?_ (RegionSeg.ofHeldIn_pre sub1 c)
  exact .rfl
theorem pre2 (c : Dev nD) : iprop(StableHlo.held (c : Thread nD τ) (Pipeline.ucRefs τ sig) (V19 m (outs2 m) c) ∗ rest c) ⊢ (seg2' m).pre c := by
  unfold seg2' rest
  refine BIBase.Entails.trans ?_ (RegionSeg.ofHeldIn_pre sub2 c)
  exact .rfl

theorem post0 (c : Dev nD) : (seg0' m).post c ⊢ iprop(StableHlo.held (c : Thread nD τ) (Pipeline.ucRefs τ sig) (V4 m (outs2 m) c) ∗ rest c) := by
  rw [← StableHlo.held_congr (c : Thread nD τ) (after0 m c)]
  exact RegionSeg.ofHeldIn_post sub0 c
theorem post1 (c : Dev nD) : (seg1' m).post c ⊢ iprop(StableHlo.held (c : Thread nD τ) (Pipeline.ucRefs τ sig) (V18 m (outs2 m) c) ∗ rest c) := by
  rw [← StableHlo.held_congr (c : Thread nD τ) (after1 m c)]
  exact RegionSeg.ofHeldIn_post sub1 c
theorem post2 (c : Dev nD) : (seg2' m).post c ⊢ iprop(StableHlo.held (c : Thread nD τ) (Pipeline.ucRefs τ sig) (V20 m (outs2 m) c) ∗ rest c) := by
  rw [← StableHlo.held_congr (c : Thread nD τ) (after2 m c)]
  exact RegionSeg.ofHeldIn_post sub2 c

/-- What a core is given at the launch makes `rest`. -/
theorem start (ρ : Dev nD → PrngReg) :
    iprop((bigSep Finset.univ fun c : Dev nD => iprop(unscopedSems0 c ∗ owes (c : Thread nD τ) 0 ∅ ∗ Pipeline.launchCred 0 c ∗ prngReg c (ρ c) ∗ BI.emp)) ∗ levAts Lv (fun _ _ => 0))
      ⊢ (|={Set.univ}=> bigSep Finset.univ rest : sProp 𝕄) :=
  Pipeline.initEach Lv (fun _ _ => 0) fun c => by
    unfold rest
    iintro ⟨⟨-, Ho, -, Hp, -⟩, -⟩
    imodintro
    isplitl [Ho]; · iexists ∅; iexact Ho
    isplitl [Hp]; · iexists (ρ c); iexact Hp
    iempintro

/-- The program runs, leaves its arguments, and its result is what the last host operation writes. -/
theorem run (ρ : Dev nD → PrngReg) : θ_run defs (onTc (τ := τ) (main (F := F))) ⟨m, fun _ => 0, ρ⟩ (fun r => (∀ c : Dev nD,
      r.2.mem ((c.tc : Thread nD τ).loc main_v59) = V22 m (outs2 m) c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ Variants.none Lv (fun _ _ => 0) m ρ main
    (segs m (outs2 m) Variants.none Lv (fun _ _ => 0) (fun _ => rest) () (pdats m) (seg0' m) (seg1' m) (seg2' m))
    (fun c Q => by
      rewrite [main_chain c, Seg.run_eq_chain,
        show (segs m (outs2 m) Variants.none Lv (fun _ _ => 0) (fun _ => rest) () (pdats m) (seg0' m) (seg1' m) (seg2' m) c).map Seg.prog =
          [StableHlo.seq hostOps0, StableHlo.seq hostOps0_1, StableHlo.seq hostOps0_2, Prog.lift (.customCall (Pipeline.entry 0) ()),
          StableHlo.seq hostOps1, StableHlo.seq hostOps1_1, StableHlo.seq hostOps1_2, StableHlo.seq hostOps1_3, StableHlo.seq hostOps1_4,
          StableHlo.seq hostOps1_5, StableHlo.seq hostOps1_6, StableHlo.seq hostOps1_7, StableHlo.seq hostOps1_8, StableHlo.seq hostOps1_9,
          StableHlo.seq hostOps1_10, StableHlo.seq hostOps1_11, StableHlo.seq hostOps1_12, Prog.lift (.customCall (Pipeline.entry 1) ()),
          StableHlo.seq hostOps2, Prog.lift (.customCall (Pipeline.entry 2) ()), StableHlo.seq hostOps3, StableHlo.seq hostOps3_1] from rfl]
      dsimp (config := { failIfUnchanged := false }) only
      exact .rfl)
    (fun c => by simp only [segs, Seg.pipes_host, Seg.pipes_region, Seg.pipes_nil]; decide) 0
    (fun g h => by unfold Lv; rw [if_neg h]) (fun _ => BI.emp)
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (V0 m c) ∗ rest c))
    (Tₙ := fun c => StableHlo.held (c : Thread nD τ) (Pipeline.ucRefs τ sig) (V22 m (outs2 m) c))
    (hch := fun c => ⟨.rfl, .rfl, .rfl, pre0 m c, post0 m c, .rfl, .rfl, .rfl, .rfl, .rfl, .rfl, .rfl, .rfl, .rfl, .rfl, .rfl, .rfl,
      pre1 m c, post1 m c, pre2 m c, post2 m c, .rfl, sep_mono .rfl (by unfold rest; iintro ⟨H, -⟩; iexact H)⟩)
    (hinit := ?_)
    (QY := fun c s => s.mem ((c.tc : Thread nD τ).loc main_v59) = V22 m (outs2 m) c main_v59
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · have hs : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ BI.emp))
            : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hs $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m (outs2 m) c) s') $$ [Hh HSI]
    · isplitl [Hh] <;> iassumption
    icases Hr with ⟨%h, HSI⟩
    imodintro
    isplitr
    · ipureintro
      exact ⟨h (Proc.devRef .tc main_v59) (Finset.mem_filter.mpr ⟨StableHlo.devRef_mem_tcRefs main_v59, by decide⟩),
        (h (Proc.devRef .tc main_arg0) (Finset.mem_filter.mpr ⟨StableHlo.devRef_mem_tcRefs main_arg0, by decide⟩)).trans (V22_main_arg0 m (outs2 m) c),
        (h (Proc.devRef .tc main_arg1) (Finset.mem_filter.mpr ⟨StableHlo.devRef_mem_tcRefs main_arg1, by decide⟩)).trans (V22_main_arg1 m (outs2 m) c),
        (h (Proc.devRef .tc main_arg2) (Finset.mem_filter.mpr ⟨StableHlo.devRef_mem_tcRefs main_arg2, by decide⟩)).trans (V22_main_arg2 m (outs2 m) c)⟩
    · iexact HSI

end Cert.Proof.KernelIdeal

end
-- ==== Proof.Count.lean ====
/-
  The stable bucket order, as plain counting.

  Row `t` lies in bucket `b t`. `below b n l` counts the rows before `n` in bucket `l`, `start b l` the rows of all buckets before `l`;
  a row's place is its bucket's start and the rows of its bucket before it. Running sums by doubling: `win f n k` is what `f` gains over
  the last `n` steps up to `k`, and adding the window `n` steps back doubles it.
-/
module

public import Idealize.ShloMosaic.PureOps.Ideal

@[expose] public section

noncomputable section

namespace Cert.Proof.Count

/-- A word of a number below `2 ^ 31` reads back signed as it. -/
theorem word_toInt {n : ℕ} (h : n < 2147483648) : (BitVec.ofNat 32 n).toInt = n := by
  have h1 : (BitVec.ofNat 32 n).toNat = n := by rw [BitVec.toNat_ofNat]; omega
  rw [BitVec.toInt_eq_toNat_of_lt (by rw [h1]; omega), h1]

/-- What `f` gains over the `n` steps that end with step `k`. -/
def win (f : ℕ → ℕ) (n k : ℕ) : ℕ := f (k + 1) - f (k + 1 - n)

theorem win_step {f : ℕ → ℕ} (hf : Monotone f) (h0 : f 0 = 0) (n k : ℕ) : win f (n + n) k = win f n k + if k < n then 0 else win f n (k - n) := by
  unfold win
  split_ifs with h
  · rw [show k + 1 - (n + n) = 0 by omega, show k + 1 - n = 0 by omega, h0]; rfl
  · rw [show k - n + 1 = k + 1 - n by omega, show k + 1 - n - n = k + 1 - (n + n) by omega]
    have h1 := hf (show k + 1 - n ≤ k + 1 by omega)
    have h2 := hf (show k + 1 - (n + n) ≤ k + 1 - n by omega)
    omega

theorem win_one {f g : ℕ → ℕ} (hg : ∀ k, f (k + 1) = f k + g k) (k : ℕ) : win f 1 k = g k := by
  unfold win
  rw [hg, Nat.add_sub_cancel, Nat.add_sub_cancel_left]

theorem win_all {f : ℕ → ℕ} (h0 : f 0 = 0) {n k : ℕ} (h : k < n) : win f n k = f (k + 1) := by
  unfold win
  rw [show k + 1 - n = 0 by omega, h0, Nat.sub_zero]

variable (b : ℕ → ℕ)

/-- The rows before `n` in bucket `l`. -/
def below (n l : ℕ) : ℕ := ∑ t ∈ Finset.range n, if b t = l then 1 else 0

/-- The rows in the buckets before `l`. -/
def start (l : ℕ) : ℕ := ∑ i ∈ Finset.range l, below b 5120 i

/-- A row's place. -/
def place (r : ℕ) : ℕ := start b (b r) + below b r (b r)

theorem below_zero (l : ℕ) : below b 0 l = 0 := rfl
theorem below_succ (n l : ℕ) : below b (n + 1) l = below b n l + if b n = l then 1 else 0 := Finset.sum_range_succ _ _
theorem below_mono (l : ℕ) : Monotone fun n => below b n l := monotone_nat_of_le_succ fun n => by
  show below b n l ≤ below b (n + 1) l
  rw [below_succ]; exact Nat.le_add_right _ _
theorem start_zero : start b 0 = 0 := rfl
theorem start_succ (l : ℕ) : start b (l + 1) = start b l + below b 5120 l := Finset.sum_range_succ _ _
theorem start_mono : Monotone (start b) := monotone_nat_of_le_succ fun l => by
  rw [start_succ]; exact Nat.le_add_right _ _

theorem below_lt {r n : ℕ} (h : r < n) : below b r (b r) < below b n (b r) := by
  have h1 : below b (r + 1) (b r) ≤ below b n (b r) := below_mono b (b r) (show r + 1 ≤ n from h)
  rw [below_succ, if_pos rfl] at h1
  omega

theorem place_lt_start {r : ℕ} (h : r < 5120) : place b r < start b (b r + 1) := by
  rw [start_succ]
  exact Nat.add_lt_add_left (below_lt b h) _

theorem start_le_place (r : ℕ) : start b (b r) ≤ place b r := Nat.le_add_right _ _

theorem start_all (hb : ∀ t, b t < 128) : start b 128 = 5120 := by
  unfold start below
  rw [Finset.sum_comm]
  have h : ∀ t ∈ Finset.range 5120, (∑ i ∈ Finset.range 128, if b t = i then 1 else 0) = 1 := fun t _ => by
    rw [Finset.sum_ite_eq, if_pos (Finset.mem_range.2 (hb t))]
  rw [Finset.sum_congr rfl h, Finset.sum_const, Finset.card_range, smul_eq_mul, mul_one]

theorem place_lt (hb : ∀ t, b t < 128) {r : ℕ} (h : r < 5120) : place b r < 5120 := by
  rw [← start_all b hb]
  exact lt_of_lt_of_le (place_lt_start b h) (start_mono b (hb r))

theorem place_ne {r r' : ℕ} (h : r < 5120) (h' : r' < 5120) (hr : r < r') : place b r ≠ place b r' := by
  rcases lt_trichotomy (b r) (b r') with hb | hb | hb
  · have h1 := place_lt_start b h
    have h2 := start_mono b (show b r + 1 ≤ b r' from hb)
    have h3 := start_le_place b r'
    omega
  · have h1 : below b r (b r) < below b r' (b r) := below_lt b hr
    unfold place
    rw [← hb]
    omega
  · have h1 := place_lt_start b h'
    have h2 := start_mono b (show b r' + 1 ≤ b r from hb)
    have h3 := start_le_place b r
    omega

theorem place_inj {r r' : ℕ} (h : r < 5120) (h' : r' < 5120) (he : place b r = place b r') : r = r' := by
  rcases lt_trichotomy r r' with hr | hr | hr
  · exact absurd he (place_ne b h h' hr)
  · exact hr
  · exact absurd he.symm (place_ne b h' h hr)

/-- The rows from 5000 on, all in the last bucket, keep their place. -/
theorem place_pad (hb : ∀ t, b t < 128) (hp : ∀ t, 5000 ≤ t → b t = 127) {r : ℕ} (h : 5000 ≤ r) (hr : r < 5120) : place b r = r := by
  have h1 : ∀ k, below b (r + k) 127 = below b r 127 + k := fun k => by
    induction k with
    | zero => rfl
    | succ k ih => rw [← Nat.add_assoc, below_succ, ih, if_pos (hp _ (by omega)), Nat.add_assoc]
  have h2 := h1 (5120 - r)
  rw [show r + (5120 - r) = 5120 by omega] at h2
  have h3 := start_succ b 127
  rw [start_all b hb] at h3
  unfold place
  rw [hp r h]
  omega

theorem place_real (hb : ∀ t, b t < 128) (hp : ∀ t, 5000 ≤ t → b t = 127) {r : ℕ} (h : r < 5000) : place b r < 5000 := by
  by_contra hn
  have h1 := place_lt b hb (show r < 5120 by omega)
  have h2 := place_pad b hb hp (show 5000 ≤ place b r by omega) h1
  have := place_inj b h1 (show r < 5120 by omega) h2
  omega

/-- The order as a permutation of the 5120 rows. -/
def perm (hb : ∀ t, b t < 128) : Fin 5120 ≃ Fin 5120 :=
  Equiv.ofBijective (fun r => ⟨place b r.val, place_lt b hb r.isLt⟩)
    (Finite.injective_iff_bijective.1 fun r r' h => Fin.ext (place_inj b r.isLt r'.isLt (congrArg Fin.val h)))

theorem perm_val (hb : ∀ t, b t < 128) (r : Fin 5120) : (perm b hb r).val = place b r.val := rfl

theorem perm_real (hb : ∀ t, b t < 128) (hp : ∀ t, 5000 ≤ t → b t = 127) (r : Fin 5120) : (perm b hb r).val < 5000 ↔ r.val < 5000 := by
  rw [perm_val]
  refine ⟨fun h => ?_, place_real b hb hp⟩
  by_contra hn
  rw [place_pad b hb hp (by omega) r.isLt] at h
  exact hn h

end Cert.Proof.Count

end
-- ==== Proof.Take.lean ====
/-
  Taking rows of an array by an array of row numbers, image by image, read at an index: where the row number is in range the entry of
  that row.
-/
module

public import proofs.«01_k».proof.Proof.Gen.KernelIdeal
public import proofs.«01_k».proof.Proof.Gen.KernelIdeal.Regions
public import proofs.«01_k».proof.Proof.Count
public import Idealize.ShloMosaic.Lib.StableHlo.ReadAt
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- The dimension numbers of taking rows of `[4, 5120, C]` at row numbers `[4, M, 1]`. -/
abbrev rowDims (C M : ℕ) (wf : GatherDims.WF ⟨3, ![4, 5120, C]⟩ ⟨3, ![4, M, 1]⟩ ⟨3, ![4, M, C]⟩ [2] [1] [0] [1] [0] 2 ![1, 1, C]) :
    GatherDims ⟨3, ![4, 5120, C]⟩ ⟨3, ![4, M, 1]⟩ ⟨3, ![4, M, C]⟩ where
  offsetDims := [2]
  collapsedSliceDims := [1]
  operandBatchingDims := [0]
  startIndicesBatchingDims := [0]
  startIndexMap := [1]
  indexVectorDim := 2
  sliceSizes := ![1, 1, C]
  wf := wf

theorem gather_row {α : Type} {C M : ℕ} (wf) (x : (⟨3, ![4, 5120, C]⟩ : Shape).Idx → α) (idx : IVec ⟨3, ![4, M, 1]⟩ 32) (b : Fin 4) (i : Fin M) (k : Fin C)
    {n : Fin 5120} (hn : (idx (ix3 b i 0)).toInt.toNat = n.val) : Host.gather (rowDims C M wf) x idx (ix3 b i k) = x (ix3 b n k) := by
  unfold Host.gather
  congr 1
  funext a
  refine Fin.ext ?_
  show (rowDims C M wf).start (ix3 b i k) idx a + (rowDims C M wf).batchCoord (ix3 b i k) a + (rowDims C M wf).offCoord (ix3 b i k) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims C M wf).startIndexMap from List.mem_singleton.mpr rfl)]
    have hsi : (rowDims C M wf).siIdx (ix3 b i k) ⟨List.idxOf (1 : Fin 3) (rowDims C M wf).startIndexMap,
        List.idxOf_lt_length_iff.2 (List.mem_singleton.mpr rfl)⟩ = ix3 b i 0 := by
      funext d; refine Fin.ext ?_
      match d with
      | ⟨0, _⟩ => rfl
      | ⟨1, _⟩ => rfl
      | ⟨2, _⟩ => rfl
    rw [hsi, hn]
    show min n.val (5120 - 1) = n.val
    have := n.isLt
    omega
  · rw [GatherDims.batchCoord_eq_zero _ _ _ (fun h => by simp at h)]
    unfold GatherDims.start
    rw [dif_neg (show (2 : Fin 3) ∉ (rowDims C M wf).startIndexMap from fun h => by simp at h)]
    simp only [Nat.zero_add]
    unfold GatherDims.offCoord
    rw [dif_pos ((GatherDims.mem_sKept _ _).2 ⟨fun h => by simp at h, fun h => by simp at h⟩)]
    rfl

/-! What the bound test of a row number in range comes to. -/

theorem toInt_ofNat {n : ℕ} (h : n < 5120) : (BitVec.ofNat 32 n).toInt = n := Count.word_toInt (by omega)
theorem slt_zero {n : ℕ} (h : n < 5120) : IntOp.cmpi .slt (BitVec.ofNat 32 n) 0#32 = 0#1 := by
  show BitVec.ofBool ((BitVec.ofNat 32 n).slt 0#32) = 0#1
  rw [BitVec.slt, toInt_ofNat h]
  have : ¬ ((n : ℤ) < (0#32 : BitVec 32).toInt) := by simp
  rw [decide_eq_false this]; rfl
theorem sge_zero {n : ℕ} (h : n < 5120) : IntOp.cmpi .sge (BitVec.ofNat 32 n) 0#32 = 1#1 := by
  show BitVec.ofBool ((0#32 : BitVec 32).sle (BitVec.ofNat 32 n)) = 1#1
  rw [BitVec.sle, toInt_ofNat h]
  have : ((0#32 : BitVec 32).toInt ≤ (n : ℤ)) := by simp
  rw [decide_eq_true this]; rfl
theorem sle_last {n : ℕ} (h : n < 5120) : IntOp.cmpi .sle (BitVec.ofNat 32 n) 5119#32 = 1#1 := by
  show BitVec.ofBool ((BitVec.ofNat 32 n).sle 5119#32) = 1#1
  rw [BitVec.sle, toInt_ofNat h]
  have : ((n : ℤ) ≤ (5119#32 : BitVec 32).toInt) := by
    rw [show (5119#32 : BitVec 32).toInt = 5119 from by decide]; omega
  rw [decide_eq_true this]; rfl

/-- The test of all (the one) of a row number's components, where it is in range. -/
theorem bound_test {n : ℕ} (h : n < 5120) : Finset.fold IntOp.andi 1#1 (fun _ : Fin 1 => IntOp.andi (IntOp.cmpi .sge (BitVec.ofNat 32 n) 0#32)
    (IntOp.cmpi .sle (BitVec.ofNat 32 n) 5119#32)) Finset.univ = 1#1 := by
  rw [sge_zero h, sle_last h]
  decide

variable (W : Valuation τ sig (Elt Ideal))

theorem take_v35 (b : Fin 4) (i : Fin 5120) (k : Fin 2) (n : Fin 5120) (h : (W main_v34 : Vec Ideal S4x5120x1 .i32) (ix3 b i 0) = BitVec.ofNat 32 n.val) :
    (StableHlo.after hostOps1_7 W main_v35 : Vec Ideal S4x5120x2 .f32) (ix3 b i k) = (W main_v29 : Vec Ideal S4x5120x2 .f32) (ix3 b n k) := by
  after_reads_at
  have hx : ∀ x : Fin 1, (W main_v34 : Vec Ideal S4x5120x1 .i32) (ix3 b i x) = BitVec.ofNat 32 n.val := fun x => by
    rw [Subsingleton.elim x 0]; exact h
  simp only [hx, slt_zero n.isLt, show ∀ p q : BitVec 32, Scalar.select 0#1 p q = q from fun _ _ => rfl, bound_test n.isLt,
    show ∀ p q : EReal, Scalar.select 1#1 p q = p from fun _ _ => rfl]
  refine gather_row _ _ _ _ _ _ ?_
  show (Scalar.select (IntOp.cmpi .slt ((W main_v34 : Vec Ideal S4x5120x1 .i32) (ix3 b i 0)) 0#32) _ ((W main_v34 : Vec Ideal S4x5120x1 .i32) (ix3 b i 0)) : BitVec 32).toInt.toNat = _
  rw [h, slt_zero n.isLt]
  show (BitVec.ofNat 32 n.val).toInt.toNat = _
  rw [toInt_ofNat n.isLt, Int.toNat_natCast]

theorem take_v37 (b : Fin 4) (i : Fin 5120) (k : Fin 11) (n : Fin 5120) (h : (W main_v36 : Vec Ideal S4x5120x1 .i32) (ix3 b i 0) = BitVec.ofNat 32 n.val) :
    (StableHlo.after hostOps1_9 W main_v37 : Vec Ideal S4x5120x11 .f32) (ix3 b i k) = (W main_v30 : Vec Ideal S4x5120x11 .f32) (ix3 b n k) := by
  after_reads_at
  have hx : ∀ x : Fin 1, (W main_v36 : Vec Ideal S4x5120x1 .i32) (ix3 b i x) = BitVec.ofNat 32 n.val := fun x => by
    rw [Subsingleton.elim x 0]; exact h
  simp only [hx, slt_zero n.isLt, show ∀ p q : BitVec 32, Scalar.select 0#1 p q = q from fun _ _ => rfl, bound_test n.isLt,
    show ∀ p q : EReal, Scalar.select 1#1 p q = p from fun _ _ => rfl]
  refine gather_row _ _ _ _ _ _ ?_
  show (Scalar.select (IntOp.cmpi .slt ((W main_v36 : Vec Ideal S4x5120x1 .i32) (ix3 b i 0)) 0#32) _ ((W main_v36 : Vec Ideal S4x5120x1 .i32) (ix3 b i 0)) : BitVec 32).toInt.toNat = _
  rw [h, slt_zero n.isLt]
  show (BitVec.ofNat 32 n.val).toInt.toNat = _
  rw [toInt_ofNat n.isLt, Int.toNat_natCast]

theorem take_v39 (b : Fin 4) (i : Fin 5120) (k : Fin 2) (n : Fin 5120) (h : (W main_v38 : Vec Ideal S4x5120x1 .i32) (ix3 b i 0) = BitVec.ofNat 32 n.val) :
    (StableHlo.after hostOps1_11 W main_v39 : Vec Ideal S4x5120x2 .f32) (ix3 b i k) = (W main_v33 : Vec Ideal S4x5120x2 .f32) (ix3 b n k) := by
  after_reads_at
  have hx : ∀ x : Fin 1, (W main_v38 : Vec Ideal S4x5120x1 .i32) (ix3 b i x) = BitVec.ofNat 32 n.val := fun x => by
    rw [Subsingleton.elim x 0]; exact h
  simp only [hx, slt_zero n.isLt, show ∀ p q : BitVec 32, Scalar.select 0#1 p q = q from fun _ _ => rfl, bound_test n.isLt,
    show ∀ p q : EReal, Scalar.select 1#1 p q = p from fun _ _ => rfl]
  refine gather_row _ _ _ _ _ _ ?_
  show (Scalar.select (IntOp.cmpi .slt ((W main_v38 : Vec Ideal S4x5120x1 .i32) (ix3 b i 0)) 0#32) _ ((W main_v38 : Vec Ideal S4x5120x1 .i32) (ix3 b i 0)) : BitVec 32).toInt.toNat = _
  rw [h, slt_zero n.isLt]
  show (BitVec.ofNat 32 n.val).toInt.toNat = _
  rw [toInt_ofNat n.isLt, Int.toNat_natCast]

theorem take_v59 (b : Fin 4) (i : Fin 5000) (k : Fin 3) (n : Fin 5120) (h : (W main_v58 : Vec Ideal S4x5000x1 .i32) (ix3 b i 0) = BitVec.ofNat 32 n.val) :
    (StableHlo.after hostOps3_1 W main_v59 : Vec Ideal S4x5000x3 .f32) (ix3 b i k) = (W main_v56 : Vec Ideal S4x5120x3 .f32) (ix3 b n k) := by
  after_reads_at
  have hx : ∀ x : Fin 1, (W main_v58 : Vec Ideal S4x5000x1 .i32) (ix3 b i x) = BitVec.ofNat 32 n.val := fun x => by
    rw [Subsingleton.elim x 0]; exact h
  simp only [hx, slt_zero n.isLt, show ∀ p q : BitVec 32, Scalar.select 0#1 p q = q from fun _ _ => rfl, bound_test n.isLt,
    show ∀ p q : EReal, Scalar.select 1#1 p q = p from fun _ _ => rfl]
  refine gather_row _ _ _ _ _ _ ?_
  show (Scalar.select (IntOp.cmpi .slt ((W main_v58 : Vec Ideal S4x5000x1 .i32) (ix3 b i 0)) 0#32) _ ((W main_v58 : Vec Ideal S4x5000x1 .i32) (ix3 b i 0)) : BitVec 32).toInt.toNat = _
  rw [h, slt_zero n.isLt]
  show (BitVec.ofNat 32 n.val).toInt.toNat = _
  rw [toInt_ofNat n.isLt, Int.toNat_natCast]

end Cert.Proof.KernelIdeal

end
-- ==== Proof.Steps.lean ====
/-
  The first call's running sums: twelve doublings over the rows and seven over the lanes, each read at an index.
-/
module

public import proofs.«01_k».proof.Proof.Gen.KernelIdeal.Skeleton
public import proofs.«01_k».proof.Proof.Count
public import Idealize.ShloMosaic.Lib.Pointwise

@[expose] public section

set_option maxRecDepth 16384

noncomputable section

namespace Cert.Proof.KernelIdeal.Pos

open Cert.KernelIdeal Cert.KernelIdeal.Gen Cert.Proof.Count
open Idealize.ShloMosaic Idealize.ShloMosaic.TcCoe

/-- A count as an extended real. -/
def nat (k : ℕ) : EReal := ((k : ℝ) : EReal)

theorem nat_add (a b : ℕ) : nat a + nat b = nat (a + b) := by unfold nat; push_cast; rfl
theorem nat_zero : nat 0 = 0 := by unfold nat; norm_num
theorem nat_one : nat 1 = 1 := by unfold nat; norm_num
theorem nat_inj {a b : ℕ} : nat a = nat b ↔ a = b := by unfold nat; rw [EReal.coe_eq_coe_iff, Nat.cast_inj]

/-! Each doubling adds the rows `n` above, or the lanes `n` before. -/

def row1 (A : FVec Ideal S5120x128 .f32) : FVec Ideal S5120x128 .f32 :=
  addf A (concatenate S5120x128 0 [⟨S1x128, broadcast S1x128 (Scalar.ofBits .f32 0x00000000#32 : Ideal .f32)⟩, ⟨S5119x128, extractStridedSlice S5119x128 ![0, 0] A slices_S5120x128_o0_0_S5119x128⟩] concatenates_S1x128_S5119x128_S5120x128_d0)
theorem row1_at (A : FVec Ideal S5120x128 .f32) (r : Fin 5120) (l : Fin 128) : row1 A (ix2 r l) = A (ix2 r l) + if r.val < 1 then 0 else A (ix2 ⟨r.val - 1, by omega⟩ l) := by
  unfold row1
  pointwise
  rfl
def row2 (A : FVec Ideal S5120x128 .f32) : FVec Ideal S5120x128 .f32 :=
  addf A (concatenate S5120x128 0 [⟨S2x128, broadcast S2x128 (Scalar.ofBits .f32 0x00000000#32 : Ideal .f32)⟩, ⟨S5118x128, extractStridedSlice S5118x128 ![0, 0] A slices_S5120x128_o0_0_S5118x128⟩] concatenates_S2x128_S5118x128_S5120x128_d0)
theorem row2_at (A : FVec Ideal S5120x128 .f32) (r : Fin 5120) (l : Fin 128) : row2 A (ix2 r l) = A (ix2 r l) + if r.val < 2 then 0 else A (ix2 ⟨r.val - 2, by omega⟩ l) := by
  unfold row2
  pointwise
  rfl
def row4 (A : FVec Ideal S5120x128 .f32) : FVec Ideal S5120x128 .f32 :=
  addf A (concatenate S5120x128 0 [⟨S4x128, broadcast S4x128 (Scalar.ofBits .f32 0x00000000#32 : Ideal .f32)⟩, ⟨S5116x128, extractStridedSlice S5116x128 ![0, 0] A slices_S5120x128_o0_0_S5116x128⟩] concatenates_S4x128_S5116x128_S5120x128_d0)
theorem row4_at (A : FVec Ideal S5120x128 .f32) (r : Fin 5120) (l : Fin 128) : row4 A (ix2 r l) = A (ix2 r l) + if r.val < 4 then 0 else A (ix2 ⟨r.val - 4, by omega⟩ l) := by
  unfold row4
  pointwise
  rfl
def row8 (A : FVec Ideal S5120x128 .f32) : FVec Ideal S5120x128 .f32 :=
  addf A (concatenate S5120x128 0 [⟨S8x128, broadcast S8x128 (Scalar.ofBits .f32 0x00000000#32 : Ideal .f32)⟩, ⟨S5112x128, extractStridedSlice S5112x128 ![0, 0] A slices_S5120x128_o0_0_S5112x128⟩] concatenates_S8x128_S5112x128_S5120x128_d0)
theorem row8_at (A : FVec Ideal S5120x128 .f32) (r : Fin 5120) (l : Fin 128) : row8 A (ix2 r l) = A (ix2 r l) + if r.val < 8 then 0 else A (ix2 ⟨r.val - 8, by omega⟩ l) := by
  unfold row8
  pointwise
  rfl
def row16 (A : FVec Ideal S5120x128 .f32) : FVec Ideal S5120x128 .f32 :=
  addf A (concatenate S5120x128 0 [⟨S16x128, broadcast S16x128 (Scalar.ofBits .f32 0x00000000#32 : Ideal .f32)⟩, ⟨S5104x128, extractStridedSlice S5104x128 ![0, 0] A slices_S5120x128_o0_0_S5104x128⟩] concatenates_S16x128_S5104x128_S5120x128_d0)
theorem row16_at (A : FVec Ideal S5120x128 .f32) (r : Fin 5120) (l : Fin 128) : row16 A (ix2 r l) = A (ix2 r l) + if r.val < 16 then 0 else A (ix2 ⟨r.val - 16, by omega⟩ l) := by
  unfold row16
  pointwise
  rfl
def row32 (A : FVec Ideal S5120x128 .f32) : FVec Ideal S5120x128 .f32 :=
  addf A (concatenate S5120x128 0 [⟨S32x128, broadcast S32x128 (Scalar.ofBits .f32 0x00000000#32 : Ideal .f32)⟩, ⟨S5088x128, extractStridedSlice S5088x128 ![0, 0] A slices_S5120x128_o0_0_S5088x128⟩] concatenates_S32x128_S5088x128_S5120x128_d0)
theorem row32_at (A : FVec Ideal S5120x128 .f32) (r : Fin 5120) (l : Fin 128) : row32 A (ix2 r l) = A (ix2 r l) + if r.val < 32 then 0 else A (ix2 ⟨r.val - 32, by omega⟩ l) := by
  unfold row32
  pointwise
  rfl
def row64 (A : FVec Ideal S5120x128 .f32) : FVec Ideal S5120x128 .f32 :=
  addf A (concatenate S5120x128 0 [⟨S64x128, broadcast S64x128 (Scalar.ofBits .f32 0x00000000#32 : Ideal .f32)⟩, ⟨S5056x128, extractStridedSlice S5056x128 ![0, 0] A slices_S5120x128_o0_0_S5056x128⟩] concatenates_S64x128_S5056x128_S5120x128_d0)
theorem row64_at (A : FVec Ideal S5120x128 .f32) (r : Fin 5120) (l : Fin 128) : row64 A (ix2 r l) = A (ix2 r l) + if r.val < 64 then 0 else A (ix2 ⟨r.val - 64, by omega⟩ l) := by
  unfold row64
  pointwise
  rfl
def row128 (A : FVec Ideal S5120x128 .f32) : FVec Ideal S5120x128 .f32 :=
  addf A (concatenate S5120x128 0 [⟨S128x128, broadcast S128x128 (Scalar.ofBits .f32 0x00000000#32 : Ideal .f32)⟩, ⟨S4992x128, extractStridedSlice S4992x128 ![0, 0] A slices_S5120x128_o0_0_S4992x128⟩] concatenates_S128x128_S4992x128_S5120x128_d0)
theorem row128_at (A : FVec Ideal S5120x128 .f32) (r : Fin 5120) (l : Fin 128) : row128 A (ix2 r l) = A (ix2 r l) + if r.val < 128 then 0 else A (ix2 ⟨r.val - 128, by omega⟩ l) := by
  unfold row128
  pointwise
  rfl
def row256 (A : FVec Ideal S5120x128 .f32) : FVec Ideal S5120x128 .f32 :=
  addf A (concatenate S5120x128 0 [⟨S256x128, broadcast S256x128 (Scalar.ofBits .f32 0x00000000#32 : Ideal .f32)⟩, ⟨S4864x128, extractStridedSlice S4864x128 ![0, 0] A slices_S5120x128_o0_0_S4864x128⟩] concatenates_S256x128_S4864x128_S5120x128_d0)
theorem row256_at (A : FVec Ideal S5120x128 .f32) (r : Fin 5120) (l : Fin 128) : row256 A (ix2 r l) = A (ix2 r l) + if r.val < 256 then 0 else A (ix2 ⟨r.val - 256, by omega⟩ l) := by
  unfold row256
  pointwise
  rfl
def row512 (A : FVec Ideal S5120x128 .f32) : FVec Ideal S5120x128 .f32 :=
  addf A (concatenate S5120x128 0 [⟨S512x128, broadcast S512x128 (Scalar.ofBits .f32 0x00000000#32 : Ideal .f32)⟩, ⟨S4608x128, extractStridedSlice S4608x128 ![0, 0] A slices_S5120x128_o0_0_S4608x128⟩] concatenates_S512x128_S4608x128_S5120x128_d0)
theorem row512_at (A : FVec Ideal S5120x128 .f32) (r : Fin 5120) (l : Fin 128) : row512 A (ix2 r l) = A (ix2 r l) + if r.val < 512 then 0 else A (ix2 ⟨r.val - 512, by omega⟩ l) := by
  unfold row512
  pointwise
  rfl
def row1024 (A : FVec Ideal S5120x128 .f32) : FVec Ideal S5120x128 .f32 :=
  addf A (concatenate S5120x128 0 [⟨S1024x128, broadcast S1024x128 (Scalar.ofBits .f32 0x00000000#32 : Ideal .f32)⟩, ⟨S4096x128, extractStridedSlice S4096x128 ![0, 0] A slices_S5120x128_o0_0_S4096x128⟩] concatenates_S1024x128_S4096x128_S5120x128_d0)
theorem row1024_at (A : FVec Ideal S5120x128 .f32) (r : Fin 5120) (l : Fin 128) : row1024 A (ix2 r l) = A (ix2 r l) + if r.val < 1024 then 0 else A (ix2 ⟨r.val - 1024, by omega⟩ l) := by
  unfold row1024
  pointwise
  rfl
def row2048 (A : FVec Ideal S5120x128 .f32) : FVec Ideal S5120x128 .f32 :=
  addf A (concatenate S5120x128 0 [⟨S2048x128, broadcast S2048x128 (Scalar.ofBits .f32 0x00000000#32 : Ideal .f32)⟩, ⟨S3072x128, extractStridedSlice S3072x128 ![0, 0] A slices_S5120x128_o0_0_S3072x128⟩] concatenates_S2048x128_S3072x128_S5120x128_d0)
theorem row2048_at (A : FVec Ideal S5120x128 .f32) (r : Fin 5120) (l : Fin 128) : row2048 A (ix2 r l) = A (ix2 r l) + if r.val < 2048 then 0 else A (ix2 ⟨r.val - 2048, by omega⟩ l) := by
  unfold row2048
  pointwise
  rfl
def row4096 (A : FVec Ideal S5120x128 .f32) : FVec Ideal S5120x128 .f32 :=
  addf A (concatenate S5120x128 0 [⟨S4096x128, broadcast S4096x128 (Scalar.ofBits .f32 0x00000000#32 : Ideal .f32)⟩, ⟨S1024x128, extractStridedSlice S1024x128 ![0, 0] A slices_S5120x128_o0_0_S1024x128⟩] concatenates_S4096x128_S1024x128_S5120x128_d0)
set_option maxRecDepth 100000 in
theorem row4096_at (A : FVec Ideal S5120x128 .f32) (r : Fin 5120) (l : Fin 128) : row4096 A (ix2 r l) = A (ix2 r l) + if r.val < 4096 then 0 else A (ix2 ⟨r.val - 4096, by omega⟩ l) := by
  unfold row4096
  pointwise
  rfl
def lane1 (A : FVec Ideal S1x128 .f32) : FVec Ideal S1x128 .f32 :=
  addf A (concatenate S1x128 1 [⟨S1x1, broadcast S1x1 (Scalar.ofBits .f32 0x00000000#32 : Ideal .f32)⟩, ⟨S1x127, extractStridedSlice S1x127 ![0, 0] A slices_S1x128_o0_0_S1x127⟩] concatenates_S1x1_S1x127_S1x128_d1)
theorem lane1_at (A : FVec Ideal S1x128 .f32) (l : Fin 128) : lane1 A (ix2 0 l) = A (ix2 0 l) + if l.val < 1 then 0 else A (ix2 0 ⟨l.val - 1, by omega⟩) := by
  unfold lane1
  pointwise
  rfl
def lane2 (A : FVec Ideal S1x128 .f32) : FVec Ideal S1x128 .f32 :=
  addf A (concatenate S1x128 1 [⟨S1x2, broadcast S1x2 (Scalar.ofBits .f32 0x00000000#32 : Ideal .f32)⟩, ⟨S1x126, extractStridedSlice S1x126 ![0, 0] A slices_S1x128_o0_0_S1x126⟩] concatenates_S1x2_S1x126_S1x128_d1)
theorem lane2_at (A : FVec Ideal S1x128 .f32) (l : Fin 128) : lane2 A (ix2 0 l) = A (ix2 0 l) + if l.val < 2 then 0 else A (ix2 0 ⟨l.val - 2, by omega⟩) := by
  unfold lane2
  pointwise
  rfl
def lane4 (A : FVec Ideal S1x128 .f32) : FVec Ideal S1x128 .f32 :=
  addf A (concatenate S1x128 1 [⟨S1x4, broadcast S1x4 (Scalar.ofBits .f32 0x00000000#32 : Ideal .f32)⟩, ⟨S1x124, extractStridedSlice S1x124 ![0, 0] A slices_S1x128_o0_0_S1x124⟩] concatenates_S1x4_S1x124_S1x128_d1)
theorem lane4_at (A : FVec Ideal S1x128 .f32) (l : Fin 128) : lane4 A (ix2 0 l) = A (ix2 0 l) + if l.val < 4 then 0 else A (ix2 0 ⟨l.val - 4, by omega⟩) := by
  unfold lane4
  pointwise
  rfl
def lane8 (A : FVec Ideal S1x128 .f32) : FVec Ideal S1x128 .f32 :=
  addf A (concatenate S1x128 1 [⟨S1x8, broadcast S1x8 (Scalar.ofBits .f32 0x00000000#32 : Ideal .f32)⟩, ⟨S1x120, extractStridedSlice S1x120 ![0, 0] A slices_S1x128_o0_0_S1x120⟩] concatenates_S1x8_S1x120_S1x128_d1)
theorem lane8_at (A : FVec Ideal S1x128 .f32) (l : Fin 128) : lane8 A (ix2 0 l) = A (ix2 0 l) + if l.val < 8 then 0 else A (ix2 0 ⟨l.val - 8, by omega⟩) := by
  unfold lane8
  pointwise
  rfl
def lane16 (A : FVec Ideal S1x128 .f32) : FVec Ideal S1x128 .f32 :=
  addf A (concatenate S1x128 1 [⟨S1x16, broadcast S1x16 (Scalar.ofBits .f32 0x00000000#32 : Ideal .f32)⟩, ⟨S1x112, extractStridedSlice S1x112 ![0, 0] A slices_S1x128_o0_0_S1x112⟩] concatenates_S1x16_S1x112_S1x128_d1)
theorem lane16_at (A : FVec Ideal S1x128 .f32) (l : Fin 128) : lane16 A (ix2 0 l) = A (ix2 0 l) + if l.val < 16 then 0 else A (ix2 0 ⟨l.val - 16, by omega⟩) := by
  unfold lane16
  pointwise
  rfl
def lane32 (A : FVec Ideal S1x128 .f32) : FVec Ideal S1x128 .f32 :=
  addf A (concatenate S1x128 1 [⟨S1x32, broadcast S1x32 (Scalar.ofBits .f32 0x00000000#32 : Ideal .f32)⟩, ⟨S1x96, extractStridedSlice S1x96 ![0, 0] A slices_S1x128_o0_0_S1x96⟩] concatenates_S1x32_S1x96_S1x128_d1)
theorem lane32_at (A : FVec Ideal S1x128 .f32) (l : Fin 128) : lane32 A (ix2 0 l) = A (ix2 0 l) + if l.val < 32 then 0 else A (ix2 0 ⟨l.val - 32, by omega⟩) := by
  unfold lane32
  pointwise
  rfl
def lane64 (A : FVec Ideal S1x128 .f32) : FVec Ideal S1x128 .f32 :=
  addf A (concatenate S1x128 1 [⟨S1x64, broadcast S1x64 (Scalar.ofBits .f32 0x00000000#32 : Ideal .f32)⟩, ⟨S1x64, extractStridedSlice S1x64 ![0, 0] A slices_S1x128_o0_0_S1x64⟩] concatenates_S1x64_S1x64_S1x128_d1)
theorem lane64_at (A : FVec Ideal S1x128 .f32) (l : Fin 128) : lane64 A (ix2 0 l) = A (ix2 0 l) + if l.val < 64 then 0 else A (ix2 0 ⟨l.val - 64, by omega⟩) := by
  unfold lane64
  pointwise
  rfl

/-- All the doublings over the rows after the first, and all over the lanes. -/
def rows (A : FVec Ideal S5120x128 .f32) : FVec Ideal S5120x128 .f32 := row4096 (row2048 (row1024 (row512 (row256 (row128 (row64 (row32 (row16 (row8 (row4 (row2 A)))))))))))
def lanes (T : FVec Ideal S1x128 .f32) : FVec Ideal S1x128 .f32 := lane64 (lane32 (lane16 (lane8 (lane4 (lane2 (lane1 T))))))

theorem pay3_eq (x : Vec Ideal S1x5120x1 .f32) : k0_pay3 x = row1 (k0_pay2 x) := rfl
theorem pay4_eq (A : FVec Ideal S5120x128 .f32) : k0_pay4 A (Scalar.ofBits .f32 0x00000000#32) = rows A := rfl

/-- The array holds, per row and lane, the lane's gain over the last `n` rows. -/
def RowWin (f : ℕ → ℕ → ℕ) (n : ℕ) (A : FVec Ideal S5120x128 .f32) : Prop := ∀ (r : Fin 5120) (l : Fin 128), A (ix2 r l) = nat (win (f l.val) n r.val)
def LaneWin (g : ℕ → ℕ) (n : ℕ) (A : FVec Ideal S1x128 .f32) : Prop := ∀ l : Fin 128, A (ix2 0 l) = nat (win g n l.val)

theorem RowWin.step {f : ℕ → ℕ → ℕ} (hf : ∀ l, Monotone (f l)) (h0 : ∀ l, f l 0 = 0) {n : ℕ} {A B : FVec Ideal S5120x128 .f32} (hA : RowWin f n A)
    (hB : ∀ (r : Fin 5120) (l : Fin 128), B (ix2 r l) = A (ix2 r l) + if r.val < n then 0 else A (ix2 ⟨r.val - n, by omega⟩ l)) : RowWin f (n + n) B := fun r l => by
  rw [hB, win_step (hf _) (h0 _), ← nat_add, hA]
  congr 1
  split_ifs with h
  · exact nat_zero.symm
  · exact hA _ _
theorem LaneWin.step {g : ℕ → ℕ} (hg : Monotone g) (h0 : g 0 = 0) {n : ℕ} {A B : FVec Ideal S1x128 .f32} (hA : LaneWin g n A)
    (hB : ∀ l : Fin 128, B (ix2 0 l) = A (ix2 0 l) + if l.val < n then 0 else A (ix2 0 ⟨l.val - n, by omega⟩)) : LaneWin g (n + n) B := fun l => by
  rw [hB, win_step hg h0, ← nat_add, hA]
  congr 1
  split_ifs with h
  · exact nat_zero.symm
  · exact hA _

theorem rows_win {f : ℕ → ℕ → ℕ} (hf : ∀ l, Monotone (f l)) (h0 : ∀ l, f l 0 = 0) {A : FVec Ideal S5120x128 .f32} (hA : RowWin f 1 A) :
    RowWin f 8192 (rows (row1 A)) := by
  have h1 := hA.step hf h0 (row1_at _)
  have h2 : RowWin f 4 _ := h1.step hf h0 (row2_at _)
  have h4 : RowWin f 8 _ := h2.step hf h0 (row4_at _)
  have h8 : RowWin f 16 _ := h4.step hf h0 (row8_at _)
  have h16 : RowWin f 32 _ := h8.step hf h0 (row16_at _)
  have h32 : RowWin f 64 _ := h16.step hf h0 (row32_at _)
  have h64 : RowWin f 128 _ := h32.step hf h0 (row64_at _)
  have h128 : RowWin f 256 _ := h64.step hf h0 (row128_at _)
  have h256 : RowWin f 512 _ := h128.step hf h0 (row256_at _)
  have h512 : RowWin f 1024 _ := h256.step hf h0 (row512_at _)
  have h1024 : RowWin f 2048 _ := h512.step hf h0 (row1024_at _)
  have h2048 : RowWin f 4096 _ := h1024.step hf h0 (row2048_at _)
  have h4096 : RowWin f 8192 _ := h2048.step hf h0 (row4096_at _)
  exact h4096
theorem lanes_win {g : ℕ → ℕ} (hg : Monotone g) (h0 : g 0 = 0) {A : FVec Ideal S1x128 .f32} (hA : LaneWin g 1 A) : LaneWin g 128 (lanes A) := by
  have h1 := hA.step hg h0 (lane1_at _)
  have h2 : LaneWin g 4 _ := h1.step hg h0 (lane2_at _)
  have h4 : LaneWin g 8 _ := h2.step hg h0 (lane4_at _)
  have h8 : LaneWin g 16 _ := h4.step hg h0 (lane8_at _)
  have h16 : LaneWin g 32 _ := h8.step hg h0 (lane16_at _)
  have h32 : LaneWin g 64 _ := h16.step hg h0 (lane32_at _)
  have h64 : LaneWin g 128 _ := h32.step hg h0 (lane64_at _)
  exact h64

end Cert.Proof.KernelIdeal.Pos

end
-- ==== Proof.PosValue.lean ====
/-
  What the first call computes: a place for each of an image's 5120 rows, one to one, and for each place the row that has it. Whatever
  the keys, the rows from 5000 on keep their places.
-/
module

public import proofs.«01_k».proof.Proof.Steps
public import proofs.«01_k».proof.Proof.Pos

@[expose] public section

set_option maxRecDepth 16384

noncomputable section

namespace Cert.Proof.KernelIdeal.Pos

open Cert.KernelIdeal Cert.KernelIdeal.Gen Cert.Proof.Count
open Idealize.ShloMosaic Idealize.ShloMosaic.TcCoe

theorem nat_toInt (k : ℕ) (h : k < 5120) : FloatOps.fptosi (F := Ideal) (φ := .f32) 32 (nat k) = BitVec.ofNat 32 k := by
  show Ideal.fptosi 32 (nat k) = _
  unfold Ideal.fptosi nat
  rw [Ideal.toIntClamped_coe, if_pos (Nat.cast_nonneg k), Int.floor_natCast,
    show max (-((2 ^ (32 - 1) : ℕ) : ℤ)) (min (((2 ^ (32 - 1) : ℕ) : ℤ) - 1) (k : ℤ)) = (k : ℤ) from by norm_num; omega]
  exact BitVec.ofInt_natCast 32 k

theorem floor_div (k d : ℕ) (hd : 0 < d) : Int.floor ((k : ℝ) * (1 / (d : ℝ))) = ((k / d : ℕ) : ℤ) := by
  have hd' : (0 : ℝ) < d := by exact_mod_cast hd
  rw [Int.floor_eq_iff, mul_one_div, le_div_iff₀ hd', div_lt_iff₀ hd']
  have h := Nat.div_add_mod k d
  have hm := Nat.mod_lt k hd
  constructor
  · have : k / d * d ≤ k := Nat.div_mul_le_self k d
    exact_mod_cast this
  · have : k < (k / d + 1) * d := by
      calc k = d * (k / d) + k % d := h.symm
        _ < d * (k / d) + d := by omega
        _ = (k / d + 1) * d := by ring
    exact_mod_cast this

theorem nat_floor_div (k d : ℕ) (hd : 0 < d) {w : EReal} (hw : w = ((1 / (d : ℝ) : ℝ) : EReal)) : Ideal.liftRound Int.floor (nat k * w) = nat (k / d) := by
  rw [hw]
  unfold nat
  rw [← EReal.coe_mul, Ideal.liftRound_coe, floor_div k d hd]
  norm_cast

theorem nat_sub_mul (k d : ℕ) {w : EReal} (hw : w = nat d) : nat k - nat (k / d) * w = nat (k % d) := by
  rw [hw]
  unfold nat
  rw [← EReal.coe_mul, ← EReal.coe_sub, EReal.coe_eq_coe_iff]
  have h : (k : ℝ) = d * (k / d : ℕ) + (k % d : ℕ) := by exact_mod_cast (Nat.div_add_mod k d).symm
  rw [h]
  have h2 : (d * (k / d) + k % d) / d = k / d := by rw [Nat.div_add_mod]
  push_cast
  ring

theorem bits_128th : Ideal.ofBits .f32 0x3C000000#32 = ((1 / ((128 : ℕ) : ℝ) : ℝ) : EReal) := by
  simp [Ideal.ofBits, Ideal.ieee, -EReal.coe_mul]; norm_num
theorem bits_64th : Ideal.ofBits .f32 0x3C800000#32 = ((1 / ((64 : ℕ) : ℝ) : ℝ) : EReal) := by
  simp [Ideal.ofBits, Ideal.ieee, -EReal.coe_mul]; norm_num
theorem bits_128 : Ideal.ofBits .f32 0x43000000#32 = nat 128 := by
  unfold nat
  simp [Ideal.ofBits, Ideal.ieee, -EReal.coe_mul]; norm_num
theorem bits_64 : Ideal.ofBits .f32 0x42800000#32 = nat 64 := by
  unfold nat
  simp [Ideal.ofBits, Ideal.ieee, -EReal.coe_mul]; norm_num
theorem bits_127 : Ideal.ofBits .f32 0x42FE0000#32 = nat 127 := by
  unfold nat
  simp [Ideal.ofBits, Ideal.ieee, -EReal.coe_mul]; norm_num

/-! ## The buckets -/

/-- A value clamped to 0 … 127 converts to a whole number in that range. -/
theorem clamp_word (z : EReal) : ∃ k : ℕ, k < 128 ∧ FloatOps.fptosi (F := Ideal) (φ := .f32) 32 (min (Ideal.ofBits .f32 0x42FE0000#32) (max 0 z)) = BitVec.ofNat 32 k := by
  obtain ⟨r, hr⟩ : ∃ r : ℝ, min (Ideal.ofBits .f32 0x42FE0000#32) (max 0 z) = (r : EReal) ∧ 0 ≤ r ∧ r ≤ 127 := by
    rw [bits_127]
    unfold nat
    induction z with
    | bot => exact ⟨0, by simp, le_rfl, by norm_num⟩
    | top => exact ⟨127, by simp, by norm_num, le_rfl⟩
    | coe x =>
      refine ⟨min 127 (max 0 x), by push_cast; rfl, le_min (by norm_num) (le_max_left _ _), min_le_left _ _⟩
  obtain ⟨he, h0, h1⟩ := hr
  have hf0 : 0 ≤ ⌊r⌋ := Int.floor_nonneg.2 h0
  have hf1 : ⌊r⌋ ≤ 127 := by
    have : (⌊r⌋ : ℝ) ≤ 127 := (Int.floor_le r).trans h1
    exact_mod_cast this
  refine ⟨⌊r⌋.toNat, by omega, ?_⟩
  rw [he]
  show Ideal.fptosi 32 _ = _
  unfold Ideal.fptosi
  rw [Ideal.toIntClamped_coe, if_pos h0,
    show max (-((2 ^ (32 - 1) : ℕ) : ℤ)) (min (((2 ^ (32 - 1) : ℕ) : ℤ) - 1) ⌊r⌋) = ⌊r⌋ from by norm_num; omega]
  conv_lhs => rw [← Int.toNat_of_nonneg hf0]
  exact BitVec.ofInt_natCast 32 _

theorem eq_word {a b : ℕ} (ha : a < 128) (hb : b < 128) : IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h, beq_self_eq_true]; rfl
  · rw [if_neg h, beq_eq_false_iff_ne.2 (fun he => h ?_)]
    · rfl
    · have := congrArg BitVec.toNat he
      rw [BitVec.toNat_ofNat, BitVec.toNat_ofNat] at this
      omega

theorem real_row {r : ℕ} (h : r < 5120) : IntOp.cmpi .slt (BitVec.ofNat 32 r) 5000#32 = if r < 5000 then 1#1 else 0#1 := by
  show BitVec.ofBool ((BitVec.ofNat 32 r).slt 5000#32) = _
  rw [BitVec.slt, word_toInt (by omega), show (5000#32 : BitVec 32).toInt = 5000 from by decide]
  by_cases hr : r < 5000
  · rw [if_pos hr, decide_eq_true (by omega)]; rfl
  · rw [if_neg hr, decide_eq_false (by omega)]; rfl

/-- Each row has one bucket, and the rows from 5000 on the last. -/
theorem hot_bucket (x : Vec Ideal S1x5120x1 .f32) (r : Fin 5120) :
    ∃ k : ℕ, k < 128 ∧ (5000 ≤ r.val → k = 127) ∧ ∀ l : Fin 128, k0_pay2 x (ix2 r l) = nat (if k = l.val then 1 else 0) := by
  obtain ⟨Z, hZ⟩ : ∃ Z : FVec Ideal S5120x1 .f32, k0_pay2 x = select (cmpi .eq (iota .tc S5120x128 32 [1] iota_S5120x128_d1_w32)
      (broadcastTo S5120x128 (select (cmpi .slt (iota .tc S5120x1 32 [0] iota_S5120x1_d0_w32) (broadcast S5120x1 5000#32))
        (fptosi 32 (minimumf (broadcast S5120x1 (Scalar.ofBits .f32 0x42FE0000#32)) (maximumf (broadcast S5120x1 (Scalar.ofBits .f32 0x00000000#32)) Z)))
        (broadcast S5120x1 127#32)) broadcasts_S5120x1_S5120x128))
      (broadcast S5120x128 (Scalar.ofBits .f32 0x3F800000#32)) (broadcast S5120x128 (Scalar.ofBits .f32 0x00000000#32)) := ⟨_, rfl⟩
  obtain ⟨z, hz⟩ : ∃ z : EReal, ∀ l : Fin 128, k0_pay2 x (ix2 r l) = Scalar.select (IntOp.cmpi .eq (BitVec.ofNat 32 l.val)
      (Scalar.select (IntOp.cmpi .slt (BitVec.ofNat 32 r.val) 5000#32)
        (FloatOps.fptosi (F := Ideal) (φ := .f32) 32 (min (Ideal.ofBits .f32 0x42FE0000#32) (max 0 z))) 127#32)) 1 0 := by
    refine ⟨Z (ix2 r 0), fun l => ?_⟩
    rw [hZ]
    pointwise
  obtain ⟨k, hk, hw⟩ := clamp_word z
  refine ⟨if r.val < 5000 then k else 127, by split_ifs <;> omega, fun h => if_neg (by omega), fun l => ?_⟩
  rw [hz, hw, real_row r.isLt]
  have hl := l.isLt
  by_cases hr : r.val < 5000
  · rw [if_pos hr, if_pos hr, show Scalar.select 1#1 (BitVec.ofNat 32 k) 127#32 = BitVec.ofNat 32 k from rfl, eq_word hl hk]
    by_cases h : l.val = k
    · rw [if_pos h, if_pos h.symm, nat_one]; rfl
    · rw [if_neg h, if_neg fun h' => h h'.symm, nat_zero]; rfl
  · rw [if_neg hr, if_neg hr, show Scalar.select 0#1 (BitVec.ofNat 32 k) 127#32 = BitVec.ofNat 32 127 from rfl, eq_word hl (by norm_num)]
    by_cases h : l.val = 127
    · rw [if_pos h, if_pos h.symm, nat_one]; rfl
    · rw [if_neg h, if_neg fun h' => h h'.symm, nat_zero]; rfl

open Classical in
/-- The bucket of each row of an image. -/
def bucket (x : Vec Ideal S1x5120x1 .f32) (t : ℕ) : ℕ := if h : t < 5120 then (hot_bucket x ⟨t, h⟩).choose else 127

variable (x : Vec Ideal S1x5120x1 .f32)

theorem bucket_lt (t : ℕ) : bucket x t < 128 := by
  unfold bucket
  split_ifs with h
  · exact (hot_bucket x ⟨t, h⟩).choose_spec.1
  · norm_num
theorem bucket_pad (t : ℕ) (ht : 5000 ≤ t) : bucket x t = 127 := by
  unfold bucket
  split_ifs with h
  · exact (hot_bucket x ⟨t, h⟩).choose_spec.2.1 ht
  · rfl
theorem hot_at (r : Fin 5120) (l : Fin 128) : k0_pay2 x (ix2 r l) = nat (if bucket x r.val = l.val then 1 else 0) := by
  unfold bucket
  rw [dif_pos r.isLt]
  exact (hot_bucket x r).choose_spec.2.2 l

/-! ## The counts -/

theorem cnt_at (r : Fin 5120) (l : Fin 128) : k0_pay4 (k0_pay3 x) (Scalar.ofBits .f32 0x00000000#32) (ix2 r l) = nat (below (bucket x) (r.val + 1) l.val) := by
  rw [pay3_eq, pay4_eq]
  have h1 : RowWin (fun l n => below (bucket x) n l) 1 (k0_pay2 x) := fun r l => by
    rw [hot_at]
    exact congrArg nat (win_one (f := fun n => below (bucket x) n l.val) (fun k => below_succ _ k _) r.val).symm
  rw [rows_win (fun l => below_mono _ l) (fun l => below_zero _ l) h1 r l,
    win_all (f := fun n => below (bucket x) n l.val) (below_zero _ _) (by have := r.isLt; omega)]

theorem tot_at (l : Fin 128) : k0_pay5 (k0_pay3 x) (Scalar.ofBits .f32 0x00000000#32) (ix2 0 l) = nat (below (bucket x) 5120 l.val) := by
  have h := cnt_at x ⟨5119, by norm_num⟩ l
  rw [← h]
  unfold k0_pay5
  generalize k0_pay4 (k0_pay3 x) (Scalar.ofBits .f32 0x00000000#32) = C
  pointwise

theorem lanes_at (l : Fin 128) : lanes (k0_pay5 (k0_pay3 x) (Scalar.ofBits .f32 0x00000000#32)) (ix2 0 l) = nat (start (bucket x) (l.val + 1)) := by
  have h1 : LaneWin (start (bucket x)) 1 (k0_pay5 (k0_pay3 x) (Scalar.ofBits .f32 0x00000000#32)) := fun l => by
    rw [tot_at]
    exact congrArg nat (win_one (f := start (bucket x)) (fun k => start_succ _ k) l.val).symm
  rw [lanes_win (start_mono _) (start_zero _) h1 l, win_all (start_zero _) l.isLt]

theorem pay6_at (H C : FVec Ideal S5120x128 .f32) (T : FVec Ideal S1x128 .f32) (r : Fin 5120) :
    k0_pay6 H C T (ix2 r 0) = ∑ l : Fin 128, H (ix2 r l) * (C (ix2 r l) + (lanes T (ix2 0 l) - T (ix2 0 l)) - 1) := by
  have e : k0_pay6 H C T = shapeCast S5120x1 (multiReduction .add [1] S5120 (mulf H (subf (addf C (broadcastTo S5120x128 (subf (lanes T) T) broadcasts_S1x128_S5120x128))
      (broadcast S5120x128 (Scalar.ofBits .f32 0x3F800000#32)))) 0x00000000#32 reduces_S5120x128_S5120 (.inl rfl) rfl) shapeCasts_S5120_S5120x1 := rfl
  rw [e]
  generalize lanes T = L
  pointwise

/-- A row's place. -/
theorem pos_at (r : Fin 5120) : k0_pay6 (k0_pay2 x) (k0_pay4 (k0_pay3 x) (Scalar.ofBits .f32 0x00000000#32)) (k0_pay5 (k0_pay3 x) (Scalar.ofBits .f32 0x00000000#32)) (ix2 r 0)
    = nat (place (bucket x) r.val) := by
  rw [pay6_at, Finset.sum_eq_single (⟨bucket x r.val, bucket_lt x _⟩ : Fin 128)]
  · rw [hot_at, cnt_at, lanes_at, tot_at, if_pos rfl, nat_one, one_mul, below_succ, if_pos rfl, start_succ]
    unfold place nat
    rw [← EReal.coe_sub, ← EReal.coe_add, ← EReal.coe_one, ← EReal.coe_sub, EReal.coe_eq_coe_iff]
    push_cast
    ring
  · intro l _ hl
    rw [hot_at, if_neg fun h => hl (Fin.ext h.symm), nat_zero, zero_mul]
  · intro h
    exact absurd (Finset.mem_univ _) h

/-- The image's order. -/
def order : Fin 5120 ≃ Fin 5120 := perm (bucket (keys x)) (bucket_lt (keys x))

theorem order_real (r : Fin 5120) : (order x r).val < 5000 ↔ r.val < 5000 := perm_real _ (bucket_lt _) (bucket_pad _) r

theorem posBlk_at (r : Fin 5120) : posBlk x (ix3 0 r 0) = BitVec.ofNat 32 (order x r).val := by
  have h : posBlk x (ix3 0 r 0) = FloatOps.fptosi (F := Ideal) (φ := .f32) 32 (k0_pay6 (hot x) (cnt x) (tot x) (ix2 r 0)) := by
    unfold posBlk k0_pay7
    generalize k0_pay6 (hot x) (cnt x) (tot x) = P
    pointwise
  rw [h, pos_at, nat_toInt _ (place_lt _ (bucket_lt _) r.isLt)]
  rfl

/-! ## The rows by place -/

theorem pay1_at (P G : FVec Ideal S5120x1 .f32) (L : FVec Ideal S5120x128 .f32) (K : FVec Ideal S5120x1 .f32) (q : Ideal .f32) (p : Fin 5120) :
    k0_pay1 P L K G q (ix3 0 0 p) = FloatOps.fptosi (F := Ideal) (φ := .f32) 32
      ((∑ r : Fin 5120, (if L (ix2 r ⟨p.val / 128, by omega⟩) = G (ix2 r 0) then 1 else 0)
          * ((if L (ix2 r ⟨p.val % 128, by omega⟩) = P (ix2 r 0) - G (ix2 r 0) * q then 1 else 0) * Ideal.liftRound Int.floor (K (ix2 r 0) * Ideal.ofBits .f32 0x3C800000#32)))
            * Ideal.ofBits .f32 0x42800000#32
        + ∑ r : Fin 5120, (if L (ix2 r ⟨p.val / 128, by omega⟩) = G (ix2 r 0) then 1 else 0)
          * ((if L (ix2 r ⟨p.val % 128, by omega⟩) = P (ix2 r 0) - G (ix2 r 0) * q then 1 else 0)
            * (K (ix2 r 0) - Ideal.liftRound Int.floor (K (ix2 r 0) * Ideal.ofBits .f32 0x3C800000#32) * Ideal.ofBits .f32 0x42800000#32))) := by
  unfold k0_pay1
  pointwise

theorem lane_at (r : Fin 5120) (l : Fin 128) : (k0_pay8 (F := Ideal) (iota .tc S5120x128 32 [1] iota_S5120x128_d1_w32)) (ix2 r l) = nat l.val := by
  have h : (k0_pay8 (F := Ideal) (iota .tc S5120x128 32 [1] iota_S5120x128_d1_w32)) (ix2 r l) = (((BitVec.ofNat 32 l.val).toInt : ℝ) : EReal) := by
    unfold k0_pay8
    pointwise
    rfl
  rw [h, word_toInt (by have := l.isLt; omega)]
  rfl
theorem num_at (r : Fin 5120) : (k0_pay9 (F := Ideal) (iota .tc S5120x1 32 [0] iota_S5120x1_d0_w32)) (ix2 r 0) = nat r.val := by
  have h : (k0_pay9 (F := Ideal) (iota .tc S5120x1 32 [0] iota_S5120x1_d0_w32)) (ix2 r 0) = (((BitVec.ofNat 32 r.val).toInt : ℝ) : EReal) := by
    unfold k0_pay9
    pointwise
    rfl
  rw [h, word_toInt (by have := r.isLt; omega)]
  rfl
theorem group_at (H C : FVec Ideal S5120x128 .f32) (T : FVec Ideal S1x128 .f32) (r : Fin 5120) (k : ℕ) (h : k0_pay6 H C T (ix2 r 0) = nat k) :
    k0_pay10 H C T (ix2 r 0) = nat (k / 128) := by
  rw [← nat_floor_div k 128 (by norm_num) bits_128th, ← h]
  unfold k0_pay10
  generalize k0_pay6 H C T = P
  pointwise

/-- A sum over the rows that only the row with the place keeps. -/
theorem sum_place (p : Fin 5120) (f : Fin 5120 → EReal) :
    (∑ r : Fin 5120, (if nat (p.val / 128) = nat ((order x r).val / 128) then (1 : EReal) else 0) * ((if nat (p.val % 128) = nat ((order x r).val % 128) then (1 : EReal) else 0) * f r))
      = f ((order x).symm p) := by
  rw [Finset.sum_eq_single ((order x).symm p)]
  · rw [Equiv.apply_symm_apply, if_pos rfl, if_pos rfl, one_mul, one_mul]
  · intro r _ hr
    by_cases h1 : p.val / 128 = (order x r).val / 128
    · rw [if_neg (c := nat (p.val % 128) = _) (fun h2 => hr ?_), zero_mul, mul_zero]
      rw [nat_inj] at h2
      rw [← Equiv.symm_apply_apply (order x) r]
      exact congrArg _ (Fin.ext (by omega))
    · rw [if_neg (fun h => h1 (nat_inj.1 h)), zero_mul]
  · intro h
    exact absurd (Finset.mem_univ _) h

theorem pay1_place {P G : FVec Ideal S5120x1 .f32} {L : FVec Ideal S5120x128 .f32} {K : FVec Ideal S5120x1 .f32} {q : Ideal .f32} (p : Fin 5120)
    (hP : ∀ r : Fin 5120, P (ix2 r 0) = nat (order x r).val) (hG : ∀ r : Fin 5120, G (ix2 r 0) = nat ((order x r).val / 128))
    (hL : ∀ (r : Fin 5120) (l : Fin 128), L (ix2 r l) = nat l.val) (hK : ∀ r : Fin 5120, K (ix2 r 0) = nat r.val) (hq : q = nat 128) :
    k0_pay1 P L K G q (ix3 0 0 p) = BitVec.ofNat 32 ((order x).symm p).val := by
  rw [pay1_at]
  simp only [hP, hG, hL, hK, hq, nat_sub_mul _ 128 rfl, nat_floor_div _ 64 (by norm_num) bits_64th, nat_sub_mul _ 64 bits_64]
  rw [sum_place x p (fun r => nat (r.val / 64)), sum_place x p (fun r => nat (r.val % 64)), bits_64]
  have h : nat (((order x).symm p).val / 64) * nat 64 + nat (((order x).symm p).val % 64) = nat ((order x).symm p).val := by
    generalize ((order x).symm p).val = k
    have hk : (k : ℝ) = 64 * (k / 64 : ℕ) + (k % 64 : ℕ) := by exact_mod_cast (Nat.div_add_mod k 64).symm
    unfold nat
    rw [← EReal.coe_mul, ← EReal.coe_add, EReal.coe_eq_coe_iff, hk]
    push_cast
    ring
  rw [h, nat_toInt _ ((order x).symm p).isLt]

theorem permBlk_at (p : Fin 5120) : permBlk x (ix3 0 0 p) = BitVec.ofNat 32 ((order x).symm p).val := by
  have hP : ∀ r : Fin 5120, k0_pay6 (hot x) (cnt x) (tot x) (ix2 r 0) = nat (order x r).val := fun r => pos_at _ r
  exact pay1_place x p hP (fun r => group_at _ _ _ r _ (hP r)) lane_at num_at bits_128

end Cert.Proof.KernelIdeal.Pos

end
-- ==== Proof.Overlap.lean ====
/-
  Boxes on a line: when two of them overlap enough, and why a pair that the kernel's bounds rule out does not.

  A box is a start and an end, which may be infinite; its length is at most zero or at least `1e-9`. The reference divides the overlap
  by the union (at least `1e-9`) and compares with the threshold `T`; the kernel compares the overlap with `T / (1 + T)` of the two
  lengths' sum. They agree for a box in range, that is one that starts after -10 and ends before 10, against any other.
-/
module

public import Idealize.ShloMosaic.PureOps.Ideal
public import Idealize.ShloMosaic.PureOps.Ideal.Laws
public import Idealize.ShloMosaic.Lib.IdealHost

@[expose] public section

noncomputable section

namespace Cert.Proof.Overlap

open Idealize.ShloMosaic

/-- The least length of a box that is not empty, the reference's threshold, the kernel's share of the lengths, the far constant. -/
def tiny : ℝ := 9007199 / 9007199254740992
def thr : ℝ := 7549747 / 16777216
def share : ℝ := 7549747 / 24326963
def far : ℝ := 1000000

theorem bits_tiny : Ideal.ofBits .f32 0x3089705F#32 = (tiny : EReal) := by
  unfold tiny
  simp [Ideal.ofBits, Ideal.ieee, -EReal.coe_mul]; norm_num
theorem bits_thr : Ideal.ofBits .f32 0x3EE66666#32 = (thr : EReal) := by
  unfold thr
  simp [Ideal.ofBits, Ideal.ieee, -EReal.coe_mul]; norm_num
theorem bits_far : Ideal.ofBits .f32 0x49742400#32 = (far : EReal) := by
  unfold far
  simp [Ideal.ofBits, Ideal.ieee, -EReal.coe_mul]; norm_num
theorem bits_negfar : Ideal.ofBits .f32 0xC9742400#32 = ((-far : ℝ) : EReal) := by
  unfold far
  simp [Ideal.ofBits, Ideal.ieee, -EReal.coe_mul, -EReal.coe_neg]; norm_num
theorem bits_top : Ideal.ofBits .f32 0x7F800000#32 = ⊤ := by simp [Ideal.ofBits, Ideal.ieee]
theorem bits_bot : Ideal.ofBits .f32 0xFF800000#32 = ⊥ := by simp [Ideal.ofBits, Ideal.ieee]
/-- The least score that counts. -/
def cls : ℝ := 10737418 / 1073741824
theorem bits_cls : Ideal.ofBits .f32 0x3C23D70A#32 = (cls : EReal) := by
  unfold cls
  simp [Ideal.ofBits, Ideal.ieee, -EReal.coe_mul]; norm_num

theorem bits_ten : Ideal.ofBits .f32 0x41200000#32 = ((10 : ℝ) : EReal) := by
  simp [Ideal.ofBits, Ideal.ieee, -EReal.coe_mul]; norm_num

/-- The boxes the precondition allows. -/
def Ok (s e : EReal) : Prop := e - s ≤ 0 ∨ (tiny : EReal) ≤ e - s

/-- The boxes that may be output at all. -/
def Rng (s e : EReal) : Prop := Ideal.ofBits .f32 0xC1200000#32 < s ∧ e < Ideal.ofBits .f32 0x41200000#32

/-- What the kernel asks of two boxes. -/
def hit (s e s' e' : EReal) : Prop := (e' - s') * (share : EReal) + (e - s) * (share : EReal) < min e' e - max s' s

/-! The two tests on real boxes. -/

/-- The overlap of two boxes, negative when they are apart. -/
def inter (s e s' e' : ℝ) : ℝ := min e' e - max s' s

/-- The kernel's test, of real boxes. -/
def hitR (s e s' e' : ℝ) : Prop := (e' - s') * share + (e - s) * share < inter s e s' e'

theorem inter_le (s e s' e' : ℝ) : inter s e s' e' ≤ e - s := sub_le_sub (min_le_right _ _) (le_max_right _ _)
theorem inter_le' (s e s' e' : ℝ) : inter s e s' e' ≤ e' - s' := sub_le_sub (min_le_left _ _) (le_max_left _ _)

/-- Boxes that pass the kernel's test do overlap. -/
theorem hitR_pos {s e s' e' : ℝ} (h : hitR s e s' e') : 0 < inter s e s' e' := by
  have i1 := inter_le s e s' e'
  have i2 := inter_le' s e s' e'
  unfold hitR share at h
  linarith

/-- The reference's quotient exceeds the threshold exactly when the kernel's test succeeds. -/
theorem hitR_iff {s e s' e' : ℝ} (h : e - s ≤ 0 ∨ tiny ≤ e - s) :
    thr < max (inter s e s' e') 0 / max ((e - s) + (e' - s') - max (inter s e s' e') 0) tiny ↔ hitR s e s' e' := by
  have ht : (0 : ℝ) < tiny := by norm_num [tiny]
  have hD : 0 < max ((e - s) + (e' - s') - max (inter s e s' e') 0) tiny := lt_max_of_lt_right ht
  have i1 := inter_le s e s' e'
  have i2 := inter_le' s e s' e'
  rw [lt_div_iff₀ hD]
  constructor
  · intro hI
    have hU := le_max_left ((e - s) + (e' - s') - max (inter s e s' e') 0) tiny
    have hlt : thr * ((e - s) + (e' - s') - max (inter s e s' e') 0) < max (inter s e s' e') 0 :=
      lt_of_le_of_lt (mul_le_mul_of_nonneg_left hU (by norm_num [thr])) hI
    have hpos : 0 < max (inter s e s' e') 0 := lt_of_le_of_lt (mul_nonneg (by norm_num [thr]) hD.le) hI
    have hIp : max (inter s e s' e') 0 = inter s e s' e' := max_eq_left (by
      rcases le_total (inter s e s' e') 0 with hz | hz
      · rw [max_eq_right hz] at hpos; exact absurd hpos (lt_irrefl _)
      · exact hz)
    rw [hIp] at hlt
    unfold thr at hlt
    unfold hitR share
    linarith
  · intro hI
    have hIpos := hitR_pos hI
    rw [max_eq_left hIpos.le]
    have hb : tiny ≤ e - s := h.resolve_left (by linarith)
    rw [max_eq_left (by linarith : tiny ≤ (e - s) + (e' - s') - inter s e s' e')]
    unfold hitR share at hI
    unfold thr
    linarith

/-! The two tests on boxes that may be infinite, the first of them in range. -/

theorem inter_coe (s e s' e' : ℝ) : min (e' : EReal) e - max (s' : EReal) s = ((inter s e s' e' : ℝ) : EReal) := by
  unfold inter; norm_cast

theorem hit_coe (s e s' e' : ℝ) : hit (s : EReal) e s' e' ↔ hitR s e s' e' := by
  have e2 : ((e' : EReal) - s') * (share : EReal) + ((e : EReal) - s) * (share : EReal)
      = (((e' - s') * share + (e - s) * share : ℝ) : EReal) := by norm_cast
  unfold hit hitR
  rw [inter_coe, e2, EReal.coe_lt_coe_iff]

/-- A box in range against another: both are real, or the overlap is minus infinity, or the other alone is infinitely long. -/
theorem real_or {s e : EReal} (s' e' : EReal) (hr : Rng s e) :
    (∃ a b a' b' : ℝ, s = a ∧ e = b ∧ s' = a' ∧ e' = b') ∨ min e' e - max s' s = ⊥
      ∨ ∃ L I : ℝ, e - s = (L : EReal) ∧ e' - s' = ⊤ ∧ min e' e - max s' s = (I : EReal) := by
  have hs : s ≠ ⊥ := ne_bot_of_gt hr.1
  have he : e ≠ ⊤ := ne_top_of_lt hr.2
  by_cases hs' : s = ⊤
  · subst hs'; exact Or.inr (Or.inl (by simp))
  by_cases he' : e = ⊥
  · subst he'; exact Or.inr (Or.inl (by simp))
  lift s to ℝ using ⟨hs', hs⟩
  lift e to ℝ using ⟨he, he'⟩
  induction s' using EReal.rec with
  | top => exact Or.inr (Or.inl (by simp))
  | bot =>
    induction e' using EReal.rec with
    | bot => exact Or.inr (Or.inl (by simp))
    | top => exact Or.inr (Or.inr ⟨e - s, e - s, by norm_cast, by simp, by simp⟩)
    | coe b => exact Or.inr (Or.inr ⟨e - s, min b e - s, by norm_cast, by simp, by rw [max_eq_right bot_le]; norm_cast⟩)
  | coe a =>
    induction e' using EReal.rec with
    | bot => exact Or.inr (Or.inl (by simp))
    | top => exact Or.inr (Or.inr ⟨e - s, e - max a s, by norm_cast, by simp, by rw [min_eq_right le_top]; norm_cast⟩)
    | coe b => exact Or.inl ⟨s, e, a, b, rfl, rfl, rfl, rfl⟩

/-- The kernel's test fails against a box of infinite length. -/
theorem top_not_hit {L I : ℝ} : ¬ (⊤ : EReal) * (share : EReal) + (L : EReal) * (share : EReal) < (I : EReal) := by
  have hs : (0 : ℝ) < share := by norm_num [share]
  rw [EReal.top_mul_coe_of_pos hs, ← EReal.coe_mul, EReal.top_add_coe]
  exact not_lt_of_ge le_top

/-- Boxes that do not overlap fail the kernel's test. -/
theorem not_hit_of_le {s e s' e' : EReal} (hr : Rng s e) (hd : min e' e ≤ max s' s) : ¬ hit s e s' e' := by
  rcases real_or s' e' hr with ⟨a, b, a', b', rfl, rfl, rfl, rfl⟩ | h | ⟨L, I, h1, h2, h3⟩
  · rw [hit_coe]
    intro h
    have hp := hitR_pos h
    unfold inter at hp
    rw [← EReal.coe_strictMono.monotone.map_min, ← EReal.coe_strictMono.monotone.map_max, EReal.coe_le_coe_iff] at hd
    linarith
  · unfold hit; rw [h]; exact not_lt_bot
  · unfold hit; rw [h1, h2, h3]; exact top_not_hit

open Classical in
/-- The end of a box as the bounds take it: far boxes end below everything. -/
def endM (s e : EReal) : EReal := if s < (far : EReal) then e else ((-far : ℝ) : EReal)

/-- Two boxes of which one's end, as the bounds take it, lies before the other's start do not overlap enough. -/
theorem not_hit {s e s' e' : EReal} (hr : Rng s e) (hd : endM s e < s' ∨ endM s' e' < s) : ¬ hit s e s' e' := by
  have hf : e < (far : EReal) := hr.2.trans (by rw [bits_ten, EReal.coe_lt_coe_iff]; norm_num [far])
  refine not_hit_of_le hr ?_
  unfold endM at hd
  rcases hd with hd | hd <;> split_ifs at hd with h
  · exact (min_le_right _ _).trans (hd.le.trans (le_max_left _ _))
  · exact (min_le_right _ _).trans ((hf.le.trans (not_lt.1 h)).trans (le_max_right _ _))
  · exact (min_le_left _ _).trans (hd.le.trans (le_max_right _ _))
  · exact (min_le_right _ _).trans ((hf.le.trans (not_lt.1 h)).trans (le_max_left _ _))

theorem not_thr_lt : ¬ (thr : EReal) < 0 := by
  have h : (0 : ℝ) ≤ thr := by norm_num [thr]
  exact not_lt_of_ge (by exact_mod_cast h)

/-- The reference's comparison is the kernel's. -/
theorem iou_iff {s e s' e' : EReal} (hr : Rng s e) (h : Ok s e) :
    (thr : EReal) < Ideal.div (max (min e e' - max s s') 0) (max (e - s + (e' - s') - max (min e e' - max s s') 0) (tiny : EReal)) ↔ hit s e s' e' := by
  have ht : (0 : ℝ) < tiny := by norm_num [tiny]
  rw [min_comm e, max_comm s]
  rcases real_or s' e' hr with ⟨a, b, a', b', rfl, rfl, rfl, rfl⟩ | h0 | ⟨L, I, h1, h2, h3⟩
  · have hD : 0 < max ((b - a) + (b' - a') - max (inter a b a' b') 0) tiny := lt_max_of_lt_right ht
    have e1 : max ((inter a b a' b' : ℝ) : EReal) 0 = ((max (inter a b a' b') 0 : ℝ) : EReal) := by norm_cast
    have e2 : max ((b : EReal) - a + ((b' : EReal) - a') - ((max (inter a b a' b') 0 : ℝ) : EReal)) (tiny : EReal)
        = ((max ((b - a) + (b' - a') - max (inter a b a' b') 0) tiny : ℝ) : EReal) := by norm_cast
    have hok : b - a ≤ 0 ∨ tiny ≤ b - a := h.imp (fun h => by exact_mod_cast h) (fun h => by exact_mod_cast h)
    rw [inter_coe, e1, e2, hit_coe, ← hitR_iff hok]
    unfold Ideal.div
    rw [if_neg (by exact_mod_cast hD.ne'), ← EReal.coe_inv, ← EReal.coe_mul, EReal.coe_lt_coe_iff, div_eq_mul_inv]
  · unfold hit
    rw [h0, max_eq_right bot_le]
    refine iff_of_false ?_ not_lt_bot
    unfold Ideal.div
    have hD : max (e - s + (e' - s') - 0) (tiny : EReal) ≠ 0 := (lt_max_of_lt_right (by exact_mod_cast ht)).ne'
    rw [if_neg hD, zero_mul]
    exact not_thr_lt
  · unfold hit
    rw [h1, h2, h3]
    refine iff_of_false ?_ top_not_hit
    have e1 : max (I : EReal) 0 = ((max I 0 : ℝ) : EReal) := by norm_cast
    rw [e1, EReal.coe_add_top, EReal.top_sub_coe, max_eq_left le_top]
    unfold Ideal.div
    rw [if_neg EReal.top_ne_zero, EReal.inv_top, mul_zero]
    exact not_thr_lt

end Cert.Proof.Overlap

end
-- ==== Proof.Spec.lean ====
/-
  What both programs compute, as plain mathematics: boxes decoded from offsets, scores as a softmax, and of the scores a box has in its
  ten classes those no overlapping box of a higher score in the class suppresses; and the kernel's way of saying so, by the greatest
  score among the overlapping boxes.
-/
module

public import proofs.«01_k».proof.Proof.Overlap

@[expose] public section

noncomputable section

namespace Cert.Proof.Overlap

open Idealize.ShloMosaic

/-! One-bit words as truth values. -/

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem ofBool_one (b : Bool) : BitVec.ofBool b = 1#1 ↔ b = true := by revert b; decide
theorem select_one {α : Type} (p : BitVec 1) (a b : α) : Scalar.select p a b = if p = 1#1 then a else b := by
  unfold Scalar.select
  split_ifs <;> simp_all
theorem foldor_one {ι : Type} [Fintype ι] (f : ι → BitVec 1) : Finset.fold IntOp.ori 0#1 f Finset.univ = 1#1 ↔ ∃ j, f j = 1#1 := by
  have h : ∀ s : Finset ι, Finset.fold IntOp.ori 0#1 f s = 1#1 ↔ ∃ j ∈ s, f j = 1#1 := by
    classical
    intro s
    induction s using Finset.induction_on with
    | empty => simp
    | insert a s ha ih => rw [Finset.fold_insert ha, ori_one, ih]; simp
  simpa using h Finset.univ
theorem foldand_one {ι : Type} [Fintype ι] (f : ι → BitVec 1) : Finset.fold IntOp.andi 1#1 f Finset.univ = 1#1 ↔ ∀ j, f j = 1#1 := by
  have h : ∀ s : Finset ι, Finset.fold IntOp.andi 1#1 f s = 1#1 ↔ ∀ j ∈ s, f j = 1#1 := by
    classical
    intro s
    induction s using Finset.induction_on with
    | empty => simp
    | insert a s ha ih => rw [Finset.fold_insert ha, andi_one, ih]; simp
  simpa using h Finset.univ

/-! Decoding and scores. -/

/-- The centre and the width of a box, from the default's centre and width `dc dw` and the two offsets. -/
def centre (dc dw l0 : EReal) : EReal := dc + l0 * Ideal.ofBits .f32 0x3DCCCCCD#32 * dw
def width (dw l1 : EReal) : EReal := dw * Ideal.exp (l1 * Ideal.ofBits .f32 0x3E4CCCCD#32)
/-- The start and the end of a box. -/
def startOf (dc dw l0 l1 : EReal) : EReal := centre dc dw l0 - Ideal.div (width dw l1) (Ideal.ofBits .f32 0x40000000#32)
def stopOf (dc dw l0 l1 : EReal) : EReal := centre dc dw l0 + Ideal.div (width dw l1) (Ideal.ofBits .f32 0x40000000#32)

/-- The greatest of eleven values, and the softmax. -/
def top (x : Fin 11 → EReal) : EReal := Finset.fold max (Ideal.ofBits .f32 0xFF800000#32) x Finset.univ
def soft (x : Fin 11 → EReal) (k : Fin 11) : EReal := Ideal.div (Ideal.exp (x k - top x)) (∑ j : Fin 11, Ideal.exp (x j - top x))

open Classical in
/-- A score over the least, else zero. -/
def over (y : EReal) : EReal := if (cls : EReal) < y then y else 0

/-- Scores that are zero or over the least, as the suppression takes them, with nothing in the classes from ten on. -/
structure Good (a1 : Fin 4 → Fin 16 → Fin 5120 → EReal) : Prop where
  score : ∀ b c i, a1 b c i = 0 ∨ (cls : EReal) < a1 b c i
  pad : ∀ b (c : Fin 16) i, 10 ≤ c.val → a1 b c i = 0

open Classical in
/-- One where the box `s' e'` overlaps the box `s e` enough, else zero. -/
def wt (s e s' e' : EReal) : EReal := if hit s e s' e' then 1 else 0

open Classical in
/-- A box's score in a class where no overlapping box's is higher, else zero. -/
def kept {ι : Type} (s e : ι → EReal) (sc : ι → EReal) (i : ι) : EReal :=
  if Rng (s i) (e i) ∧ (cls : EReal) < sc i ∧ ∀ j, hit (s i) (e i) (s j) (e j) → sc j ≤ sc i then sc i else 0

theorem cls_pos : (0 : EReal) < (cls : EReal) := by
  have : (0 : ℝ) < cls := by norm_num [cls]
  exact_mod_cast this

theorem kept_nonneg {ι : Type} (s e : ι → EReal) (sc : ι → EReal) (i : ι) : 0 ≤ kept s e sc i := by
  unfold kept
  split_ifs with h
  · exact (cls_pos.trans h.2.1).le
  · exact le_rfl

open Classical in
/-- The kernel's test for one class: the greatest overlapping score `mx` is at most the box's own. -/
theorem kept_of_max {ι : Type} {s e : ι → EReal} {sc : ι → EReal} {i : ι} {mx : EReal} (hsc : ∀ j, sc j = 0 ∨ (cls : EReal) < sc j)
    (hr : Rng (s i) (e i)) (hm : ∀ x, 0 ≤ x → (mx ≤ x ↔ ∀ j, wt (s i) (e i) (s j) (e j) * sc j ≤ x)) :
    (if mx ≤ sc i then sc i else 0) = kept s e sc i := by
  unfold kept
  rcases hsc i with h0 | hp
  · rw [h0]; simp
  · have hi : 0 ≤ sc i := (cls_pos.trans hp).le
    refine if_congr ?_ rfl rfl
    rw [hm _ hi]
    constructor
    · refine fun h => ⟨hr, hp, fun j hj => ?_⟩
      have := h j
      rwa [wt, if_pos hj, one_mul] at this
    · rintro ⟨-, -, h⟩ j
      unfold wt
      split_ifs with hj
      · rw [one_mul]; exact h j hj
      · rw [zero_mul]; exact hi

open Classical in
/-- The reference's test for one class: no valid box of a higher score has an overlap quotient over the threshold. -/
theorem kept_of_none {ι : Type} {s e : ι → EReal} {x : ι → EReal} {i : ι} {Q : ι → Prop} (hQ : Rng (s i) (e i) → ∀ j, Q j ↔ hit (s i) (e i) (s j) (e j)) :
    (if ((cls : EReal) < x i ∧ ¬ ∃ j, (cls : EReal) < x j ∧ x i < x j ∧ Q j) ∧ Rng (s i) (e i) then x i else 0) = kept s e (fun j => over (x j)) i := by
  unfold kept
  by_cases hi : (cls : EReal) < x i
  · have ho : over (x i) = x i := if_pos hi
    simp only [ho]
    refine if_congr ?_ rfl rfl
    constructor
    · rintro ⟨⟨hp, hn⟩, hr⟩
      refine ⟨hr, hp, fun j hj => ?_⟩
      unfold over
      split_ifs with hc
      · exact not_lt.1 fun hlt => hn ⟨j, hc, hlt, (hQ hr j).2 hj⟩
      · exact (cls_pos.trans hp).le
    · rintro ⟨hr, hp, h⟩
      refine ⟨⟨hp, fun ⟨j, hc, hlt, hj⟩ => ?_⟩, hr⟩
      have := h j ((hQ hr j).1 hj)
      rw [over, if_pos hc] at this
      exact absurd this (not_le.2 hlt)
  · have ho : over (x i) = 0 := if_neg hi
    simp only [ho]
    rw [if_neg fun h => hi h.1.1, if_neg fun h => absurd cls_pos (not_lt.2 h.2.1.le)]

open Classical in
/-- Boxes of score zero suppress nothing: only the places `f` gives matter. -/
theorem kept_map {ι κ : Type} (f : ι → κ) {s e : κ → EReal} {sc : κ → EReal} {s' e' : ι → EReal} {sc' : ι → EReal} (hs : ∀ i, s (f i) = s' i) (he : ∀ i, e (f i) = e' i)
    (hsc : ∀ i, sc (f i) = sc' i) (h0 : ∀ j, (∀ i, f i ≠ j) → sc j = 0) (i : ι) : kept s e sc (f i) = kept s' e' sc' i := by
  unfold kept
  rw [hs, he, hsc]
  refine if_congr (and_congr_right fun _ => and_congr_right fun hp => ⟨fun h j hj => ?_, fun h j hj => ?_⟩) rfl rfl
  · rw [← hsc]
    exact h (f j) (by rw [hs, he]; exact hj)
  · by_cases hj' : ∃ k, f k = j
    · obtain ⟨k, rfl⟩ := hj'
      rw [hs, he] at hj
      rw [hsc]
      exact h k hj
    · rw [h0 j fun k hk => hj' ⟨k, hk⟩]
      exact (cls_pos.trans hp).le

end Cert.Proof.Overlap

end
-- ==== Proof.PrepValue.lean ====
/-
  What the second call computes at a place: the decoded box and the scores over the least, and beyond the 5000 real places a far empty box
  with scores zero.
-/
module

public import proofs.«01_k».proof.Proof.Prep
public import proofs.«01_k».proof.Proof.Spec
public import proofs.«01_k».proof.Proof.Count
public import Idealize.ShloMosaic.Lib.Pointwise

@[expose] public section

set_option maxRecDepth 16384

noncomputable section

namespace Cert.Proof.KernelIdeal.Prep

open Cert.KernelIdeal Cert.KernelIdeal.Gen Cert.Proof.Overlap
open Idealize.ShloMosaic Idealize.ShloMosaic.TcCoe

theorem real_word {r : ℕ} (h : r < 5120) : IntOp.cmpi .slt (BitVec.ofNat 32 r) 5000#32 = if r < 5000 then 1#1 else 0#1 := by
  show BitVec.ofBool ((BitVec.ofNat 32 r).slt 5000#32) = _
  rw [BitVec.slt, Count.word_toInt (by omega), show (5000#32 : BitVec 32).toInt = 5000 from by decide]
  by_cases hr : r < 5000
  · rw [if_pos hr, decide_eq_true (by omega)]; rfl
  · rw [if_neg hr, decide_eq_false (by omega)]; rfl

theorem row0_at (x : Vec Ideal S1x2x5120 .f32) (p : Fin 5120) : row0 x (ix3 0 0 p) = x (ix3 0 0 p) := by
  refine congrArg x (funext fun a => ?_)
  fin_cases a <;> refine Fin.ext ?_
  · rfl
  · rfl
  · show 0 + 1 * p.val = p.val; omega
theorem row1_at (x : Vec Ideal S1x2x5120 .f32) (p : Fin 5120) : row1 x (ix3 0 0 p) = x (ix3 0 1 p) := by
  refine congrArg x (funext fun a => ?_)
  fin_cases a <;> refine Fin.ext ?_
  · rfl
  · rfl
  · show 0 + 1 * p.val = p.val; omega

/-- The two rows of boxes. -/
theorem box0_at (x1 x3 : Vec Ideal S1x2x5120 .f32) (p : Fin 5120) : boxBlk x1 x3 (ix3 0 0 p)
    = if p.val < 5000 then startOf (x3 (ix3 0 0 p)) (x3 (ix3 0 1 p)) (x1 (ix3 0 0 p)) (x1 (ix3 0 1 p)) else (far : EReal) := by
  rw [← row0_at x3, ← row1_at x3, ← row0_at x1, ← row1_at x1]
  unfold boxBlk
  generalize row0 x3 = a
  generalize row1 x3 = b
  generalize row0 x1 = c
  generalize row1 x1 = d
  unfold k1_pay2 startOf centre width
  pointwise
  rw [real_word p.isLt, bits_far]
  split_ifs <;> rfl
theorem box1_at (x1 x3 : Vec Ideal S1x2x5120 .f32) (p : Fin 5120) : boxBlk x1 x3 (ix3 0 1 p)
    = if p.val < 5000 then stopOf (x3 (ix3 0 0 p)) (x3 (ix3 0 1 p)) (x1 (ix3 0 0 p)) (x1 (ix3 0 1 p)) else (far : EReal) := by
  rw [← row0_at x3, ← row1_at x3, ← row0_at x1, ← row1_at x1]
  unfold boxBlk
  generalize row0 x3 = a
  generalize row1 x3 = b
  generalize row0 x1 = c
  generalize row1 x1 = d
  unfold k1_pay2 stopOf centre width
  pointwise
  rw [real_word p.isLt, bits_far]
  split_ifs <;> rfl

theorem full_at (x : Vec Ideal S1x11x5120 .f32) (k : Fin 11) (p : Fin 5120) :
    View.ld x (Rect.unit (s := S1x11x5120) ![0, 0, 0] S1x11x5120.size inb_S1x11x5120_S1x11x5120_0_0_0) (ix3 0 k p) = x (ix3 0 k p) := by
  refine congrArg x (funext fun a => ?_)
  fin_cases a <;> refine Fin.ext ?_
  · rfl
  · show 0 + 1 * k.val = k.val; omega
  · show 0 + 1 * p.val = p.val; omega

open Classical in
theorem pay1_at (x : FVec Ideal S11x5120 .f32) (k : Fin 16) (p : Fin 5120) : k1_pay1 x (ix3 0 k p)
    = if h : k.val < 10 then (if p.val < 5000 then over (soft (fun j => x (ix2 j p)) ⟨1 + k.val, by omega⟩) else 0) else 0 := by
  unfold k1_pay1 over soft top
  pointwise
  rw [← bits_cls]
  refine dite_congr rfl (fun h => ?_) fun _ => rfl
  rw [real_word p.isLt]
  by_cases hp : p.val < 5000
  · rw [if_pos hp, if_pos hp]
    rw [show ∀ y z : EReal, Scalar.select 1#1 y z = y from fun _ _ => rfl]
  · rw [if_neg hp, if_neg hp]; rfl

/-- The scores by class. -/
theorem msc_at (x : Vec Ideal S1x11x5120 .f32) (k : Fin 16) (p : Fin 5120) : mscBlk x (ix3 0 k p)
    = if h : k.val < 10 then (if p.val < 5000 then over (soft (fun j => x (ix3 0 j p)) ⟨1 + k.val, by omega⟩) else 0) else 0 := by
  have h3 : ∀ j : Fin 11, k1_pay3 (View.ld x (Rect.unit (s := S1x11x5120) ![0, 0, 0] S1x11x5120.size inb_S1x11x5120_S1x11x5120_0_0_0)) (ix2 j p) = x (ix3 0 j p) := fun j => by
    rw [← full_at x j p]
    generalize (View.ld x (Rect.unit (s := S1x11x5120) ![0, 0, 0] S1x11x5120.size inb_S1x11x5120_S1x11x5120_0_0_0) : Vec Ideal S1x11x5120 .f32) = y
    unfold k1_pay3
    pointwise
  unfold mscBlk
  rw [pay1_at]
  simp only [h3]

end Cert.Proof.KernelIdeal.Prep

end
-- ==== Proof.Host.lean ====
/-
  The host operations around the three calls, read at an index: which row of the arguments each place holds, what the second call leaves
  there, and which place each row of the result is taken from.
-/
module

public import proofs.«01_k».proof.Proof.Run
public import proofs.«01_k».proof.Proof.Take
public import proofs.«01_k».proof.Proof.PosValue
public import proofs.«01_k».proof.Proof.PrepValue
public import Idealize.ShloMosaic.Lib.StableHlo.ReadAt
public import Idealize.ShloMosaic.Lib.Pointwise

@[expose] public section

set_option maxRecDepth 16384

noncomputable section

namespace Cert.Proof.KernelIdeal

open Cert.KernelIdeal Cert.KernelIdeal.Gen Cert.Proof.Overlap
open Idealize.ShloMosaic Idealize.ShloMosaic.TcCoe
open Idealize.ShloMosaic.Pipeline (afterRegion)

section

variable (W : Valuation τ sig (Elt Ideal))

/-! ## One stretch at a time -/

theorem after_v27 (b : Fin 4) (r : Fin 5120) : (StableHlo.after hostOps1 W main_v27 : Vec Ideal S4x5120 .i32) (ix2 b r) = (W main_v26_0 : Vec Ideal S4x5120x1 .i32) (ix3 b r 0) := by
  after_reads_at
theorem after_v28 (b : Fin 4) (p : Fin 5120) : (StableHlo.after hostOps1 W main_v28 : Vec Ideal S4x5120 .i32) (ix2 b p) = (W main_v26_1 : Vec Ideal S4x1x5120 .i32) (ix3 b 0 p) := by
  after_reads_at
theorem after_v29 (b : Fin 4) (r : Fin 5000) (k : Fin 2) :
    (StableHlo.after hostOps1_1 W main_v29 : Vec Ideal S4x5120x2 .f32) (ix3 b ⟨r.val, by omega⟩ k) = (W main_arg0 : Vec Ideal S4x5000x2 .f32) (ix3 b r k) := by
  after_reads_at
theorem after_v30 (b : Fin 4) (r : Fin 5000) (k : Fin 11) :
    (StableHlo.after hostOps1_3 W main_v30 : Vec Ideal S4x5120x11 .f32) (ix3 b ⟨r.val, by omega⟩ k) = (W main_arg1 : Vec Ideal S4x5000x11 .f32) (ix3 b r k) := by
  after_reads_at
theorem after_v31 (r : Fin 5000) (k : Fin 2) :
    (StableHlo.after hostOps1_5 W main_v31 : Vec Ideal S5120x2 .f32) (ix2 ⟨r.val, by omega⟩ k) = (W main_arg2 : Vec Ideal S5000x2 .f32) (ix2 r k) := by
  after_reads_at
theorem after_v33 (b : Fin 4) (r : Fin 5120) (k : Fin 2) : (StableHlo.after hostOps1_6 W main_v33 : Vec Ideal S4x5120x2 .f32) (ix3 b r k) = (W main_v31 : Vec Ideal S5120x2 .f32) (ix2 r k) := by
  after_reads_at
theorem after_v34 (b : Fin 4) (p : Fin 5120) : (StableHlo.after hostOps1_6 W main_v34 : Vec Ideal S4x5120x1 .i32) (ix3 b p 0) = (W main_v28 : Vec Ideal S4x5120 .i32) (ix2 b p) := by
  after_reads_at
theorem after_v36 (b : Fin 4) (p : Fin 5120) : (StableHlo.after hostOps1_8 W main_v36 : Vec Ideal S4x5120x1 .i32) (ix3 b p 0) = (W main_v28 : Vec Ideal S4x5120 .i32) (ix2 b p) := by
  after_reads_at
theorem after_v38 (b : Fin 4) (p : Fin 5120) : (StableHlo.after hostOps1_10 W main_v38 : Vec Ideal S4x5120x1 .i32) (ix3 b p 0) = (W main_v28 : Vec Ideal S4x5120 .i32) (ix2 b p) := by
  after_reads_at
theorem after_v40 (b : Fin 4) (k : Fin 2) (p : Fin 5120) : (StableHlo.after hostOps1_12 W main_v40 : Vec Ideal S4x2x5120 .f32) (ix3 b k p) = (W main_v35 : Vec Ideal S4x5120x2 .f32) (ix3 b p k) := by
  after_reads_at
theorem after_v41 (b : Fin 4) (k : Fin 11) (p : Fin 5120) : (StableHlo.after hostOps1_12 W main_v41 : Vec Ideal S4x11x5120 .f32) (ix3 b k p) = (W main_v37 : Vec Ideal S4x5120x11 .f32) (ix3 b p k) := by
  after_reads_at
theorem after_v42 (b : Fin 4) (k : Fin 2) (p : Fin 5120) : (StableHlo.after hostOps1_12 W main_v42 : Vec Ideal S4x2x5120 .f32) (ix3 b k p) = (W main_v39 : Vec Ideal S4x5120x2 .f32) (ix3 b p k) := by
  after_reads_at
theorem after_v58 (b : Fin 4) (i : Fin 5000) : (StableHlo.after hostOps3 W main_v58 : Vec Ideal S4x5000x1 .i32) (ix3 b i 0) = (W main_v27 : Vec Ideal S4x5120 .i32) (ix2 b ⟨i.val, by omega⟩) := by
  after_reads_at
theorem after_v56_start (b : Fin 4) (p : Fin 5120) : (StableHlo.after hostOps3 W main_v56 : Vec Ideal S4x5120x3 .f32) (ix3 b p 0) = (W main_v43_0 : Vec Ideal S4x2x5120 .f32) (ix3 b 0 p) := by
  after_reads_at
theorem after_v56_stop (b : Fin 4) (p : Fin 5120) : (StableHlo.after hostOps3 W main_v56 : Vec Ideal S4x5120x3 .f32) (ix3 b p 1) = (W main_v43_0 : Vec Ideal S4x2x5120 .f32) (ix3 b 1 p) := by
  after_reads_at
theorem after_v56_best (b : Fin 4) (p : Fin 5120) : (StableHlo.after hostOps3 W main_v56 : Vec Ideal S4x5120x3 .f32) (ix3 b p 2)
    = (W main_v50 : Vec Ideal S4x40x8x128 .f32) (ix4 b ⟨p.val / 128, by omega⟩ 0 ⟨p.val % 128, by omega⟩) := by
  after_reads_at

end

variable (m : (ℓ : Loc nD τ sig) → Buf (Elt Ideal) ℓ) (c : Dev nD)

/-! ## What the calls leave -/

theorem tc_mem (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by simpa using h⟩

theorem V4_pos : (V4 m (outs2 m) c main_v26_0 : Vec Ideal S4x5120x1 .i32) = Pos.res1 (V3 m) c :=
  ((after0 m c _ (tc_mem main_v26_0 (by decide))).symm.trans (Pipeline.afterRegion_arr (Pos.dat (V3 m) c) (V3 m c) launch0.win.arr_inj 1)).trans (Pos.final_1 (V3 m) c)
theorem V4_perm : (V4 m (outs2 m) c main_v26_1 : Vec Ideal S4x1x5120 .i32) = Pos.res2 (V3 m) c :=
  ((after0 m c _ (tc_mem main_v26_1 (by decide))).symm.trans (Pipeline.afterRegion_arr (Pos.dat (V3 m) c) (V3 m c) launch0.win.arr_inj 2)).trans (Pos.final_2 (V3 m) c)
theorem V18_boxes : (V18 m (outs2 m) c main_v43_0 : Vec Ideal S4x2x5120 .f32) = Prep.res3 (V17 m (outs2 m)) c :=
  ((after1 m c _ (tc_mem main_v43_0 (by decide))).symm.trans (Pipeline.afterRegion_arr (Prep.dat (V17 m (outs2 m)) c) (V17 m (outs2 m) c) launch1.win.arr_inj 3)).trans
    (Prep.final_3 (V17 m (outs2 m)) c)
theorem V18_scores : (V18 m (outs2 m) c main_v43_1 : Vec Ideal S4x16x5120 .f32) = Prep.res4 (V17 m (outs2 m)) c :=
  ((after1 m c _ (tc_mem main_v43_1 (by decide))).symm.trans (Pipeline.afterRegion_arr (Prep.dat (V17 m (outs2 m)) c) (V17 m (outs2 m) c) launch1.win.arr_inj 4)).trans
    (Prep.final_4 (V17 m (outs2 m)) c)
theorem V20_best : (V20 m (outs2 m) c main_v50 : Vec Ideal S4x40x8x128 .f32) = result (V19 m (outs2 m)) c :=
  ((after2 m c _ (tc_mem main_v50 (by decide))).symm.trans (Pipeline.afterRegion_arr (dat (V19 m (outs2 m)) c) (V19 m (outs2 m) c) launch2.win.arr_inj 4)).trans
    (final (V19 m (outs2 m)) c)

/-! ## Which row a place holds -/

/-- Each image's order of the rows. -/
def ord (b : Fin 4) : Fin 5120 ≃ Fin 5120 := Pos.order (Pos.blk0 (V3 m) c b.val)

theorem ord_real (b : Fin 4) (r : Fin 5120) : (ord m c b r).val < 5000 ↔ r.val < 5000 := Pos.order_real _ r

theorem V5_pos (b : Fin 4) (r : Fin 5120) : (V5 m (outs2 m) c main_v27 : Vec Ideal S4x5120 .i32) (ix2 b r) = BitVec.ofNat 32 (ord m c b r).val := by
  refine (after_v27 (V4 m (outs2 m) c) b r).trans ?_
  rw [V4_pos]
  exact Pos.posBlk_at (Pos.blk0 (V3 m) c b.val) r
theorem V5_perm (b : Fin 4) (p : Fin 5120) : (V5 m (outs2 m) c main_v28 : Vec Ideal S4x5120 .i32) (ix2 b p) = BitVec.ofNat 32 ((ord m c b).symm p).val := by
  refine (after_v28 (V4 m (outs2 m) c) b p).trans ?_
  rw [V4_perm]
  exact Pos.permBlk_at (Pos.blk0 (V3 m) c b.val) p

theorem V10_v28 : V10 m (outs2 m) c main_v28 = V5 m (outs2 m) c main_v28 := by
  rw [V10_of m (outs2 m) c main_v28 (by decide), V9_of m (outs2 m) c main_v28 (by decide), V8_of m (outs2 m) c main_v28 (by decide), V7_of m (outs2 m) c main_v28 (by decide),
    V6_of m (outs2 m) c main_v28 (by decide)]
theorem V12_v28 : V12 m (outs2 m) c main_v28 = V5 m (outs2 m) c main_v28 := by
  rw [V12_of m (outs2 m) c main_v28 (by decide), V11_of m (outs2 m) c main_v28 (by decide), V10_v28]
theorem V14_v28 : V14 m (outs2 m) c main_v28 = V5 m (outs2 m) c main_v28 := by
  rw [V14_of m (outs2 m) c main_v28 (by decide), V13_of m (outs2 m) c main_v28 (by decide), V12_v28]

theorem V4_arg0 : V4 m (outs2 m) c main_arg0 = m (c, main_arg0) := by
  rw [V4_of m (outs2 m) c main_arg0 (by decide), V3_of m c main_arg0 (by decide), V2_of m c main_arg0 (by decide), V1_of m c main_arg0 (by decide)]
theorem V4_arg1 : V4 m (outs2 m) c main_arg1 = m (c, main_arg1) := by
  rw [V4_of m (outs2 m) c main_arg1 (by decide), V3_of m c main_arg1 (by decide), V2_of m c main_arg1 (by decide), V1_of m c main_arg1 (by decide)]
theorem V4_arg2 : V4 m (outs2 m) c main_arg2 = m (c, main_arg2) := by
  rw [V4_of m (outs2 m) c main_arg2 (by decide), V3_of m c main_arg2 (by decide), V2_of m c main_arg2 (by decide), V1_of m c main_arg2 (by decide)]

/-- The offsets by row. -/
theorem V11_v29 (b : Fin 4) (r : Fin 5000) (k : Fin 2) : (V11 m (outs2 m) c main_v29 : Vec Ideal S4x5120x2 .f32) (ix3 b ⟨r.val, by omega⟩ k) = (m (c, main_arg0) : Vec Ideal S4x5000x2 .f32) (ix3 b r k) := by
  rw [V11_of m (outs2 m) c main_v29 (by decide), V10_of m (outs2 m) c main_v29 (by decide), V9_of m (outs2 m) c main_v29 (by decide), V8_of m (outs2 m) c main_v29 (by decide),
    V7_of m (outs2 m) c main_v29 (by decide)]
  refine (after_v29 (V5 m (outs2 m) c) b r k).trans ?_
  rw [V5_of m (outs2 m) c main_arg0 (by decide), V4_arg0]
/-- The class values by row. -/
theorem V13_v30 (b : Fin 4) (r : Fin 5000) (k : Fin 11) : (V13 m (outs2 m) c main_v30 : Vec Ideal S4x5120x11 .f32) (ix3 b ⟨r.val, by omega⟩ k) = (m (c, main_arg1) : Vec Ideal S4x5000x11 .f32) (ix3 b r k) := by
  rw [V13_of m (outs2 m) c main_v30 (by decide), V12_of m (outs2 m) c main_v30 (by decide), V11_of m (outs2 m) c main_v30 (by decide), V10_of m (outs2 m) c main_v30 (by decide),
    V9_of m (outs2 m) c main_v30 (by decide)]
  refine (after_v30 (V7 m (outs2 m) c) b r k).trans ?_
  rw [V7_of m (outs2 m) c main_arg1 (by decide), V6_of m (outs2 m) c main_arg1 (by decide), V5_of m (outs2 m) c main_arg1 (by decide), V4_arg1]
/-- The default boxes by row. -/
theorem V15_v33 (b : Fin 4) (r : Fin 5000) (k : Fin 2) : (V15 m (outs2 m) c main_v33 : Vec Ideal S4x5120x2 .f32) (ix3 b ⟨r.val, by omega⟩ k) = (m (c, main_arg2) : Vec Ideal S5000x2 .f32) (ix2 r k) := by
  rw [V15_of m (outs2 m) c main_v33 (by decide), V14_of m (outs2 m) c main_v33 (by decide), V13_of m (outs2 m) c main_v33 (by decide), V12_of m (outs2 m) c main_v33 (by decide)]
  refine (after_v33 (V10 m (outs2 m) c) b _ k).trans ((after_v31 (V9 m (outs2 m) c) r k).trans ?_)
  rw [V9_of m (outs2 m) c main_arg2 (by decide), V8_of m (outs2 m) c main_arg2 (by decide), V7_of m (outs2 m) c main_arg2 (by decide), V6_of m (outs2 m) c main_arg2 (by decide),
    V5_of m (outs2 m) c main_arg2 (by decide), V4_arg2]

section

variable (b : Fin 4) (r : Fin 5000)

/-- The place of a row. -/
def at_ : Fin 5120 := ord m c b ⟨r.val, by omega⟩

theorem at_real : (at_ m c b r).val < 5000 := (ord_real m c b _).2 r.isLt
/-- The places below 5000 are those of the rows. -/
theorem at_surj (p : Fin 5120) (hp : p.val < 5000) : ∃ r : Fin 5000, at_ m c b r = p := by
  refine ⟨⟨((ord m c b).symm p).val, (ord_real m c b _).1 ?_⟩, (ord m c b).apply_symm_apply p⟩
  rw [(ord m c b).apply_symm_apply]
  exact hp
theorem at_symm : (ord m c b).symm (at_ m c b r) = ⟨r.val, by omega⟩ := (ord m c b).symm_apply_apply _

theorem V17_v40 (k : Fin 2) : (V17 m (outs2 m) c main_v40 : Vec Ideal S4x2x5120 .f32) (ix3 b k (at_ m c b r)) = (m (c, main_arg0) : Vec Ideal S4x5000x2 .f32) (ix3 b r k) := by
  refine (after_v40 (V16 m (outs2 m) c) b k _).trans ?_
  rw [V16_of m (outs2 m) c main_v35 (by decide), V15_of m (outs2 m) c main_v35 (by decide), V14_of m (outs2 m) c main_v35 (by decide), V13_of m (outs2 m) c main_v35 (by decide)]
  refine (take_v35 (V11 m (outs2 m) c) b _ k ((ord m c b).symm (at_ m c b r)) ?_).trans ?_
  · refine (after_v34 (V10 m (outs2 m) c) b _).trans ?_
    rw [V10_v28, V5_perm]
  · rw [at_symm]; exact V11_v29 m c b r k
theorem V17_v41 (k : Fin 11) : (V17 m (outs2 m) c main_v41 : Vec Ideal S4x11x5120 .f32) (ix3 b k (at_ m c b r)) = (m (c, main_arg1) : Vec Ideal S4x5000x11 .f32) (ix3 b r k) := by
  refine (after_v41 (V16 m (outs2 m) c) b k _).trans ?_
  rw [V16_of m (outs2 m) c main_v37 (by decide), V15_of m (outs2 m) c main_v37 (by decide)]
  refine (take_v37 (V13 m (outs2 m) c) b _ k ((ord m c b).symm (at_ m c b r)) ?_).trans ?_
  · refine (after_v36 (V12 m (outs2 m) c) b _).trans ?_
    rw [V12_v28, V5_perm]
  · rw [at_symm]; exact V13_v30 m c b r k
theorem V17_v42 (k : Fin 2) : (V17 m (outs2 m) c main_v42 : Vec Ideal S4x2x5120 .f32) (ix3 b k (at_ m c b r)) = (m (c, main_arg2) : Vec Ideal S5000x2 .f32) (ix2 r k) := by
  refine (after_v42 (V16 m (outs2 m) c) b k _).trans ?_
  refine (take_v39 (V15 m (outs2 m) c) b _ k ((ord m c b).symm (at_ m c b r)) ?_).trans ?_
  · refine (after_v38 (V14 m (outs2 m) c) b _).trans ?_
    rw [V14_v28, V5_perm]
  · rw [at_symm]; exact V15_v33 m c b r k

end

/-! ## What the second call leaves at a place -/

section

variable (b : Fin 4)

theorem blk0_at (k : Fin 2) (p : Fin 5120) : Prep.blk0 (V17 m (outs2 m)) c b.val (ix3 0 k p) = (V17 m (outs2 m) c main_v40 : Vec Ideal S4x2x5120 .f32) (ix3 b k p) := by
  unfold Prep.blk0
  generalize (V17 m (outs2 m) c main_v40 : Vec Ideal S4x2x5120 .f32) = W
  refine congrArg W (funext fun a => ?_)
  fin_cases a
  · exact Fin.ext (Nat.mod_eq_of_lt b.isLt)
  all_goals rfl
theorem blk1_at (k : Fin 11) (p : Fin 5120) : Prep.blk1 (V17 m (outs2 m)) c b.val (ix3 0 k p) = (V17 m (outs2 m) c main_v41 : Vec Ideal S4x11x5120 .f32) (ix3 b k p) := by
  unfold Prep.blk1
  generalize (V17 m (outs2 m) c main_v41 : Vec Ideal S4x11x5120 .f32) = W
  refine congrArg W (funext fun a => ?_)
  fin_cases a
  · exact Fin.ext (Nat.mod_eq_of_lt b.isLt)
  all_goals rfl
theorem blk2_at (k : Fin 2) (p : Fin 5120) : Prep.blk2 (V17 m (outs2 m)) c b.val (ix3 0 k p) = (V17 m (outs2 m) c main_v42 : Vec Ideal S4x2x5120 .f32) (ix3 b k p) := by
  unfold Prep.blk2
  generalize (V17 m (outs2 m) c main_v42 : Vec Ideal S4x2x5120 .f32) = W
  refine congrArg W (funext fun a => ?_)
  fin_cases a
  · exact Fin.ext (Nat.mod_eq_of_lt b.isLt)
  all_goals rfl

/-- The boxes by place, and the scores by place. -/
def boxes (b : Fin 4) (k : Fin 2) (p : Fin 5120) : EReal := (V18 m (outs2 m) c main_v43_0 : Vec Ideal S4x2x5120 .f32) (ix3 b k p)
def scores (b : Fin 4) (k : Fin 16) (p : Fin 5120) : EReal := (V18 m (outs2 m) c main_v43_1 : Vec Ideal S4x16x5120 .f32) (ix3 b k p)

/-- The three arguments. -/
abbrev X0 : Vec Ideal S4x5000x2 .f32 := m (c, main_arg0)
abbrev X1 : Vec Ideal S4x5000x11 .f32 := m (c, main_arg1)
abbrev X2 : Vec Ideal S5000x2 .f32 := m (c, main_arg2)

theorem blk0_row (k : Fin 2) (r : Fin 5000) : Prep.blk0 (V17 m (outs2 m)) c b.val (ix3 0 k (at_ m c b r)) = X0 m c (ix3 b r k) := (blk0_at m c b k _).trans (V17_v40 m c b r k)
theorem blk1_row (k : Fin 11) (r : Fin 5000) : Prep.blk1 (V17 m (outs2 m)) c b.val (ix3 0 k (at_ m c b r)) = X1 m c (ix3 b r k) := (blk1_at m c b k _).trans (V17_v41 m c b r k)
theorem blk2_row (k : Fin 2) (r : Fin 5000) : Prep.blk2 (V17 m (outs2 m)) c b.val (ix3 0 k (at_ m c b r)) = X2 m c (ix2 r k) := (blk2_at m c b k _).trans (V17_v42 m c b r k)

theorem boxes_start (r : Fin 5000) : boxes m c b 0 (at_ m c b r) = startOf (X2 m c (ix2 r 0)) (X2 m c (ix2 r 1)) (X0 m c (ix3 b r 0)) (X0 m c (ix3 b r 1)) := by
  unfold boxes
  rw [V18_boxes]
  refine (Prep.box0_at (Prep.blk0 (V17 m (outs2 m)) c b.val) (Prep.blk2 (V17 m (outs2 m)) c b.val) (at_ m c b r)).trans ((if_pos (at_real m c b r)).trans ?_)
  rw [blk0_row, blk0_row, blk2_row, blk2_row]
theorem boxes_stop (r : Fin 5000) : boxes m c b 1 (at_ m c b r) = stopOf (X2 m c (ix2 r 0)) (X2 m c (ix2 r 1)) (X0 m c (ix3 b r 0)) (X0 m c (ix3 b r 1)) := by
  unfold boxes
  rw [V18_boxes]
  refine (Prep.box1_at (Prep.blk0 (V17 m (outs2 m)) c b.val) (Prep.blk2 (V17 m (outs2 m)) c b.val) (at_ m c b r)).trans ((if_pos (at_real m c b r)).trans ?_)
  rw [blk0_row, blk0_row, blk2_row, blk2_row]
theorem boxes_far (k : Fin 2) (p : Fin 5120) (hp : ¬ p.val < 5000) : boxes m c b k p = (far : EReal) := by
  unfold boxes
  rw [V18_boxes]
  fin_cases k
  · exact (Prep.box0_at (Prep.blk0 (V17 m (outs2 m)) c b.val) (Prep.blk2 (V17 m (outs2 m)) c b.val) p).trans (if_neg hp)
  · exact (Prep.box1_at (Prep.blk0 (V17 m (outs2 m)) c b.val) (Prep.blk2 (V17 m (outs2 m)) c b.val) p).trans (if_neg hp)

theorem scores_eq (k : Fin 16) (p : Fin 5120) : scores m c b k p
    = if h : k.val < 10 then (if p.val < 5000 then over (soft (fun j => Prep.blk1 (V17 m (outs2 m)) c b.val (ix3 0 j p)) ⟨1 + k.val, by omega⟩) else 0) else 0 := by
  unfold scores
  rw [V18_scores]
  exact Prep.msc_at (Prep.blk1 (V17 m (outs2 m)) c b.val) k p
theorem scores_at (k : Fin 10) (r : Fin 5000) : scores m c b ⟨k.val, by omega⟩ (at_ m c b r) = over (soft (fun j => X1 m c (ix3 b r j)) ⟨1 + k.val, by omega⟩) := by
  rw [scores_eq, dif_pos k.isLt, if_pos (at_real m c b r)]
  exact congrArg (fun f => over (soft f ⟨1 + k.val, by omega⟩)) (funext fun j => blk1_row m c b j r)
theorem scores_far (k : Fin 16) (p : Fin 5120) (hp : ¬ p.val < 5000) : scores m c b k p = 0 := by
  rw [scores_eq]
  split_ifs <;> rfl
theorem scores_pad (k : Fin 16) (p : Fin 5120) (hk : 10 ≤ k.val) : scores m c b k p = 0 := by
  rw [scores_eq, dif_neg (by omega)]
theorem scores_or (k : Fin 16) (p : Fin 5120) : scores m c b k p = 0 ∨ (cls : EReal) < scores m c b k p := by
  classical
  rw [scores_eq]
  unfold over
  split_ifs with h1 h2 h3
  · exact Or.inr h3
  all_goals exact Or.inl rfl

end

/-! ## The returned array -/

section

variable (b : Fin 4) (r : Fin 5000)

theorem V22_at (k : Fin 3) : (V22 m (outs2 m) c main_v59 : Vec Ideal S4x5000x3 .f32) (ix3 b r k) = (V21 m (outs2 m) c main_v56 : Vec Ideal S4x5120x3 .f32) (ix3 b (at_ m c b r) k) := by
  refine take_v59 (V21 m (outs2 m) c) b r k (at_ m c b r) ?_
  refine (after_v58 (V20 m (outs2 m) c) b r).trans ?_
  rw [V20_of m (outs2 m) c main_v27 (by decide), V19_of m (outs2 m) c main_v27 (by decide), V18_of m (outs2 m) c main_v27 (by decide), V17_of m (outs2 m) c main_v27 (by decide),
    V16_of m (outs2 m) c main_v27 (by decide), V15_of m (outs2 m) c main_v27 (by decide), V14_of m (outs2 m) c main_v27 (by decide), V13_of m (outs2 m) c main_v27 (by decide),
    V12_of m (outs2 m) c main_v27 (by decide), V11_of m (outs2 m) c main_v27 (by decide), V10_of m (outs2 m) c main_v27 (by decide), V9_of m (outs2 m) c main_v27 (by decide),
    V8_of m (outs2 m) c main_v27 (by decide), V7_of m (outs2 m) c main_v27 (by decide), V6_of m (outs2 m) c main_v27 (by decide)]
  exact V5_pos m c b _

theorem V20_boxes : V20 m (outs2 m) c main_v43_0 = V18 m (outs2 m) c main_v43_0 := by
  rw [V20_of m (outs2 m) c main_v43_0 (by decide), V19_of m (outs2 m) c main_v43_0 (by decide)]

theorem V22_start : (V22 m (outs2 m) c main_v59 : Vec Ideal S4x5000x3 .f32) (ix3 b r 0) = boxes m c b 0 (at_ m c b r) := by
  rw [V22_at]
  refine (after_v56_start (V20 m (outs2 m) c) b _).trans ?_
  rw [V20_boxes]; rfl
theorem V22_stop : (V22 m (outs2 m) c main_v59 : Vec Ideal S4x5000x3 .f32) (ix3 b r 1) = boxes m c b 1 (at_ m c b r) := by
  rw [V22_at]
  refine (after_v56_stop (V20 m (outs2 m) c) b _).trans ?_
  rw [V20_boxes]; rfl
theorem V22_best : (V22 m (outs2 m) c main_v59 : Vec Ideal S4x5000x3 .f32) (ix3 b r 2)
    = result (V19 m (outs2 m)) c (ix4 b ⟨(at_ m c b r).val / 128, by omega⟩ 0 ⟨(at_ m c b r).val % 128, by omega⟩) := by
  rw [V22_at]
  refine (after_v56_best (V20 m (outs2 m) c) b _).trans ?_
  rw [V20_best]

end

end Cert.Proof.KernelIdeal

end
-- ==== Proof.Reads.lean ====
/-
  The kernel's vector expressions read at an index, in extended reals.
-/
module

public import proofs.«01_k».proof.Proof.Body
public import proofs.«01_k».proof.Proof.Overlap
public import Idealize.ShloMosaic.Lib.Pointwise

@[expose] public section

set_option maxRecDepth 16384

noncomputable section

namespace Cert.Proof.KernelIdeal

open Cert.KernelIdeal Cert.KernelIdeal.Gen Cert.Proof.Overlap
open Idealize.ShloMosaic Idealize.ShloMosaic.TcCoe

/-- A maximum is at most `x` when everything under it is. -/
theorem maxRed_le {s t : Shape} {axes : List (Fin s.rank)} (src : FVec Ideal s .f32) (h : s.Reduces axes t)
    (hφ : FKind.Formats .f32) (hacc : (0xFF800000#32 : BitVec 32) = FKind.maximumf.neutral .f32 hφ) (j : t.Idx) (x : EReal) :
    multiReduction .maximumf axes t src 0xFF800000#32 h hφ hacc j ≤ x ↔ ∀ i, h.drop i = j → src i ≤ x := by
  rw [multiReduction_maximumf_eq_fold]
  show Finset.fold max (Ideal.ofBits .f32 0xFF800000#32) src _ ≤ x ↔ _
  rw [bits_bot, Finset.fold_max_le]
  simp

/-- The same over one axis. -/
theorem maxRed1_le {s t : Shape} {a : Fin s.rank} (src : FVec Ideal s .f32) (h : s.Reduces [a] t)
    (hφ : FKind.Formats .f32) (hacc : (0xFF800000#32 : BitVec 32) = FKind.maximumf.neutral .f32 hφ) (j : t.Idx) (x : EReal) :
    multiReduction .maximumf [a] t src 0xFF800000#32 h hφ hacc j ≤ x ↔ ∀ k, src (h.lift j k) ≤ x := by
  rw [Ideal.multiReduction_maximumf_single]
  show Finset.fold max (Ideal.ofBits .f32 0xFF800000#32) _ _ ≤ x ↔ _
  rw [bits_bot, Finset.fold_max_le]
  simp

/-- A minimum is at least `x` when everything under it is. -/
theorem le_minRed {s t : Shape} {axes : List (Fin s.rank)} (src : FVec Ideal s .f32) (h : s.Reduces axes t)
    (hφ : FKind.Formats .f32) (hacc : (0x7F800000#32 : BitVec 32) = FKind.minimumf.neutral .f32 hφ) (j : t.Idx) (x : EReal) :
    x ≤ multiReduction .minimumf axes t src 0x7F800000#32 h hφ hacc j ↔ ∀ i, h.drop i = j → x ≤ src i := by
  rw [multiReduction_minimumf_eq_fold]
  show x ≤ Finset.fold min (Ideal.ofBits .f32 0x7F800000#32) src _ ↔ _
  rw [bits_top, Finset.le_fold_min]
  simp

theorem idx1_eq (i j : S1.Idx) : i = j := by
  funext a; fin_cases a; exact Fin.ext (by have h1 : (i 0).val < 1 := (i 0).isLt; have h2 : (j 0).val < 1 := (j 0).isLt; show (i 0).val = (j 0).val; omega)

/-- The one element of a minimum over everything is at most each element. -/
theorem minAll_le {s : Shape} {axes : List (Fin s.rank)} (src : FVec Ideal s .f32) (h : s.Reduces axes S1)
    (hφ : FKind.Formats .f32) (hacc : (0x7F800000#32 : BitVec 32) = FKind.minimumf.neutral .f32 hφ) (i : s.Idx) :
    extractAt ![0, 0, 0] (shapeCast S1x1x1 (multiReduction .minimumf axes S1 src 0x7F800000#32 h hφ hacc) shapeCasts_S1_S1x1x1) inpos_S1x1x1_p0_0_0 ≤ src i :=
  (le_minRed src h hφ hacc _ _).1 le_rfl i (idx1_eq _ _)

/-- The one element of a maximum over everything is at least each element. -/
theorem le_maxAll {s : Shape} {axes : List (Fin s.rank)} (src : FVec Ideal s .f32) (h : s.Reduces axes S1)
    (hφ : FKind.Formats .f32) (hacc : (0xFF800000#32 : BitVec 32) = FKind.maximumf.neutral .f32 hφ) (i : s.Idx) :
    src i ≤ extractAt ![0, 0, 0] (shapeCast S1x1x1 (multiReduction .maximumf axes S1 src 0xFF800000#32 h hφ hacc) shapeCasts_S1_S1x1x1) inpos_S1x1x1_p0_0_0 :=
  (maxRed_le src h hφ hacc _ _).1 le_rfl i (idx1_eq _ _)

open Classical in
theorem select_endM (s e : EReal) :
    Scalar.select (FloatOps.cmpf (F := Ideal) (φ := .f32) .olt s (Scalar.ofBits .f32 0x49742400#32)) e (Scalar.ofBits (F := Ideal) .f32 0xC9742400#32) = endM s e := by
  show Scalar.select (Ideal.cmp .olt s (Ideal.ofBits .f32 0x49742400#32)) e (Ideal.ofBits .f32 0xC9742400#32) = _
  rw [bits_far, bits_negfar]
  unfold Ideal.cmp endM
  exact Scalar.select_decide _ _ _

section Bounds

variable (x2 : Vec Ideal S1x40x2x128 .f32) (x4 : Vec Ideal S1x1024x2 .f32)

theorem tileRow_apply (r : Fin 2) (t : Fin 40) (l : Fin 128) : tileRow x2 r t (ix4 0 0 0 l) = x2 (ix4 0 t r l) := by
  refine congrArg x2 (funext fun a => ?_)
  fin_cases a <;> refine Fin.ext ?_
  · rfl
  · show t.val + 1 * 0 = t.val; omega
  · show r.val + 1 * 0 = r.val; omega
  · show 0 + 1 * l.val = l.val; omega

theorem tileLo_le (t : Fin 40) (l : Fin 128) : tileLo x2 t ≤ x2 (ix4 0 t 0 l) := by
  have h : tileLo x2 t ≤ _ := minAll_le (shapeCast S1x1x128 (k2_pay2 (tileRow x2 0 t)) shapeCasts_S1x128_S1x1x128) reduces_S1x1x128_S1 (.inl rfl) rfl (ix3 0 0 l)
  refine h.trans (le_of_eq ?_)
  unfold k2_pay2
  rw [← tileRow_apply x2 0 t l]
  generalize tileRow x2 0 t = w
  pointwise

theorem le_tileHi (t : Fin 40) (l : Fin 128) : endM (x2 (ix4 0 t 0 l)) (x2 (ix4 0 t 1 l)) ≤ tileHi x2 t := by
  have h := le_maxAll (shapeCast S1x1x128 (select (cmpf .olt (k2_pay2 (tileRow x2 0 t)) (broadcast S1x128 (Scalar.ofBits (F := Ideal) .f32 0x49742400#32)))
      (shapeCast S1x128 (tileRow x2 1 t) shapeCasts_S1x1x1x128_S1x128) (broadcast S1x128 (Scalar.ofBits (F := Ideal) .f32 0xC9742400#32))) shapeCasts_S1x128_S1x1x128)
    reduces_S1x1x128_S1 (.inl rfl) rfl (ix3 0 0 l)
  refine (le_of_eq ?_).trans (show _ ≤ tileHi x2 t from h)
  unfold k2_pay2
  rw [← tileRow_apply x2 0 t l, ← tileRow_apply x2 1 t l, ← select_endM]
  generalize tileRow x2 0 t = w
  generalize tileRow x2 1 t = w'
  pointwise

theorem blkS_apply (r : Fin 1024) : blkS x4 (ix3 0 r 0) = x4 (ix3 0 r 0) := by
  refine congrArg x4 (funext fun a => ?_)
  fin_cases a <;> refine Fin.ext ?_
  · rfl
  · show 0 + 1 * r.val = r.val; omega
  · rfl

theorem blkE_apply (r : Fin 1024) : blkE x4 (ix3 0 r 0) = x4 (ix3 0 r 1) := by
  refine congrArg x4 (funext fun a => ?_)
  fin_cases a <;> refine Fin.ext ?_
  · rfl
  · show 0 + 1 * r.val = r.val; omega
  · rfl

theorem colS_apply (r : Fin 1024) : colS x4 (ix2 r 0) = x4 (ix3 0 r 0) := by
  rw [← blkS_apply x4 r]
  unfold colS k2_pay168
  generalize blkS x4 = w
  pointwise

theorem colE_apply (r : Fin 1024) : colE x4 (ix2 r 0) = endM (x4 (ix3 0 r 0)) (x4 (ix3 0 r 1)) := by
  rw [← blkS_apply x4 r, ← blkE_apply x4 r, ← select_endM]
  unfold colE k2_pay168 k2_pay169 k2_pay185
  generalize blkS x4 = w
  generalize blkE x4 = w'
  pointwise

theorem blkLo_le (r : Fin 1024) : k2_pay186 (colS x4) ≤ x4 (ix3 0 r 0) := by
  have h : k2_pay186 (colS x4) ≤ _ := minAll_le (shapeCast S1x1024x1 (colS x4) shapeCasts_S1024x1_S1x1024x1) reduces_S1x1024x1_S1 (.inl rfl) rfl (ix3 0 r 0)
  refine h.trans (le_of_eq ?_)
  rw [← colS_apply x4]
  generalize colS x4 = w
  pointwise

theorem le_blkHi (r : Fin 1024) : endM (x4 (ix3 0 r 0)) (x4 (ix3 0 r 1)) ≤ k2_pay187 (k2_pay168 (blkS x4)) (k2_pay169 (blkE x4)) := by
  have h := le_maxAll (shapeCast S1x1024x1 (colE x4) shapeCasts_S1024x1_S1x1024x1) reduces_S1x1024x1_S1 (.inl rfl) rfl (ix3 0 r 0)
  refine (le_of_eq ?_).trans (show _ ≤ k2_pay187 (k2_pay168 (blkS x4)) (k2_pay169 (blkE x4)) from h)
  rw [← colE_apply x4]
  generalize colE x4 = w
  pointwise

theorem chunkLo_le (k : Fin 8) (q : Fin 128) : chunkLo x4 k ≤ x4 (ix3 0 ⟨128 * k.val + q.val, by omega⟩ 0) := by
  have h := minAll_le (shapeCast S1x128x1 (extractStridedSlice S128x1 ![128 * k.val, 0] (colS x4) (chunk_slices k)) shapeCasts_S128x1_S1x128x1)
    reduces_S1x128x1_S1 (.inl rfl) rfl (ix3 0 q 0)
  refine (show chunkLo x4 k ≤ _ from h).trans (le_of_eq ?_)
  rw [← colS_apply x4]
  generalize colS x4 = w
  pointwise

theorem le_chunkHi (k : Fin 8) (q : Fin 128) :
    endM (x4 (ix3 0 ⟨128 * k.val + q.val, by omega⟩ 0)) (x4 (ix3 0 ⟨128 * k.val + q.val, by omega⟩ 1)) ≤ chunkHi x4 k := by
  have h := le_maxAll (shapeCast S1x128x1 (extractStridedSlice S128x1 ![128 * k.val, 0] (colE x4) (chunk_slices k)) shapeCasts_S128x1_S1x128x1)
    reduces_S1x128x1_S1 (.inl rfl) rfl (ix3 0 q 0)
  refine (le_of_eq ?_).trans (show _ ≤ chunkHi x4 k from h)
  rw [← colE_apply x4]
  generalize colE x4 = w
  pointwise

end Bounds

end Cert.Proof.KernelIdeal

end
-- ==== Proof.Chunk.lean ====
/-
  What a tile's accumulators hold after the loop over a block's chunks: the greatest score among the block's boxes that overlap the
  tile's box enough, whichever chunks the bounds let the loop skip.
-/
module

public import proofs.«01_k».proof.Proof.Reads
public import Idealize.ShloMosaic.PureOps.IdealRules

@[expose] public section

set_option maxRecDepth 16384

noncomputable section

namespace Cert.Proof.KernelIdeal

open Cert.KernelIdeal Cert.KernelIdeal.Gen Cert.Proof.Overlap
open Idealize.ShloMosaic Idealize.ShloMosaic.TcCoe

theorem named_share : (Named.named (F := Ideal) (φ := .f32) κ "ths" 0x3E9EE584#32 : EReal) = (share : EReal) :=
  IdealRules.named_const.ideal_named_scalar _ _ _ _ rfl

/-- The two bounds' test succeeds when both comparisons do. -/
theorem live_iff (a b c d : EReal) :
    Scalar.cmpi .ne (Scalar.extui (Scalar.andi (Scalar.cmpf (F := Ideal) (φ := .f32) .ole a b) (Scalar.cmpf (F := Ideal) (φ := .f32) .oge c d)) : BitVec 32) 0#32 = 1#1
      ↔ a ≤ b ∧ d ≤ c := by
  show Scalar.cmpi .ne (Scalar.extui (Scalar.andi (Ideal.cmp .ole a b) (Ideal.cmp .oge c d)) : BitVec 32) 0#32 = 1#1 ↔ _
  unfold Ideal.cmp
  by_cases h1 : a ≤ b <;> by_cases h2 : d ≤ c <;> simp only [h1, h2, decide_true, decide_false] <;> decide

/-- The chunk's accumulation: at most `x` when the accumulator is and all sixteen products of that row and lane are. -/
theorem pay145_le (f : FVec Ideal S8x128 .f32) (a : FVec Ideal S128x128 .f32) (w : Vec Ideal S1x128x128 .f32) (r : Fin 8) (l : Fin 128) (x : EReal) :
    k2_pay145 f a w (ix2 r l) ≤ x ↔ f (ix2 r l) ≤ x ∧ ∀ q : Fin 16, a (ix2 ⟨8 * q.val + r.val, by omega⟩ l) * w (ix3 0 ⟨8 * q.val + r.val, by omega⟩ l) ≤ x := by
  unfold k2_pay145
  refine max_le_iff.trans (and_congr_right fun _ => (maxRed1_le _ reduces_S16x8x128_S8x128 _ _ _ x).trans (forall_congr' fun q => ?_))
  rw [show (reduces_S16x8x128_S8x128.lift (ix2 r l) q) = (ix3 (q : Fin 16) r l : S16x8x128.Idx) from by funext i; fin_cases i <;> rfl]
  generalize (q : Fin 16) = q
  rw [iff_iff_eq]
  congr 1
  pointwise
  congr 2 <;> (funext i; fin_cases i <;> refine Fin.ext ?_) <;> simp [ix2, ix3] <;> omega

/-- The sixteen rows a tile takes: at most `x` where the old row is and, for a class, every accumulator row is. -/
theorem fold1_le (f : Fin 10 → FVec Ideal S8x128 .f32) (w : Vec Ideal S1x16x128 .f32) (cl : Fin 10) (l : Fin 128) (x : EReal) :
    fold1 f w (ix3 0 ⟨cl.val, by omega⟩ l) ≤ x ↔ w (ix3 0 ⟨cl.val, by omega⟩ l) ≤ x ∧ ∀ r : Fin 8, f cl (ix2 r l) ≤ x := by
  have red : ∀ g : FVec Ideal S8x128 .f32, multiReduction .maximumf [0] S128 g 0xFF800000#32 reduces_S8x128_S128 (.inl rfl) rfl (ix1 l) ≤ x ↔ ∀ r : Fin 8, g (ix2 r l) ≤ x := fun g => by
    refine (maxRed1_le _ reduces_S8x128_S128 _ _ _ x).trans (forall_congr' fun r => ?_)
    rw [show (reduces_S8x128_S128.lift (ix1 l) r) = (ix2 (r : Fin 8) l : S8x128.Idx) from by funext i; fin_cases i <;> rfl]
  rw [← red, ← max_le_iff, iff_iff_eq]
  congr 1
  unfold fold1 k2_pay206 k2_pay165 k2_pay166 k2_pay167
  fin_cases cl <;> pointwise

/-- The overlap indicator of chunk `k` against the tile, at the chunk's row `q` and the tile's lane `l`. -/
theorem afk_apply (x7 x8 x9 : Vec Ideal S1024x128 .f32) (v v' : Vec Ideal S1x1x1x128 .f32) (k : Fin k2_t2_loop.trips) (hk : k.val < 8) (q l : Fin 128) :
    afk x7 x8 x9 v v' k (ix2 q l)
      = if x9 (ix2 ⟨128 * k.val + q.val, by omega⟩ l) + (v' (ix4 0 0 0 l) - v (ix4 0 0 0 l)) * (share : EReal)
          < min (x8 (ix2 ⟨128 * k.val + q.val, by omega⟩ l)) (v' (ix4 0 0 0 l)) - max (x7 (ix2 ⟨128 * k.val + q.val, by omega⟩ l)) (v (ix4 0 0 0 l))
        then 1 else 0 := by
  have ld : ∀ X : Vec Ideal S1024x128 .f32, View.ld X (Rect.unit (s := S1024x128) (k2_off9 k) S128x128.size (k2_off9_inb k)) (ix2 q l)
      = X (ix2 ⟨128 * k.val + q.val, by omega⟩ l) := fun X => by
    refine congrArg X (funext fun a => ?_)
    have e := k2_off9_eq k
    fin_cases a <;> refine Fin.ext ?_
    · show k2_off9 k 0 + 1 * q.val = 128 * k.val + q.val; rw [e]; show 128 * k.val + 1 * q.val = _; omega
    · show k2_off9 k 1 + 1 * l.val = l.val; rw [e]; show 0 + 1 * l.val = _; omega
  unfold afk
  rw [← ld x7, ← ld x8, ← ld x9, ← named_share]
  generalize View.ld x7 _ = w7
  generalize View.ld x8 _ = w8
  generalize View.ld x9 _ = w9
  unfold k2_pay139 k2_pay151 k2_pay152 k2_pay153 k2_pay151 k2_pay152
  pointwise

section Blk

variable (x2 : Vec Ideal S1x40x2x128 .f32) (x4 : Vec Ideal S1x1024x2 .f32) (x5 : Vec Ideal S1x1024x16 .f32)

theorem pay170_apply (r : Fin 1024) (l : Fin 128) : k2_pay170 (blkS x4) (ix2 r l) = x4 (ix3 0 r 0) := by
  rw [← blkS_apply x4 r]
  unfold k2_pay170 k2_pay168
  generalize blkS x4 = w
  pointwise

theorem pay171_apply (r : Fin 1024) (l : Fin 128) : k2_pay171 (blkE x4) (ix2 r l) = x4 (ix3 0 r 1) := by
  rw [← blkE_apply x4 r]
  unfold k2_pay171 k2_pay169
  generalize blkE x4 = w
  pointwise

theorem pay172_apply (r : Fin 1024) (l : Fin 128) :
    k2_pay172 (blkS x4) (blkE x4) (ix2 r l) = (x4 (ix3 0 r 1) - x4 (ix3 0 r 0)) * (share : EReal) := by
  rw [← blkE_apply x4 r, ← blkS_apply x4 r, ← named_share]
  unfold k2_pay172 k2_pay169 k2_pay168
  generalize blkE x4 = w
  generalize blkS x4 = w
  pointwise

theorem blkC_apply (cl : Fin 10) (r : Fin 1024) (l : Fin 128) : blkC x5 cl (ix3 0 r l) = x5 (ix3 0 r ⟨cl.val, by omega⟩) := by
  have ld : View.ld x5 (Rect.unit (s := S1x1024x16) ![0, 0, cl.val] S1x1024x1.size (col_inb cl)) (ix3 0 r 0) = x5 (ix3 0 r ⟨cl.val, by omega⟩) := by
    refine congrArg x5 (funext fun a => ?_)
    fin_cases a <;> refine Fin.ext ?_
    · rfl
    · show 0 + 1 * r.val = r.val; omega
    · rfl
  rw [← ld]
  unfold blkC k2_pay173
  generalize View.ld x5 _ = w
  pointwise

/-- A chunk's ten score rows, read at the chunk's row `q`. -/
theorem blkSc_ld (cl : Fin 10) (k : Fin k2_t2_loop.trips) (hk : k.val < 8) (q l : Fin 128) :
    View.ld (blkSc x5) (Rect.unit (s := S10x1024x128) (offC cl k) S1x128x128.size (offC_inb cl k)) (ix3 0 q l)
      = x5 (ix3 0 ⟨128 * k.val + q.val, by omega⟩ ⟨cl.val, by omega⟩) := by
  rw [← blkC_apply x5 cl ⟨128 * k.val + q.val, by omega⟩ l]
  have e := offC_eq cl k
  show blkC x5 _ _ = _
  congr 1
  funext a
  fin_cases a <;> refine Fin.ext ?_
  · rfl
  · show offC cl k 1 + 1 * q.val = 128 * k.val + q.val; rw [e]; show 128 * k.val + 1 * q.val = _; omega
  · show offC cl k 2 + 1 * l.val = l.val; rw [e]; show 0 + 1 * l.val = _; omega

/-! The bounds the two tests read. -/

theorem bnds_tileLo (y : S96.Idx) (t : Fin 40) (h : (y 0).val = 2 * t.val) : bnds x2 x4 y = tileLo x2 t := by
  have h8 : (y 0).val < 80 := by omega
  have ht : (⟨(y 0).val / 2, by omega⟩ : Fin 40) = t := Fin.ext (by show (y 0).val / 2 = t.val; omega)
  unfold bnds tileW
  rw [dif_pos h8, if_pos (by omega), ht]
theorem bnds_tileHi (y : S96.Idx) (t : Fin 40) (h : (y 0).val = 2 * t.val + 1) : bnds x2 x4 y = tileHi x2 t := by
  have h8 : (y 0).val < 80 := by omega
  have ht : (⟨(y 0).val / 2, by omega⟩ : Fin 40) = t := Fin.ext (by show (y 0).val / 2 = t.val; omega)
  unfold bnds tileW
  rw [dif_pos h8, if_neg (by omega), ht]
theorem bnds_chunkLo (y : S96.Idx) (k : Fin 8) (h : (y 0).val = 2 * k.val + 80) : bnds x2 x4 y = chunkLo x4 k := by
  have h8 : ¬ (y 0).val < 80 := by omega
  have ht : (⟨((y 0).val - 80) / 2, by omega⟩ : Fin 8) = k := Fin.ext (by show ((y 0).val - 80) / 2 = k.val; omega)
  unfold bnds chunkW
  rw [dif_neg h8, if_pos (by omega), ht]
theorem bnds_chunkHi (y : S96.Idx) (k : Fin 8) (h : (y 0).val = 2 * k.val + 81) : bnds x2 x4 y = chunkHi x4 k := by
  have h8 : ¬ (y 0).val < 80 := by omega
  have ht : (⟨((y 0).val - 80) / 2, by omega⟩ : Fin 8) = k := Fin.ext (by show ((y 0).val - 80) / 2 = k.val; omega)
  unfold bnds chunkW
  rw [dif_neg h8, if_neg (by omega), ht]

theorem tileS_apply (k : Fin k2_t1_loop.trips) (hk : k.val < 40) (l : Fin 128) : tileS x2 k (ix4 0 0 0 l) = x2 (ix4 0 ⟨k.val, hk⟩ 0 l) := by
  refine congrArg x2 (funext fun a => ?_)
  have e := k2_off3_eq k
  fin_cases a <;> refine Fin.ext ?_
  · show k2_off3 k 0 + 1 * 0 = 0; rw [e]; rfl
  · show k2_off3 k 1 + 1 * 0 = k.val; rw [e]; rfl
  · show k2_off3 k 2 + 1 * 0 = 0; rw [e]; rfl
  · show k2_off3 k 3 + 1 * l.val = l.val; rw [e]; show 0 + 1 * l.val = _; omega
theorem tileE_apply (k : Fin k2_t1_loop.trips) (hk : k.val < 40) (l : Fin 128) : tileE x2 k (ix4 0 0 0 l) = x2 (ix4 0 ⟨k.val, hk⟩ 1 l) := by
  refine congrArg x2 (funext fun a => ?_)
  have e := k2_off4_eq k
  fin_cases a <;> refine Fin.ext ?_
  · show k2_off4 k 0 + 1 * 0 = 0; rw [e]; rfl
  · show k2_off4 k 1 + 1 * 0 = k.val; rw [e]; rfl
  · show k2_off4 k 2 + 1 * 0 = 1; rw [e]; rfl
  · show k2_off4 k 3 + 1 * l.val = l.val; rw [e]; show 0 + 1 * l.val = _; omega

end Blk

end Cert.Proof.KernelIdeal

end
-- ==== Proof.Tile.lean ====
/-
  What an image's running maxima hold, class by class and box by box: the greatest score among all the image's boxes that overlap
  the box enough. The chunks and the tiles the bounds let the loops skip hold no such box.
-/
module

public import proofs.«01_k».proof.Proof.Chunk
public import proofs.«01_k».proof.Proof.Spec

@[expose] public section

set_option maxRecDepth 16384

noncomputable section

namespace Cert.Proof.KernelIdeal

open Cert.KernelIdeal Cert.KernelIdeal.Gen Cert.Proof.Overlap
open Idealize.ShloMosaic Idealize.ShloMosaic.TcCoe

theorem wt_skip {s e s' e' : EReal} (hr : Rng s e) (hd : endM s e < s' ∨ endM s' e' < s) : wt s e s' e' = 0 :=
  if_neg (not_hit hr hd)

section Blk

variable (x2 : Vec Ideal S1x40x2x128 .f32) (x4 : Vec Ideal S1x1024x2 .f32) (x5 : Vec Ideal S1x1024x16 .f32)

/-- A block's two operands as boxes: the tiles' boxes `S E`, the block's `s e`. -/
structure Boxes (S E : Fin 40 → Fin 128 → EReal) (s e : Fin 1024 → EReal) : Prop where
  hS : ∀ t l, x2 (ix4 0 t 0 l) = S t l
  hE : ∀ t l, x2 (ix4 0 t 1 l) = E t l
  hs : ∀ r, x4 (ix3 0 r 0) = s r
  he : ∀ r, x4 (ix3 0 r 1) = e r

variable {x2 x4} {S E : Fin 40 → Fin 128 → EReal} {s e : Fin 1024 → EReal} (H : Boxes x2 x4 S E s e)

include H in
theorem afk_wt (t : Fin k2_t1_loop.trips) (ht : t.val < 40) (k : Fin k2_t2_loop.trips) (hk : k.val < 8) (q l : Fin 128) :
    afk (k2_pay170 (blkS x4)) (k2_pay171 (blkE x4)) (k2_pay172 (blkS x4) (blkE x4)) (tileS x2 t) (tileE x2 t) k (ix2 q l)
      = wt (S ⟨t.val, ht⟩ l) (E ⟨t.val, ht⟩ l) (s ⟨128 * k.val + q.val, by omega⟩) (e ⟨128 * k.val + q.val, by omega⟩) := by
  rw [afk_apply _ _ _ _ _ k hk q l, pay170_apply, pay171_apply, pay172_apply, tileS_apply x2 t ht, tileE_apply x2 t ht, H.hS, H.hE, H.hs, H.he]
  unfold wt
  by_cases h : hit (S ⟨t.val, ht⟩ l) (E ⟨t.val, ht⟩ l) (s ⟨128 * k.val + q.val, by omega⟩) (e ⟨128 * k.val + q.val, by omega⟩)
  · rw [if_pos h]; exact if_pos h
  · rw [if_neg h]; exact if_neg h

/-- The accumulators after `n` chunks of tile `t`. -/
abbrev chunks (x2 : Vec Ideal S1x40x2x128 .f32) (x4 : Vec Ideal S1x1024x2 .f32) (x5 : Vec Ideal S1x1024x16 .f32) (t : Fin k2_t1_loop.trips) (n : ℕ) : Fin 10 → FVec Ideal S8x128 .f32 :=
  st2 (k2_pay170 (blkS x4)) (k2_pay171 (blkE x4)) (k2_pay172 (blkS x4) (blkE x4)) (blkSc x5) (bnds x2 x4) (tileS x2 t) (tileE x2 t)
    (bnds x2 x4 ((Rect.unit (s := S96) (k2_off5 t) S1.size (k2_off5_inb t)).idx at1))
    (bnds x2 x4 ((Rect.unit (s := S96) (k2_off6 t) S1.size (k2_off6_inb t)).idx at1)) n

theorem trips2 : k2_t2_loop.trips = 8 := by decide
theorem trips1 : k2_t1_loop.trips = 40 := by decide

theorem off_tileLo (t : Fin k2_t1_loop.trips) (ht : t.val < 40) :
    bnds x2 x4 ((Rect.unit (s := S96) (k2_off5 t) S1.size (k2_off5_inb t)).idx at1) = tileLo x2 ⟨t.val, ht⟩ :=
  bnds_tileLo x2 x4 _ ⟨t.val, ht⟩ (by show k2_off5 t 0 + 1 * 0 = 2 * t.val; rw [k2_off5_eq]; rfl)
theorem off_tileHi (t : Fin k2_t1_loop.trips) (ht : t.val < 40) :
    bnds x2 x4 ((Rect.unit (s := S96) (k2_off6 t) S1.size (k2_off6_inb t)).idx at1) = tileHi x2 ⟨t.val, ht⟩ :=
  bnds_tileHi x2 x4 _ ⟨t.val, ht⟩ (by show k2_off6 t 0 + 1 * 0 = 2 * t.val + 1; rw [k2_off6_eq]; rfl)
theorem off_tileHi' (t : Fin k2_t1_loop.trips) (ht : t.val < 40) :
    bnds x2 x4 ((Rect.unit (s := S96) (k2_off1 t) S1.size (k2_off1_inb t)).idx at1) = tileHi x2 ⟨t.val, ht⟩ :=
  bnds_tileHi x2 x4 _ ⟨t.val, ht⟩ (by show k2_off1 t 0 + 1 * 0 = 2 * t.val + 1; rw [k2_off1_eq]; rfl)
theorem off_tileLo' (t : Fin k2_t1_loop.trips) (ht : t.val < 40) :
    bnds x2 x4 ((Rect.unit (s := S96) (k2_off2 t) S1.size (k2_off2_inb t)).idx at1) = tileLo x2 ⟨t.val, ht⟩ :=
  bnds_tileLo x2 x4 _ ⟨t.val, ht⟩ (by show k2_off2 t 0 + 1 * 0 = 2 * t.val; rw [k2_off2_eq]; rfl)
theorem off_chunkLo (k : Fin k2_t2_loop.trips) (hk : k.val < 8) :
    bnds x2 x4 ((Rect.unit (s := S96) (k2_off7 k) S1.size (k2_off7_inb k)).idx at1) = chunkLo x4 ⟨k.val, hk⟩ :=
  bnds_chunkLo x2 x4 _ ⟨k.val, hk⟩ (by show k2_off7 k 0 + 1 * 0 = 2 * k.val + 80; rw [k2_off7_eq]; rfl)
theorem off_chunkHi (k : Fin k2_t2_loop.trips) (hk : k.val < 8) :
    bnds x2 x4 ((Rect.unit (s := S96) (k2_off8 k) S1.size (k2_off8_inb k)).idx at1) = chunkHi x4 ⟨k.val, hk⟩ :=
  bnds_chunkHi x2 x4 _ ⟨k.val, hk⟩ (by show k2_off8 k 0 + 1 * 0 = 2 * k.val + 81; rw [k2_off8_eq]; rfl)

theorem pay154_apply (y : S8x128.Idx) : (k2_pay154 (F := Ideal)) y = 0 := by
  show Ideal.ofBits .f32 0x00000000#32 = 0
  simp

include H in
theorem chunks_le (t : Fin k2_t1_loop.trips) (ht : t.val < 40) (cl : Fin 10) (r : Fin 8) (l : Fin 128) (hr : Rng (S ⟨t.val, ht⟩ l) (E ⟨t.val, ht⟩ l)) (x : EReal) (hx : 0 ≤ x) (n : ℕ) (hn : n ≤ 8) :
    chunks x2 x4 x5 t n cl (ix2 r l) ≤ x ↔ ∀ k : Fin 8, k.val < n → ∀ q : Fin 16,
      wt (S ⟨t.val, ht⟩ l) (E ⟨t.val, ht⟩ l) (s ⟨128 * k.val + (8 * q.val + r.val), by omega⟩) (e ⟨128 * k.val + (8 * q.val + r.val), by omega⟩)
        * x5 (ix3 0 ⟨128 * k.val + (8 * q.val + r.val), by omega⟩ ⟨cl.val, by omega⟩) ≤ x := by
  induction n with
  | zero =>
    refine iff_of_true ?_ (fun k h => absurd h (Nat.not_lt_zero _))
    exact (pay154_apply (ix2 r l)).trans_le hx
  | succ n ih =>
    have hk : n < k2_t2_loop.trips := by rw [trips2]; omega
    have hn8 : n < 8 := by omega
    have hs := st2_succ (k2_pay170 (blkS x4)) (k2_pay171 (blkE x4)) (k2_pay172 (blkS x4) (blkE x4)) (blkSc x5) (bnds x2 x4) (tileS x2 t) (tileE x2 t)
      (bnds x2 x4 ((Rect.unit (s := S96) (k2_off5 t) S1.size (k2_off5_inb t)).idx at1))
      (bnds x2 x4 ((Rect.unit (s := S96) (k2_off6 t) S1.size (k2_off6_inb t)).idx at1)) ⟨n, hk⟩
    have split : ∀ P : Fin 8 → Prop, (∀ k : Fin 8, k.val < n + 1 → P k) ↔ (∀ k : Fin 8, k.val < n → P k) ∧ P ⟨n, hn8⟩ := fun P =>
      ⟨fun h => ⟨fun k hk => h k (by omega), h _ (Nat.lt_succ_self n)⟩, fun h k hk => by
        rcases Nat.lt_succ_iff_lt_or_eq.1 hk with hk | hk
        · exact h.1 k hk
        · exact (Fin.ext hk : k = ⟨n, hn8⟩) ▸ h.2⟩
    rw [split, ← ih (by omega)]
    rw [show chunks x2 x4 x5 t (n + 1) = _ from hs]
    unfold step2
    split_ifs with hlive
    · rw [pay145_le]
      refine and_congr_right fun _ => forall_congr' fun q => ?_
      rw [afk_wt H t ht ⟨n, hk⟩ hn8 ⟨8 * q.val + r.val, by omega⟩ l, blkSc_ld x5 cl ⟨n, hk⟩ hn8 ⟨8 * q.val + r.val, by omega⟩ l]
    · refine (and_iff_left fun q => ?_).symm
      rw [live_iff, off_tileLo t ht, off_tileHi t ht, off_chunkLo ⟨n, hk⟩ hn8, off_chunkHi ⟨n, hk⟩ hn8, not_and_or, not_le, not_le] at hlive
      rw [wt_skip hr ?_, zero_mul]
      · exact hx
      · have a1 := le_tileHi x2 ⟨t.val, ht⟩ l
        have a2 := tileLo_le x2 ⟨t.val, ht⟩ l
        have a3 := le_chunkHi x4 ⟨n, hn8⟩ ⟨8 * q.val + r.val, by omega⟩
        have a4 := chunkLo_le x4 ⟨n, hn8⟩ ⟨8 * q.val + r.val, by omega⟩
        rw [H.hS, H.hE] at a1
        rw [H.hS] at a2
        rw [H.hs, H.he] at a3
        rw [H.hs] at a4
        exact hlive.imp (fun h => (a1.trans_lt h).trans_le a4) (fun h => (a3.trans_lt h).trans_le a2)

include H in
/-- A tile's eight accumulator rows of a class, all at most `x`: every box of the block. -/
theorem accs_le (t : Fin k2_t1_loop.trips) (ht : t.val < 40) (cl : Fin 10) (l : Fin 128) (hr : Rng (S ⟨t.val, ht⟩ l) (E ⟨t.val, ht⟩ l)) (x : EReal) (hx : 0 ≤ x) :
    (∀ r : Fin 8, chunks x2 x4 x5 t k2_t2_loop.trips cl (ix2 r l) ≤ x) ↔ ∀ p : Fin 1024,
      wt (S ⟨t.val, ht⟩ l) (E ⟨t.val, ht⟩ l) (s p) (e p) * x5 (ix3 0 p ⟨cl.val, by omega⟩) ≤ x := by
  constructor
  · intro h p
    have h1 := (chunks_le x5 H t ht cl ⟨p.val % 8, by omega⟩ l hr x hx 8 le_rfl).1 (by have := h ⟨p.val % 8, by omega⟩; rwa [trips2] at this)
      ⟨p.val / 128, by omega⟩ (by show p.val / 128 < 8; omega) ⟨p.val % 128 / 8, by omega⟩
    have hp : (⟨128 * (p.val / 128) + (8 * (p.val % 128 / 8) + p.val % 8), by omega⟩ : Fin 1024) = p := Fin.ext (by show 128 * (p.val / 128) + (8 * (p.val % 128 / 8) + p.val % 8) = p.val; omega)
    rw [hp] at h1
    exact h1
  · intro h r
    rw [trips2]
    exact (chunks_le x5 H t ht cl r l hr x hx 8 le_rfl).2 fun k _ q => h _

include H in
/-- One tile's trip. -/
theorem step1_le (k : Fin k2_t1_loop.trips) (hk : k.val < 40) (x11 : Vec Ideal S40x16x128 .f32) (t : Fin 40) (cl : Fin 10) (l : Fin 128) (hr : Rng (S t l) (E t l)) (x : EReal) (hx : 0 ≤ x) :
    step1 x2 (k2_pay170 (blkS x4)) (k2_pay171 (blkE x4)) (k2_pay172 (blkS x4) (blkE x4)) (blkSc x5) (bnds x2 x4)
      (k2_pay186 (k2_pay168 (blkS x4))) (k2_pay187 (k2_pay168 (blkS x4)) (k2_pay169 (blkE x4))) k x11 (ix3 t ⟨cl.val, by omega⟩ l) ≤ x
      ↔ x11 (ix3 t ⟨cl.val, by omega⟩ l) ≤ x ∧ (t.val = k.val → ∀ p : Fin 1024, wt (S t l) (E t l) (s p) (e p) * x5 (ix3 0 p ⟨cl.val, by omega⟩) ≤ x) := by
  have hoff := k2_off20_eq k
  unfold step1
  split_ifs with hlive
  · by_cases htk : t.val = k.val
    · have ht : t = ⟨k.val, hk⟩ := Fin.ext htk
      subst ht
      have hin : ∀ a, k2_off20 k a ≤ ((ix3 (⟨k.val, hk⟩ : Fin 40) (⟨cl.val, by omega⟩ : Fin 16) l : S40x16x128.Idx) a).val
          ∧ ((ix3 (⟨k.val, hk⟩ : Fin 40) (⟨cl.val, by omega⟩ : Fin 16) l : S40x16x128.Idx) a).val < k2_off20 k a + S1x16x128.size a := by
        intro a
        rw [hoff]
        fin_cases a
        · exact ⟨le_rfl, Nat.lt_succ_self _⟩
        · exact ⟨Nat.zero_le _, by show cl.val < 0 + 16; omega⟩
        · exact ⟨Nat.zero_le _, by show l.val < 0 + 128; omega⟩
      unfold VecWindow.put
      rw [dif_pos hin]
      have hl : Rect.unitLocal (s := S40x16x128) (off := k2_off20 k) (size := S1x16x128.size) _ hin = (ix3 0 (⟨cl.val, by omega⟩ : Fin 16) l : S1x16x128.Idx) := by
        funext a
        fin_cases a <;> refine Fin.ext ?_
        · show k.val - k2_off20 k 0 = 0; rw [hoff]; show k.val - k.val = 0; omega
        · show cl.val - k2_off20 k 1 = cl.val; rw [hoff]; show cl.val - 0 = _; omega
        · show l.val - k2_off20 k 2 = l.val; rw [hoff]; show l.val - 0 = _; omega
      rw [hl, fold1_le, accs_le x5 H k hk cl l hr x hx]
      have hw : View.ld x11 (Rect.unit (s := S40x16x128) (k2_off20 k) S1x16x128.size (k2_off20_inb k)) (ix3 0 (⟨cl.val, by omega⟩ : Fin 16) l)
          = x11 (ix3 (⟨k.val, hk⟩ : Fin 40) (⟨cl.val, by omega⟩ : Fin 16) l) := by
        refine congrArg x11 (funext fun a => ?_)
        fin_cases a <;> refine Fin.ext ?_
        · show k2_off20 k 0 + 1 * 0 = k.val; rw [hoff]; rfl
        · show k2_off20 k 1 + 1 * cl.val = cl.val; rw [hoff]; show 0 + 1 * cl.val = _; omega
        · show k2_off20 k 2 + 1 * l.val = l.val; rw [hoff]; show 0 + 1 * l.val = _; omega
      rw [hw]
      exact and_congr_right fun _ => ⟨fun h _ => h, fun h => h rfl⟩
    · have hout : ¬ ∀ a, k2_off20 k a ≤ ((ix3 t (⟨cl.val, by omega⟩ : Fin 16) l : S40x16x128.Idx) a).val
          ∧ ((ix3 t (⟨cl.val, by omega⟩ : Fin 16) l : S40x16x128.Idx) a).val < k2_off20 k a + S1x16x128.size a := by
        intro h
        have h0 := h 0
        rw [hoff] at h0
        have h1 : k.val ≤ t.val ∧ t.val < k.val + 1 := h0
        omega
      unfold VecWindow.put
      rw [dif_neg hout]
      exact (and_iff_left fun h => absurd h htk).symm
  · refine (and_iff_left fun htk p => ?_).symm
    have ht : t = ⟨k.val, hk⟩ := Fin.ext htk
    subst ht
    rw [live_iff, off_tileLo' k hk, off_tileHi' k hk, not_and_or, not_le, not_le] at hlive
    rw [wt_skip hr ?_, zero_mul]
    · exact hx
    · have a1 := le_tileHi x2 ⟨k.val, hk⟩ l
      have a2 := tileLo_le x2 ⟨k.val, hk⟩ l
      have a3 := le_blkHi x4 p
      have a4 := blkLo_le x4 p
      rw [H.hS, H.hE] at a1
      rw [H.hS] at a2
      rw [H.hs, H.he] at a3
      rw [H.hs] at a4
      exact hlive.imp (fun h => (a1.trans_lt h).trans_le a4) (fun h => (a3.trans_lt h).trans_le a2)

include H in
/-- A block's maxima, all forty tiles. -/
theorem blkM_le (x11 : Vec Ideal S40x16x128 .f32) (t : Fin 40) (cl : Fin 10) (l : Fin 128) (hr : Rng (S t l) (E t l)) (x : EReal) (hx : 0 ≤ x) :
    blkM x2 x4 x5 x11 (ix3 t ⟨cl.val, by omega⟩ l) ≤ x ↔ x11 (ix3 t ⟨cl.val, by omega⟩ l) ≤ x
      ∧ ∀ p : Fin 1024, wt (S t l) (E t l) (s p) (e p) * x5 (ix3 0 p ⟨cl.val, by omega⟩) ≤ x := by
  have main : ∀ n : ℕ, n ≤ 40 →
      (st1 x2 (k2_pay170 (blkS x4)) (k2_pay171 (blkE x4)) (k2_pay172 (blkS x4) (blkE x4)) (blkSc x5) (bnds x2 x4)
        (k2_pay186 (k2_pay168 (blkS x4))) (k2_pay187 (k2_pay168 (blkS x4)) (k2_pay169 (blkE x4))) x11 n (ix3 t ⟨cl.val, by omega⟩ l) ≤ x
        ↔ x11 (ix3 t ⟨cl.val, by omega⟩ l) ≤ x ∧ (t.val < n → ∀ p : Fin 1024, wt (S t l) (E t l) (s p) (e p) * x5 (ix3 0 p ⟨cl.val, by omega⟩) ≤ x)) := by
    intro n
    induction n with
    | zero => intro _; exact (and_iff_left fun h => absurd h (Nat.not_lt_zero _)).symm
    | succ n ih =>
      intro hn
      have hk : n < k2_t1_loop.trips := by rw [trips1]; omega
      have hs := st1_succ x2 (k2_pay170 (blkS x4)) (k2_pay171 (blkE x4)) (k2_pay172 (blkS x4) (blkE x4)) (blkSc x5) (bnds x2 x4)
        (k2_pay186 (k2_pay168 (blkS x4))) (k2_pay187 (k2_pay168 (blkS x4)) (k2_pay169 (blkE x4))) x11 ⟨n, hk⟩
      rw [show n + 1 = (⟨n, hk⟩ : Fin k2_t1_loop.trips).val + 1 from rfl, hs, step1_le x5 H ⟨n, hk⟩ (by show n < 40; omega) _ t cl l hr x hx, ih (by omega), and_assoc]
      refine and_congr_right fun _ => ?_
      show (t.val < n → _) ∧ (t.val = n → _) ↔ (t.val < n + 1 → _)
      exact ⟨fun h ht => (Nat.lt_succ_iff_lt_or_eq.1 ht).elim h.1 h.2, fun h => ⟨fun ht => h (by omega), fun ht => h (by omega)⟩⟩
  have h40 := main 40 le_rfl
  unfold blkM
  rw [trips1, h40]
  exact and_congr_right fun _ => ⟨fun h => h t.isLt, fun h _ => h⟩

end Blk

end Cert.Proof.KernelIdeal

end
-- ==== Proof.Value.lean ====
/-
  The array the last call leaves, read at an index, from the boxes and the scores it is given.
-/
module

public import proofs.«01_k».proof.Proof.Tile
public import proofs.«01_k».proof.Proof.Region
public import proofs.«01_k».proof.Proof.Gen.KernelIdeal.Regions
public import Idealize.ShloMosaic.Lib.StableHlo.ReadAt

@[expose] public section

set_option maxRecDepth 16384

noncomputable section

namespace Cert.Proof.KernelIdeal

open Cert.KernelIdeal Cert.KernelIdeal.Gen Cert.Proof.Overlap
open Idealize.ShloMosaic Idealize.ShloMosaic.TcCoe

open Classical in
/-- What the last loop writes in a tile's first row: at most `x` when, for a box in range, each class's surviving score is. -/
theorem pay1_row (v : Vec Ideal S1x16x128 .f32) (w : Vec Ideal S1x1x16x128 .f32) (a b : Vec Ideal S1x1x1x128 .f32) (l : Fin 128) (x : EReal) :
    k2_pay1 v w a b (ix4 0 0 0 l) ≤ x ↔ (Rng (a (ix4 0 0 0 l)) (b (ix4 0 0 0 l)) →
        ∀ cl : Fin 16, (if v (ix3 0 cl l) ≤ w (ix4 0 0 cl l) then w (ix4 0 0 cl l) else 0) ≤ x) ∧ (¬ Rng (a (ix4 0 0 0 l)) (b (ix4 0 0 0 l)) → 0 ≤ x) := by
  have hk : k2_pay1 v w a b (ix4 0 0 0 l) = Scalar.select
      (IntOp.andi (BitVec.ofBool (decide (Ideal.ofBits .f32 0xC1200000#32 < a (ix4 0 0 0 l)))) (BitVec.ofBool (decide (b (ix4 0 0 0 l) < Ideal.ofBits .f32 0x41200000#32))))
      (Finset.fold max (Ideal.ofBits .f32 0xFF800000#32) (fun x => if v (ix3 0 x l) ≤ w (ix4 0 0 x l) then w (ix4 0 0 x l) else 0) Finset.univ) 0 := by
    unfold k2_pay1
    pointwise
  rw [hk, bits_bot]
  unfold Rng
  by_cases h1 : Ideal.ofBits .f32 0xC1200000#32 < a (ix4 0 0 0 l) <;> by_cases h2 : b (ix4 0 0 0 l) < Ideal.ofBits .f32 0x41200000#32
  · have e : ∀ y z : EReal, Scalar.select (IntOp.andi 1#1 1#1) y z = y := fun _ _ => rfl
    simp [h1, h2, e, Finset.fold_max_le]
  · have e : ∀ y z : EReal, Scalar.select (IntOp.andi 1#1 0#1) y z = z := fun _ _ => rfl
    simp [h1, h2, e]
  · have e : ∀ y z : EReal, Scalar.select (IntOp.andi 0#1 1#1) y z = z := fun _ _ => rfl
    simp [h1, h2, e]
  · have e : ∀ y z : EReal, Scalar.select (IntOp.andi 0#1 0#1) y z = z := fun _ _ => rfl
    simp [h1, h2, e]

theorem pay1_rest (v : Vec Ideal S1x16x128 .f32) (w : Vec Ideal S1x1x16x128 .f32) (a b : Vec Ideal S1x1x1x128 .f32) (r : Fin 8) (l : Fin 128) (hr : 0 < r.val) :
    k2_pay1 v w a b (ix4 0 0 r l) = 0 := by
  unfold k2_pay1
  fin_cases r
  · exact absurd hr (lt_irrefl _)
  all_goals pointwise

section

variable (k : Fin k2_t3_loop.trips) (hk : k.val < 40) (l : Fin 128)

theorem ld21 (X : Vec Ideal S40x16x128 .f32) (cl : Fin 16) :
    View.ld X (Rect.unit (s := S40x16x128) (k2_off21 k) S1x16x128.size (k2_off21_inb lastPt k lastPt_cond)) (ix3 0 cl l) = X (ix3 ⟨k.val, hk⟩ cl l) := by
  refine congrArg X (funext fun a => ?_)
  have h0 := k2_off21_eq k
  fin_cases a <;> refine Fin.ext ?_
  · show k2_off21 k 0 + 1 * 0 = k.val; rw [h0]; rfl
  · show k2_off21 k 1 + 1 * cl.val = cl.val; rw [h0]; show 0 + 1 * cl.val = _; omega
  · show k2_off21 k 2 + 1 * l.val = l.val; rw [h0]; show 0 + 1 * l.val = _; omega
theorem ld22 (X : Vec Ideal S1x40x16x128 .f32) (cl : Fin 16) :
    View.ld X (Rect.unit (s := S1x40x16x128) (k2_off22 k) S1x1x16x128.size (k2_off22_inb lastPt k lastPt_cond)) (ix4 0 0 cl l) = X (ix4 0 ⟨k.val, hk⟩ cl l) := by
  refine congrArg X (funext fun a => ?_)
  have h0 := k2_off22_eq k
  fin_cases a <;> refine Fin.ext ?_
  · show k2_off22 k 0 + 1 * 0 = 0; rw [h0]; rfl
  · show k2_off22 k 1 + 1 * 0 = k.val; rw [h0]; rfl
  · show k2_off22 k 2 + 1 * cl.val = cl.val; rw [h0]; show 0 + 1 * cl.val = _; omega
  · show k2_off22 k 3 + 1 * l.val = l.val; rw [h0]; show 0 + 1 * l.val = _; omega
theorem ld23 (X : Vec Ideal S1x40x2x128 .f32) :
    View.ld X (Rect.unit (s := S1x40x2x128) (k2_off23 k) S1x1x1x128.size (k2_off23_inb lastPt k lastPt_cond)) (ix4 0 0 0 l) = X (ix4 0 ⟨k.val, hk⟩ 0 l) := by
  refine congrArg X (funext fun a => ?_)
  have h0 := k2_off23_eq k
  fin_cases a <;> refine Fin.ext ?_
  · show k2_off23 k 0 + 1 * 0 = 0; rw [h0]; rfl
  · show k2_off23 k 1 + 1 * 0 = k.val; rw [h0]; rfl
  · show k2_off23 k 2 + 1 * 0 = 0; rw [h0]; rfl
  · show k2_off23 k 3 + 1 * l.val = l.val; rw [h0]; show 0 + 1 * l.val = _; omega
theorem ld24 (X : Vec Ideal S1x40x2x128 .f32) :
    View.ld X (Rect.unit (s := S1x40x2x128) (k2_off24 k) S1x1x1x128.size (k2_off24_inb lastPt k lastPt_cond)) (ix4 0 0 0 l) = X (ix4 0 ⟨k.val, hk⟩ 1 l) := by
  refine congrArg X (funext fun a => ?_)
  have h0 := k2_off24_eq k
  fin_cases a <;> refine Fin.ext ?_
  · show k2_off24 k 0 + 1 * 0 = 0; rw [h0]; rfl
  · show k2_off24 k 1 + 1 * 0 = k.val; rw [h0]; rfl
  · show k2_off24 k 2 + 1 * 0 = 1; rw [h0]; rfl
  · show k2_off24 k 3 + 1 * l.val = l.val; rw [h0]; show 0 + 1 * l.val = _; omega

end

/-- What the call is given: boxes and scores, each by box and by tile. -/
structure Fed (V : Dev nD → Valuation τ sig (Elt Ideal)) (c : Dev nD) (a0 : Fin 4 → Fin 2 → Fin 5120 → EReal) (a1 : Fin 4 → Fin 16 → Fin 5120 → EReal) : Prop where
  boxes : ∀ b i r, (V c main_v44 : Vec Ideal S4x5120x2 .f32) (ix3 b i r) = a0 b r i
  scores : ∀ b i r, (V c main_v45 : Vec Ideal S4x5120x16 .f32) (ix3 b i r) = a1 b r i
  boxTiles : ∀ b (t : Fin 40) r (l : Fin 128), (V c main_v47 : Vec Ideal S4x40x2x128 .f32) (ix4 b t r l) = a0 b r ⟨t.val * 128 + l.val, by omega⟩
  scoreTiles : ∀ b (t : Fin 40) r (l : Fin 128), (V c main_v49 : Vec Ideal S4x40x16x128 .f32) (ix4 b t r l) = a1 b r ⟨t.val * 128 + l.val, by omega⟩

section

variable (W : Valuation τ sig (Elt Ideal))

theorem after_v44 (b : Fin 4) (i : Fin 5120) (r : Fin 2) : (StableHlo.after hostOps2 W main_v44 : Vec Ideal S4x5120x2 .f32) (ix3 b i r) = (W main_v43_0 : Vec Ideal S4x2x5120 .f32) (ix3 b r i) := by
  after_reads_at
theorem after_v45 (b : Fin 4) (i : Fin 5120) (r : Fin 16) : (StableHlo.after hostOps2 W main_v45 : Vec Ideal S4x5120x16 .f32) (ix3 b i r) = (W main_v43_1 : Vec Ideal S4x16x5120 .f32) (ix3 b r i) := by
  after_reads_at
theorem after_v47 (b : Fin 4) (t : Fin 40) (r : Fin 2) (l : Fin 128) :
    (StableHlo.after hostOps2 W main_v47 : Vec Ideal S4x40x2x128 .f32) (ix4 b t r l) = (W main_v43_0 : Vec Ideal S4x2x5120 .f32) (ix3 b r ⟨t.val * 128 + l.val, by omega⟩) := by
  after_reads_at
theorem after_v49 (b : Fin 4) (t : Fin 40) (r : Fin 16) (l : Fin 128) :
    (StableHlo.after hostOps2 W main_v49 : Vec Ideal S4x40x16x128 .f32) (ix4 b t r l) = (W main_v43_1 : Vec Ideal S4x16x5120 .f32) (ix3 b r ⟨t.val * 128 + l.val, by omega⟩) := by
  after_reads_at

end

/-- The host operations before the call give it the two arrays the second call leaves. -/
theorem fed (W : Dev nD → Valuation τ sig (Elt Ideal)) (c : Dev nD) : Fed (fun c => StableHlo.after hostOps2 (W c)) c
    (fun b r i => (W c main_v43_0 : Vec Ideal S4x2x5120 .f32) (ix3 b r i)) (fun b r i => (W c main_v43_1 : Vec Ideal S4x16x5120 .f32) (ix3 b r i)) :=
  ⟨fun b i r => after_v44 (W c) b i r, fun b i r => after_v45 (W c) b i r, fun b t r l => after_v47 (W c) b t r l, fun b t r l => after_v49 (W c) b t r l⟩

section

variable {V : Dev nD → Valuation τ sig (Elt Ideal)} {c : Dev nD} {a0 : Fin 4 → Fin 2 → Fin 5120 → EReal} {a1 : Fin 4 → Fin 16 → Fin 5120 → EReal}
  (H : Fed V c a0 a1) (G : Good a1)

/-! The blocks the body reads, at an index. -/

include H in
theorem tb_apply (b : Fin 4) (t : Fin 40) (r : Fin 2) (l : Fin 128) : tb V c b.val (ix4 0 t r l) = a0 b r ⟨t.val * 128 + l.val, by omega⟩ := by
  rw [← H.boxTiles]
  unfold tb
  generalize (V c main_v47 : Vec Ideal S4x40x2x128 .f32) = W
  refine congrArg W (funext fun a => ?_)
  fin_cases a
  · exact Fin.ext (Nat.mod_eq_of_lt b.isLt)
  all_goals rfl
include H in
theorem gb_apply (b : Fin 4) (t : Fin 40) (r : Fin 16) (l : Fin 128) : gb V c b.val (ix4 0 t r l) = a1 b r ⟨t.val * 128 + l.val, by omega⟩ := by
  rw [← H.scoreTiles]
  unfold gb
  generalize (V c main_v49 : Vec Ideal S4x40x16x128 .f32) = W
  refine congrArg W (funext fun a => ?_)
  fin_cases a
  · exact Fin.ext (Nat.mod_eq_of_lt b.isLt)
  all_goals rfl
include H in
theorem cb_apply (b : Fin 4) (j : ℕ) (hj : j < 5) (p : Fin 1024) (r : Fin 2) : cb V c b.val j (ix3 0 p r) = a0 b r ⟨j * 1024 + p.val, by omega⟩ := by
  rw [← H.boxes]
  unfold cb
  generalize (V c main_v44 : Vec Ideal S4x5120x2 .f32) = W
  refine congrArg W (funext fun a => ?_)
  fin_cases a
  · exact Fin.ext (Nat.mod_eq_of_lt b.isLt)
  · exact Fin.ext (Nat.mod_eq_of_lt (by show j * 1024 + p.val < 5120; omega))
  · rfl
include H in
theorem sb_apply (b : Fin 4) (j : ℕ) (hj : j < 5) (p : Fin 1024) (r : Fin 16) : sb V c b.val j (ix3 0 p r) = a1 b r ⟨j * 1024 + p.val, by omega⟩ := by
  rw [← H.scores]
  unfold sb
  generalize (V c main_v45 : Vec Ideal S4x5120x16 .f32) = W
  refine congrArg W (funext fun a => ?_)
  fin_cases a
  · exact Fin.ext (Nat.mod_eq_of_lt b.isLt)
  · exact Fin.ext (Nat.mod_eq_of_lt (by show j * 1024 + p.val < 5120; omega))
  · rfl

include H in
theorem block_boxes (b : Fin 4) (j : ℕ) (hj : j < 5) :
    Boxes (tb V c b.val) (cb V c b.val j) (fun t l => a0 b 0 ⟨t.val * 128 + l.val, by omega⟩) (fun t l => a0 b 1 ⟨t.val * 128 + l.val, by omega⟩)
      (fun p => a0 b 0 ⟨j * 1024 + p.val, by omega⟩) (fun p => a0 b 1 ⟨j * 1024 + p.val, by omega⟩) :=
  ⟨fun t l => tb_apply H b t 0 l, fun t l => tb_apply H b t 1 l, fun p => cb_apply H b j hj p 0, fun p => cb_apply H b j hj p 1⟩

include H in
/-- An image's maxima over its first `n` blocks, for a box in range. -/
theorem runM_le (b : Fin 4) (t : Fin 40) (cl : Fin 10) (l : Fin 128)
    (hr : Rng (a0 b 0 ⟨t.val * 128 + l.val, by omega⟩) (a0 b 1 ⟨t.val * 128 + l.val, by omega⟩)) (x : EReal) (hx : 0 ≤ x) (n : ℕ) (hn : n ≤ 5) :
    runM V c b.val n (ix3 t ⟨cl.val, by omega⟩ l) ≤ x ↔ ∀ j : Fin 5120, j.val < n * 1024 →
      wt (a0 b 0 ⟨t.val * 128 + l.val, by omega⟩) (a0 b 1 ⟨t.val * 128 + l.val, by omega⟩) (a0 b 0 j) (a0 b 1 j) * a1 b ⟨cl.val, by omega⟩ j ≤ x := by
  induction n with
  | zero =>
    refine iff_of_true ?_ fun j h => absurd h (by omega)
    refine (le_of_eq ?_).trans hx
    show (k2_pay205 (F := Ideal)) _ = 0
    unfold k2_pay205
    pointwise
  | succ n ih =>
    rw [← runM_succ, blkM_le _ (block_boxes H b n (by omega)) _ t cl l hr x hx, ih (by omega)]
    constructor
    · rintro ⟨h1, h2⟩ j hj
      by_cases hlt : j.val < n * 1024
      · exact h1 j hlt
      · have h := h2 ⟨j.val - n * 1024, by omega⟩
        rw [sb_apply H b n (by omega)] at h
        have hj' : (⟨n * 1024 + (j.val - n * 1024), by omega⟩ : Fin 5120) = j := Fin.ext (by show n * 1024 + (j.val - n * 1024) = j.val; omega)
        simp only [hj'] at h
        exact h
    · refine fun h => ⟨fun j hj => h j (by omega), fun p => ?_⟩
      rw [sb_apply H b n (by omega)]
      exact h ⟨n * 1024 + p.val, by omega⟩ (by show n * 1024 + p.val < (n + 1) * 1024; omega)

include H G in
/-- The first row of each tile of the returned array. -/
theorem result_row (b : Fin 4) (t : Fin 40) (l : Fin 128) (x : EReal) :
    result V c (ix4 b t 0 l) ≤ x ↔ ∀ cl : Fin 10, kept (a0 b 0) (a0 b 1) (a1 b ⟨cl.val, by omega⟩) ⟨t.val * 128 + l.val, by omega⟩ ≤ x := by
  have ht : t.val < k2_t3_loop.trips := by rw [trips3]; exact t.isLt
  obtain ⟨i, hi⟩ : ∃ i : Fin 5120, i = ⟨t.val * 128 + l.val, by omega⟩ := ⟨_, rfl⟩
  rw [← hi]
  have e1 := fun cl => ld21 ⟨t.val, ht⟩ t.isLt l (runM V c b.val 5) cl
  have e2 : ∀ cl, _ = a1 b cl i := fun cl => (ld22 ⟨t.val, ht⟩ t.isLt l (gb V c b.val) cl).trans ((gb_apply H b t cl l).trans (by rw [hi]))
  have e3 : _ = a0 b 0 i := (ld23 ⟨t.val, ht⟩ t.isLt l (tb V c b.val)).trans ((tb_apply H b t 0 l).trans (by rw [hi]))
  have e4 : _ = a0 b 1 i := (ld24 ⟨t.val, ht⟩ t.isLt l (tb V c b.val)).trans ((tb_apply H b t 1 l).trans (by rw [hi]))
  rw [show result V c (ix4 b t 0 l) = row3 (tb V c b.val) (gb V c b.val) (runM V c b.val 5) ⟨t.val, ht⟩ (ix4 0 0 0 l) from rfl]
  unfold row3
  rw [pay1_row, e3, e4]
  simp only [e1, e2]
  have hk : ∀ cl : Fin 10, Rng (a0 b 0 i) (a0 b 1 i) →
      (if runM V c b.val 5 (ix3 t ⟨cl.val, by omega⟩ l) ≤ a1 b ⟨cl.val, by omega⟩ i then a1 b ⟨cl.val, by omega⟩ i else 0)
        = kept (a0 b 0) (a0 b 1) (a1 b ⟨cl.val, by omega⟩) i := fun cl hr =>
    kept_of_max (fun j => G.score b _ j) hr fun y hy => (runM_le H b t cl l (by rw [← hi]; exact hr) y hy 5 le_rfl).trans (by
      rw [← hi]; exact ⟨fun h j => h j (by have := j.isLt; omega), fun h j _ => h j⟩)
  constructor
  · rintro ⟨h1, h2⟩ cl
    by_cases hr : Rng (a0 b 0 i) (a0 b 1 i)
    · rw [← hk cl hr]; exact h1 hr ⟨cl.val, by omega⟩
    · unfold kept; rw [if_neg fun h => hr h.1]; exact h2 hr
  · intro h
    have hx : 0 ≤ x := (kept_nonneg _ _ _ _).trans (h 0)
    refine ⟨fun hr cl => ?_, fun _ => hx⟩
    by_cases hc : cl.val < 10
    · exact (hk ⟨cl.val, hc⟩ hr).trans_le (h ⟨cl.val, hc⟩)
    · rw [G.pad b cl i (by omega)]; simp [hx]

theorem result_rest (b : Fin 4) (t : Fin 40) (r : Fin 8) (l : Fin 128) (hr : 0 < r.val) : result V c (ix4 b t r l) = 0 := pay1_rest _ _ _ _ r l hr

end

end Cert.Proof.KernelIdeal

end
-- ==== Proof.RefValue.lean ====
/-
  The array the reference returns, read at an index, from the three arguments.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.Proof.ReferenceIdeal

open Cert.ReferenceIdeal Cert.ReferenceIdeal.Gen Cert.ReferenceIdeal.Read Cert.Proof.Overlap
open Idealize.ShloMosaic Idealize.ShloMosaic.TcCoe

variable (x0 : Vec Ideal S4x5000x2 .f32) (x1 : Vec Ideal S4x5000x11 .f32) (x2 : Vec Ideal S5000x2 .f32)

/-- Box `i` of image `b` as decoded, and its softmax scores. -/
def boxStart (b : Fin 4) (i : Fin 5000) : EReal := startOf (x2 (ix2 i 0)) (x2 (ix2 i 1)) (x0 (ix3 b i 0)) (x0 (ix3 b i 1))
def boxStop (b : Fin 4) (i : Fin 5000) : EReal := stopOf (x2 (ix2 i 0)) (x2 (ix2 i 1)) (x0 (ix3 b i 0)) (x0 (ix3 b i 1))
def score (b : Fin 4) (k : Fin 11) (i : Fin 5000) : EReal := soft (fun j => x1 (ix3 b i j)) k

/-! The boxes. -/

theorem v24_apply (b : Fin 4) (i : Fin 5000) : val_main_v24 (F := Ideal) x0 x2 (ix2 b i) = centre (x2 (ix2 i 0)) (x2 (ix2 i 1)) (x0 (ix3 b i 0)) := by
  unfold val_main_v24 val_main_v23 val_main_v22 val_main_v21 val_main_v20 val_main_v19 val_main_v18 val_main_v17 val_main_v16 val_main_v15 val_main_v14 val_main_v13 val_main_v12 val_main_v11 val_main_cst_2 centre
  pointwise
theorem v34_apply (b : Fin 4) (i : Fin 5000) : val_main_v34 (F := Ideal) x0 x2 (ix2 b i) = width (x2 (ix2 i 1)) (x0 (ix3 b i 1)) := by
  unfold val_main_v34 val_main_v33 val_main_v32 val_main_v31 val_main_v30 val_main_v29 val_main_v28 val_main_v27 val_main_v26 val_main_v25 val_main_cst_3 width
  pointwise
theorem v37_apply (b : Fin 4) (i : Fin 5000) : val_main_v37 (F := Ideal) x0 x2 (ix2 b i) = boxStart x0 x2 b i := by
  unfold boxStart startOf
  rw [← v24_apply, ← v34_apply]
  unfold val_main_v37 val_main_v36 val_main_v35 val_main_cst_4
  generalize val_main_v24 (F := Ideal) x0 x2 = y
  generalize val_main_v34 (F := Ideal) x0 x2 = z
  pointwise
theorem v40_apply (b : Fin 4) (i : Fin 5000) : val_main_v40 (F := Ideal) x0 x2 (ix2 b i) = boxStop x0 x2 b i := by
  unfold boxStop stopOf
  rw [← v24_apply, ← v34_apply]
  unfold val_main_v40 val_main_v39 val_main_v38 val_main_cst_5
  generalize val_main_v24 (F := Ideal) x0 x2 = y
  generalize val_main_v34 (F := Ideal) x0 x2 = z
  pointwise

/-! The scores. -/

theorem v2_apply (b : Fin 4) (i : Fin 5000) : val_main_v2 (F := Ideal) x1 (ix2 b i) = top (fun j => x1 (ix3 b i j)) := by
  unfold val_main_v2 val_main_v1 val_main_v0 val_main_cst val_main_cst_0 top
  pointwise
  rw [bits_bot]
  simp
theorem v6_apply (b : Fin 4) (i : Fin 5000) (k : Fin 11) : val_main_v6 (F := Ideal) x1 (ix3 b i k) = Ideal.exp (x1 (ix3 b i k) - top (fun j => x1 (ix3 b i j))) := by
  rw [← v2_apply]
  unfold val_main_v6 val_main_v5 val_main_v4 val_main_v3
  generalize val_main_v2 (F := Ideal) x1 = y
  pointwise
theorem v10_apply (b : Fin 4) (i : Fin 5000) (k : Fin 11) : val_main_v10 (F := Ideal) x1 (ix3 b i k) = score x1 b k i := by
  have h := v6_apply x1 b i
  revert h
  unfold val_main_v10 val_main_v9 val_main_v8 val_main_v7 val_main_cst_1
  generalize val_main_v6 (F := Ideal) x1 = y
  intro h
  pointwise
  simp only [h]
  rfl
theorem v70_apply (b : Fin 4) (c : Fin 10) (i : Fin 5000) : val_main_v70 (F := Ideal) x1 (ix3 b c i) = score x1 b ⟨1 + c.val, by omega⟩ i := by
  rw [← v10_apply]
  unfold val_main_v70 val_main_v69
  generalize val_main_v10 (F := Ideal) x1 = y
  pointwise

/-! The overlap quotient and the suppression. -/

theorem v53_apply (b : Fin 4) (i j : Fin 5000) : val_main_v53 (F := Ideal) x0 x2 (ix3 b i j)
    = max (min (boxStop x0 x2 b i) (boxStop x0 x2 b j) - max (boxStart x0 x2 b i) (boxStart x0 x2 b j)) 0 := by
  rw [← v37_apply, ← v37_apply, ← v40_apply, ← v40_apply]
  unfold val_main_v53 val_main_v52 val_main_v51 val_main_v50 val_main_v49 val_main_v48 val_main_v47 val_main_v46 val_main_v45 val_main_v44 val_main_v43 val_main_v42 val_main_v41 val_main_cst_6
  generalize val_main_v37 (F := Ideal) x0 x2 = s
  generalize val_main_v40 (F := Ideal) x0 x2 = e
  pointwise

theorem v63_apply (b : Fin 4) (i j : Fin 5000) : val_main_v63 (F := Ideal) x0 x2 (ix3 b i j)
    = Ideal.div (max (min (boxStop x0 x2 b i) (boxStop x0 x2 b j) - max (boxStart x0 x2 b i) (boxStart x0 x2 b j)) 0)
      (max (boxStop x0 x2 b i - boxStart x0 x2 b i + (boxStop x0 x2 b j - boxStart x0 x2 b j)
        - max (min (boxStop x0 x2 b i) (boxStop x0 x2 b j) - max (boxStart x0 x2 b i) (boxStart x0 x2 b j)) 0) (tiny : EReal)) := by
  rw [← v53_apply, ← bits_tiny, ← v37_apply, ← v37_apply, ← v40_apply, ← v40_apply]
  unfold val_main_v63 val_main_v62 val_main_v61 val_main_v60 val_main_v59 val_main_v58 val_main_v57 val_main_v56 val_main_v55 val_main_v54 val_main_cst_7
  generalize val_main_v37 (F := Ideal) x0 x2 = s
  generalize val_main_v40 (F := Ideal) x0 x2 = e
  generalize val_main_v53 (F := Ideal) x0 x2 = w
  pointwise

theorem v85_apply (b : Fin 4) (c : Fin 10) (i j : Fin 5000) : val_main_v85 (F := Ideal) x0 x1 x2 (ix4 b c i j) = 1#1
    ↔ (cls : EReal) < score x1 b ⟨1 + c.val, by omega⟩ j ∧ score x1 b ⟨1 + c.val, by omega⟩ i < score x1 b ⟨1 + c.val, by omega⟩ j ∧ (thr : EReal) < val_main_v63 (F := Ideal) x0 x2 (ix3 b i j) := by
  rw [← v70_apply x1 b c i, ← v70_apply x1 b c j, ← bits_cls, ← bits_thr]
  unfold val_main_v85 val_main_v84 val_main_v83 val_main_v82 val_main_v81 val_main_v80 val_main_v79 val_main_v78 val_main_v77 val_main_v76 val_main_v75 val_main_v74 val_main_v73 val_main_v72 val_main_v71 val_main_cst_10 val_main_cst_11
  generalize val_main_v63 (F := Ideal) x0 x2 = q
  generalize val_main_v70 (F := Ideal) x1 = x
  pointwise
  rw [andi_one, andi_one, ofBool_one, ofBool_one, ofBool_one, decide_eq_true_eq, decide_eq_true_eq, decide_eq_true_eq, and_assoc]

theorem v86_apply (b : Fin 4) (c : Fin 10) (i : Fin 5000) : val_main_v86 (F := Ideal) x0 x1 x2 (ix3 b c i) = 1#1
    ↔ ∃ j : Fin 5000, val_main_v85 (F := Ideal) x0 x1 x2 (ix4 b c i j) = 1#1 := by
  unfold val_main_v86
  generalize val_main_v85 (F := Ideal) x0 x1 x2 = w
  unfold val_main_c
  pointwise
  exact foldor_one _

/-- Whether a box keeps its score of a class. -/
def keeps (b : Fin 4) (c : Fin 10) (i : Fin 5000) : BitVec 1 :=
  IntOp.andi (IntOp.andi (BitVec.ofBool (decide (Ideal.ofBits .f32 0x3C23D70A#32 < score x1 b ⟨1 + c.val, by omega⟩ i))) (noti (val_main_v86 (F := Ideal) x0 x1 x2) (ix3 b c i)))
    (IntOp.andi (BitVec.ofBool (decide (Ideal.ofBits .f32 0xC1200000#32 < boxStart x0 x2 b i))) (BitVec.ofBool (decide (boxStop x0 x2 b i < Ideal.ofBits .f32 0x41200000#32))))

theorem v92_apply (b : Fin 4) (c : Fin 10) (i : Fin 5000) : val_main_v92 (F := Ideal) x0 x1 x2 (ix3 b c i)
    = Scalar.select (keeps x0 x1 x2 b c i) (score x1 b ⟨1 + c.val, by omega⟩ i) 0 := by
  unfold keeps
  rw [← v37_apply, ← v40_apply, ← v70_apply]
  unfold val_main_v92 val_main_v91 val_main_v90 val_main_v89 val_main_v88 val_main_v87 val_main_v72 val_main_v71 val_main_v68 val_main_v67 val_main_v66 val_main_v65 val_main_v64
    val_main_call0_v1 val_main_call0_v0 val_main_cst_12 val_main_cst_10 val_main_cst_9 val_main_cst_8
  generalize val_main_v37 (F := Ideal) x0 x2 = s
  generalize val_main_v40 (F := Ideal) x0 x2 = e
  generalize val_main_v70 (F := Ideal) x1 = x
  generalize val_main_v86 (F := Ideal) x0 x1 x2 = w
  unfold id
  pointwise

theorem v93_le (b : Fin 4) (i : Fin 5000) (x : EReal) : val_main_v93 (F := Ideal) x0 x1 x2 (ix2 b i) ≤ x ↔ ∀ c : Fin 10, val_main_v92 (F := Ideal) x0 x1 x2 (ix3 b c i) ≤ x := by
  unfold val_main_v93 val_main_cst_13
  generalize val_main_v92 (F := Ideal) x0 x1 x2 = w
  pointwise
  rw [bits_bot]
  simp [Finset.fold_max_le]

/-- A box's entry of one class. -/
theorem v92_kept (hok : ∀ b i, Ok (boxStart x0 x2 b i) (boxStop x0 x2 b i))
    (b : Fin 4) (c : Fin 10) (i : Fin 5000) :
    val_main_v92 (F := Ideal) x0 x1 x2 (ix3 b c i) = kept (boxStart x0 x2 b) (boxStop x0 x2 b) (fun j => over (score x1 b ⟨1 + c.val, by omega⟩ j)) i := by
  classical
  have hq : Rng (boxStart x0 x2 b i) (boxStop x0 x2 b i) → ∀ j, (thr : EReal) < val_main_v63 (F := Ideal) x0 x2 (ix3 b i j)
      ↔ hit (boxStart x0 x2 b i) (boxStop x0 x2 b i) (boxStart x0 x2 b j) (boxStop x0 x2 b j) := fun hr j => by
    rw [v63_apply]
    exact iou_iff hr (hok b i)
  have hn : noti (val_main_v86 (F := Ideal) x0 x1 x2) (ix3 b c i) = 1#1 ↔ ¬ val_main_v86 (F := Ideal) x0 x1 x2 (ix3 b c i) = 1#1 := by
    generalize val_main_v86 (F := Ideal) x0 x1 x2 = w
    show ~~~ (w (ix3 b c i) : BitVec 1) = 1#1 ↔ ¬ (w (ix3 b c i) : BitVec 1) = 1#1
    generalize (w (ix3 b c i) : BitVec 1) = y
    revert y; decide
  have key : keeps x0 x1 x2 b c i = 1#1 ↔ ((cls : EReal) < score x1 b ⟨1 + c.val, by omega⟩ i
      ∧ ¬ ∃ j, (cls : EReal) < score x1 b ⟨1 + c.val, by omega⟩ j ∧ score x1 b ⟨1 + c.val, by omega⟩ i < score x1 b ⟨1 + c.val, by omega⟩ j
        ∧ (thr : EReal) < val_main_v63 (F := Ideal) x0 x2 (ix3 b i j)) ∧ Rng (boxStart x0 x2 b i) (boxStop x0 x2 b i) := by
    unfold keeps
    rw [andi_one, andi_one, andi_one, ofBool_one, ofBool_one, ofBool_one, decide_eq_true_eq, decide_eq_true_eq, decide_eq_true_eq, hn, v86_apply, bits_cls]
    unfold Rng
    exact and_congr (and_congr Iff.rfl (not_congr (exists_congr fun j => v85_apply x0 x1 x2 b c i j))) Iff.rfl
  rw [v92_apply, select_one, ← kept_of_none (x := fun j => score x1 b ⟨1 + c.val, by omega⟩ j) hq]
  by_cases h : keeps x0 x1 x2 b c i = 1#1
  · rw [if_pos h, if_pos (key.1 h)]
  · rw [if_neg h, if_neg fun h' => h (key.2 h')]

/-! The returned array. -/

theorem v97_start (b : Fin 4) (i : Fin 5000) : val_main_v97 (F := Ideal) x0 x1 x2 (ix3 b i 0) = boxStart x0 x2 b i := by
  rw [← v37_apply]
  unfold val_main_v97 val_main_v94
  generalize val_main_v37 (F := Ideal) x0 x2 = s
  generalize val_main_v95 (F := Ideal) x0 x2 = y
  generalize val_main_v96 (F := Ideal) x0 x1 x2 = z
  pointwise
theorem v97_stop (b : Fin 4) (i : Fin 5000) : val_main_v97 (F := Ideal) x0 x1 x2 (ix3 b i 1) = boxStop x0 x2 b i := by
  rw [← v40_apply]
  unfold val_main_v97 val_main_v95
  generalize val_main_v40 (F := Ideal) x0 x2 = s
  generalize val_main_v94 (F := Ideal) x0 x2 = y
  generalize val_main_v96 (F := Ideal) x0 x1 x2 = z
  pointwise
theorem v97_best (hok : ∀ b i, Ok (boxStart x0 x2 b i) (boxStop x0 x2 b i))
    (b : Fin 4) (i : Fin 5000) (x : EReal) : val_main_v97 (F := Ideal) x0 x1 x2 (ix3 b i 2) ≤ x
      ↔ ∀ c : Fin 10, kept (boxStart x0 x2 b) (boxStop x0 x2 b) (fun j => over (score x1 b ⟨1 + c.val, by omega⟩ j)) i ≤ x := by
  have h : val_main_v97 (F := Ideal) x0 x1 x2 (ix3 b i 2) = val_main_v93 (F := Ideal) x0 x1 x2 (ix2 b i) := by
    unfold val_main_v97 val_main_v96
    generalize val_main_v93 (F := Ideal) x0 x1 x2 = s
    generalize val_main_v94 (F := Ideal) x0 x2 = y
    generalize val_main_v95 (F := Ideal) x0 x2 = z
    pointwise
  rw [h, v93_le]
  exact forall_congr' fun c => by rw [v92_kept x0 x1 x2 hok]

end Cert.Proof.ReferenceIdeal

end
-- ==== Proof.Pre.lean ====
/-
  What the precondition says of the decoded boxes.
-/
module

public import proofs.«01_k».proof.Proof.Gen.Pre_boxes_ok
public import proofs.«01_k».proof.Proof.Spec
public import Idealize.ShloMosaic.Lib.Pointwise
public import Idealize.ShloMosaic.Lib.ReduceAll

@[expose] public section

set_option maxRecDepth 16384

noncomputable section

namespace Cert.Proof.Pre

open Cert.Pre_boxes_ok Cert.Pre_boxes_ok.Gen Cert.Proof.Overlap
open Idealize.ShloMosaic Idealize.ShloMosaic.TcCoe

variable (x0 : FVec Ideal S4x5000x2 .f32) (x1 : FVec Ideal S4x5000x11 .f32) (x2 : FVec Ideal S5000x2 .f32)

theorem unpack (h : fn (F := Ideal) x0 x1 x2 = fun _ => 1#1) (b : Fin 4) (i : Fin 5000) :
    Ok (startOf (x2 (ix2 i 0)) (x2 (ix2 i 1)) (x0 (ix3 b i 0)) (x0 (ix3 b i 1))) (stopOf (x2 (ix2 i 0)) (x2 (ix2 i 1)) (x0 (ix3 b i 0)) (x0 (ix3 b i 1))) := by
  have h0 := congrFun h ix0
  unfold fn fn_part1 at h0
  dsimp only at h0
  haveI : Subsingleton S_.Idx := ⟨fun a b => funext fun i => i.elim0⟩
  have h := Host.reduce_andi_all _ _ _ _ _ h0 (ix2 b i)
  clear h0
  revert h
  unfold Ok startOf stopOf centre width
  pointwise
  rw [ori_one, ofBool_one, ofBool_one, decide_eq_true_eq, decide_eq_true_eq, bits_tiny]
  exact id

end Cert.Proof.Pre

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_boxes_ok
public import proofs.«01_k».proof.Proof.Gen.ReferenceIdeal.Run
public import proofs.«01_k».proof.Proof.Gen.ReferenceIdeal.Read
public import proofs.«01_k».proof.Proof.K.Run
public import proofs.«01_k».proof.Proof.Run
public import proofs.«01_k».proof.Proof.Host
public import proofs.«01_k».proof.Proof.Value
public import proofs.«01_k».proof.Proof.RefValue
public import proofs.«01_k».proof.Proof.Pre
public import Idealize.ShloMosaic.Lib.Quiescent

@[expose] public section

noncomputable section

namespace Cert.Proof

open Idealize.ShloMosaic Idealize.ShloMosaic.TcCoe Idealize.SL.Sem Cert.Proof.Overlap

/-- The kernel's frame: what its run says of the arguments and the semaphores. -/
theorem frame_k : Cert.quiescent_Kernel := fun m ρ _ =>
  (θ_run Cert.Kernel.defs _ _).mono (fun _ h => ⟨fun c => (h.1 c).2, h.2⟩) (Cert.Proof.Kernel.run m ρ)

/-- The ideal kernel's frame. -/
theorem frame_ki : Cert.quiescent_KernelIdeal := fun m ρ _ =>
  (θ_run Cert.KernelIdeal.defs _ _).mono (fun _ h => ⟨fun c => (h.1 c).2, h.2⟩) (Cert.Proof.KernelIdeal.run m ρ)

/-- The reference's frame: it has no semaphore at all. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is the fraction the table gives it. -/
theorem preserves : Cert.preserves_Kernel_KernelIdeal :=
  IdealRules.named_const.statement Cert.KernelIdeal.κ "ths" .f32 0x3E9EE584#32 ((7549747 / 24326963 : ℝ) : EReal) rfl

section

open Cert.KernelIdeal Cert.KernelIdeal.Gen Cert.Proof.KernelIdeal

variable (m : (ℓ : Loc nD τ sig) → Buf (Elt Ideal) ℓ) (c : Dev nD)

/-- At the row's place the kernel has the same box. -/
theorem place_start (b : Fin 4) (r : Fin 5000) : boxes m c b 0 (at_ m c b r) = ReferenceIdeal.boxStart (X0 m c) (X2 m c) b r := boxes_start m c b r
theorem place_stop (b : Fin 4) (r : Fin 5000) : boxes m c b 1 (at_ m c b r) = ReferenceIdeal.boxStop (X0 m c) (X2 m c) b r := boxes_stop m c b r

/-- The last call's scores are zero or over the least. -/
theorem good : Good (scores m c) := ⟨fun b k p => scores_or m c b k p, fun b k p hk => scores_pad m c b k p hk⟩

/-- A row's kept score of a class is the one of its place. -/
theorem kept_place (b : Fin 4) (k : Fin 10) (r : Fin 5000) :
    kept (boxes m c b 0) (boxes m c b 1) (scores m c b ⟨k.val, by omega⟩) (at_ m c b r)
      = kept (ReferenceIdeal.boxStart (X0 m c) (X2 m c) b) (ReferenceIdeal.boxStop (X0 m c) (X2 m c) b)
          (fun i => over (ReferenceIdeal.score (X1 m c) b ⟨1 + k.val, by omega⟩ i)) r :=
  kept_map (at_ m c b) (fun i => place_start m c b i) (fun i => place_stop m c b i) (fun i => scores_at m c b k i)
    (fun p hn => scores_far m c b _ p fun hp => by
      obtain ⟨i, hi⟩ := at_surj m c b p hp
      exact hn i hi) r

/-- Element by element, the array the kernel leaves is the reference's: the start and the end of each row's box, and the best score it
    keeps over the ten classes. -/
theorem arrays_eq (h : Cert.Pre_boxes_ok.fn (F := Ideal) (X0 m c) (X1 m c) (X2 m c) = fun _ => 1#1) :
    Cert.ReferenceIdeal.Read.val_main_v97 (F := Ideal) (X0 m c) (X1 m c) (X2 m c) = V22 m (outs2 m) c main_v59 := by
  refine funext fun y => ?_
  obtain ⟨b, r, k, rfl⟩ : ∃ (b : Fin 4) (r : Fin 5000) (k : Fin 3), y = ix3 b r k :=
    ⟨y 0, y 1, y 2, by funext i; fin_cases i <;> rfl⟩
  obtain rfl | rfl | rfl : k = 0 ∨ k = 1 ∨ k = 2 := by revert k; decide
  · exact (ReferenceIdeal.v97_start _ _ _ b r).trans ((place_start m c b r).symm.trans (V22_start m c b r).symm)
  · exact (ReferenceIdeal.v97_stop _ _ _ b r).trans ((place_stop m c b r).symm.trans (V22_stop m c b r).symm)
  · refine Eq.trans ?_ (V22_best m c b r).symm
    have hF : Fed (V19 m (outs2 m)) c (boxes m c) (scores m c) := fed (V18 m (outs2 m)) c
    have hl : ∀ x, Cert.ReferenceIdeal.Read.val_main_v97 (F := Ideal) (X0 m c) (X1 m c) (X2 m c) (ix3 b r 2) ≤ x ↔ _ := fun x =>
      ReferenceIdeal.v97_best (X0 m c) (X1 m c) (X2 m c) (fun b i => Pre.unpack _ _ _ h b i) b r x
    have hr : ∀ x, result (V19 m (outs2 m)) c (ix4 b ⟨(at_ m c b r).val / 128, by omega⟩ 0 ⟨(at_ m c b r).val % 128, by omega⟩) ≤ x ↔ _ := fun x =>
      result_row hF (good m c) b ⟨(at_ m c b r).val / 128, by omega⟩ ⟨(at_ m c b r).val % 128, by omega⟩ x
    have hp : (⟨(at_ m c b r).val / 128 * 128 + (at_ m c b r).val % 128, by omega⟩ : Fin 5120) = at_ m c b r :=
      Fin.ext (Nat.div_add_mod' _ _)
    have hk : ∀ x, Cert.ReferenceIdeal.Read.val_main_v97 (F := Ideal) (X0 m c) (X1 m c) (X2 m c) (ix3 b r 2) ≤ x
        ↔ result (V19 m (outs2 m)) c (ix4 b ⟨(at_ m c b r).val / 128, by omega⟩ 0 ⟨(at_ m c b r).val % 128, by omega⟩) ≤ x := fun x => by
      rw [hl, hr]
      refine forall_congr' fun k => ?_
      rw [hp, kept_place]
    exact le_antisymm ((hk _).2 le_rfl) ((hk _).1 le_rfl)

end

theorem algebraic : Cert.algebraic_KernelIdeal_ReferenceIdeal_pre_boxes_ok := by
  intro m ρ m' ρ' hpre hagree
  refine ⟨fun c => Cert.KernelIdeal.Gen.V22 m (Cert.Proof.KernelIdeal.outs2 m) c Cert.KernelIdeal.main_v59, ?_, ?_⟩
  · exact (θ_run Cert.KernelIdeal.defs _ _).mono (fun _ h c => h.1 c) (Cert.Proof.KernelIdeal.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2]
    exact arrays_eq m c (hpre c)

theorem claim : Cert.Claim :=
  ⟨Cert.Kernel.Gen.facts, Cert.KernelIdeal.Gen.facts, Cert.ReferenceIdeal.Gen.facts, Cert.Pre_boxes_ok.Gen.facts,
    frame_k, frame_ki, fun m ρ _ => frame_ki m ρ trivial,
    frame_ri, fun m ρ _ => frame_ri m ρ trivial, preserves, algebraic⟩

end Cert.Proof

end
